-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6))).2.2.2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6))).2.2.2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)) (v5 : (c : Dev Cert.KernelIdeal.nD) → Buf (Elt Ideal) ((c.tc : Thread Cert.KernelIdeal.nD Cert.KernelIdeal.τ).loc Cert.KernelIdeal.main_v20_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_v20_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v48) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v73) = v0 c
          ∧ r.2.mem ((c.tc : Thread Cert.Reference7Ideal.nD Cert.Reference7Ideal.τ).loc Cert.Reference7Ideal.main_v74) = v1 c
          ∧ r.2.mem ((c.tc : Thread Cert.Reference7Ideal.nD Cert.Reference7Ideal.τ).loc Cert.Reference7Ideal.main_v75) = v2 c
          ∧ r.2.mem ((c.tc : Thread Cert.Reference7Ideal.nD Cert.Reference7Ideal.τ).loc Cert.Reference7Ideal.main_v76) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v45) = v0 c
          ∧ r.2.mem ((c.tc : Thread Cert.Reference10Ideal.nD Cert.Reference10Ideal.τ).loc Cert.Reference10Ideal.main_v46) = v1 c
          ∧ r.2.mem ((c.tc : Thread Cert.Reference10Ideal.nD Cert.Reference10Ideal.τ).loc Cert.Reference10Ideal.main_v47) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_v18) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)) (v4 : (c : Dev Cert.Kernel13Ideal.nD) → Buf (Elt Ideal) ((c.tc : Thread Cert.Kernel13Ideal.nD Cert.Kernel13Ideal.τ).loc Cert.Kernel13Ideal.main_v3_4)) (v5 : (c : Dev Cert.Kernel13Ideal.nD) → Buf (Elt Ideal) ((c.tc : Thread Cert.Kernel13Ideal.nD Cert.Kernel13Ideal.τ).loc Cert.Kernel13Ideal.main_v3_5)) (v6 : (c : Dev Cert.Kernel13Ideal.nD) → Buf (Elt Ideal) ((c.tc : Thread Cert.Kernel13Ideal.nD Cert.Kernel13Ideal.τ).loc Cert.Kernel13Ideal.main_v3_6)) (v7 : (c : Dev Cert.Kernel13Ideal.nD) → Buf (Elt Ideal) ((c.tc : Thread Cert.Kernel13Ideal.nD Cert.Kernel13Ideal.τ).loc Cert.Kernel13Ideal.main_v3_7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_v3_4) = v4 c
          ∧ r.2.mem ((c.tc : Thread Cert.Kernel13Ideal.nD Cert.Kernel13Ideal.τ).loc Cert.Kernel13Ideal.main_v3_5) = v5 c
          ∧ r.2.mem ((c.tc : Thread Cert.Kernel13Ideal.nD Cert.Kernel13Ideal.τ).loc Cert.Kernel13Ideal.main_v3_6) = v6 c
          ∧ r.2.mem ((c.tc : Thread Cert.Kernel13Ideal.nD Cert.Kernel13Ideal.τ).loc Cert.Kernel13Ideal.main_v3_7) = v7 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v105) = v0 c
          ∧ r.2.mem ((c.tc : Thread Cert.Reference13Ideal.nD Cert.Reference13Ideal.τ).loc Cert.Reference13Ideal.main_v106) = v1 c
          ∧ r.2.mem ((c.tc : Thread Cert.Reference13Ideal.nD Cert.Reference13Ideal.τ).loc Cert.Reference13Ideal.main_v107) = v2 c
          ∧ r.2.mem ((c.tc : Thread Cert.Reference13Ideal.nD Cert.Reference13Ideal.τ).loc Cert.Reference13Ideal.main_v108) = v3 c
          ∧ r.2.mem ((c.tc : Thread Cert.Reference13Ideal.nD Cert.Reference13Ideal.τ).loc Cert.Reference13Ideal.main_v109) = v4 c
          ∧ r.2.mem ((c.tc : Thread Cert.Reference13Ideal.nD Cert.Reference13Ideal.τ).loc Cert.Reference13Ideal.main_v82) = v5 c
          ∧ r.2.mem ((c.tc : Thread Cert.Reference13Ideal.nD Cert.Reference13Ideal.τ).loc Cert.Reference13Ideal.main_v81) = v6 c
          ∧ r.2.mem ((c.tc : Thread Cert.Reference13Ideal.nD Cert.Reference13Ideal.τ).loc Cert.Reference13Ideal.main_v110) = v7 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite6 : Cert.Pre_finite6.Facts) (hPre_finite7 : Cert.Pre_finite7.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S16384x1024 .f32) (main_arg2 : FVec F S1024 .f32) (main_arg3 : FVec F S1024x5632 .f32) (main_arg4 : FVec F S2816x1024 .f32) : IVec S16384x1024 1 × IVec S16384x1024 1 × IVec S1024 1 × IVec S1024x5632 1 × IVec S2816x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite13.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1024 : S_.BroadcastsInDim S1024x1024 (![] : Fin 0 → Fin S1024x1024.rank)
  bitsLt_bf16_f32 : FTy.bits .bf16 < FTy.bits .f32
  bcast_S_S256x1024 : S_.BroadcastsInDim S256x1024 (![] : Fin 0 → Fin S256x1024.rank)

variable [Facts]

def fn_part1 {F : FTy → Type} [FloatOps F] (main_arg6 : FVec F S1024x1024 .f32) (main_v2 : IVec S16384x1024 1) (main_v5 : IVec S16384x1024 1) (main_v8 : IVec S1024 1) (main_v11 : IVec S1024x1024 1) (main_v15 : IVec S256x1024 1) (main_v17 : FVec F S256x1024 .f32) (main_cst_4 : FVec F S_ .f32) : IVec S16384x1024 1 × IVec S16384x1024 1 × IVec S1024 1 × IVec S1024x1024 1 × IVec S256x1024 1 × IVec S256x1024 1 × IVec S1024x1024 1 :=
  let main_v18 : FVec F S256x1024 .f32 := broadcastInDim S256x1024 ![] bcast_S_S256x1024 main_cst_4
  let main_v19 : IVec S256x1024 1 := cmpf .olt main_v17 main_v18
  let main_v20 : FVec F S1024x1024 .f32 := Host.absf main_arg6
  let main_cst_5 : FVec F S_ .f32 := constant S_ .f32 0x7F800000#32
  let main_v21 : FVec F S1024x1024 .f32 := broadcastInDim S1024x1024 ![] bcast_S_S1024x1024 main_cst_5
  let main_v22 : IVec S1024x1024 1 := cmpf .olt main_v20 main_v21
  (main_v2, main_v5, main_v8, main_v11, main_v15, main_v19, main_v22)

def fn {F : FTy → Type} [FloatOps F] (main_arg0 : FVec F S16384x1024 .f32) (main_arg1 : FVec F S16384x1024 .f32) (main_arg2 : FVec F S1024 .f32) (main_arg3 : FVec F S1024x1024 .f32) (main_arg4 : FVec F S256x1024 .bf16) (main_arg5 : FVec F S256x1024 .bf16) (main_arg6 : FVec F S1024x1024 .f32) : IVec S16384x1024 1 × IVec S16384x1024 1 × IVec S1024 1 × IVec S1024x1024 1 × IVec S256x1024 1 × IVec S256x1024 1 × IVec S1024x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S256x1024 .f32 := (extf .f32 · bitsLt_bf16_f32) main_arg4
  let main_v13 : FVec F S256x1024 .f32 := Host.absf main_v12
  let main_cst_3 : FVec F S_ .f32 := constant S_ .f32 0x7F800000#32
  let main_v14 : FVec F S256x1024 .f32 := broadcastInDim S256x1024 ![] bcast_S_S256x1024 main_cst_3
  let main_v15 : IVec S256x1024 1 := cmpf .olt main_v13 main_v14
  let main_v16 : FVec F S256x1024 .f32 := (extf .f32 · bitsLt_bf16_f32) main_arg5
  let main_v17 : FVec F S256x1024 .f32 := Host.absf main_v16
  let main_cst_4 : FVec F S_ .f32 := constant S_ .f32 0x7F800000#32
  fn_part1 (F := F) main_arg6 main_v2 main_v5 main_v8 main_v11 main_v15 main_v17 main_cst_4
-- ==== Pre_finite6.lean ====
abbrev S16384x1024 : Shape := ⟨2, ![16384, 1024]⟩
abbrev S16384x6144 : Shape := ⟨2, ![16384, 6144]⟩
abbrev S1024 : Shape := ⟨1, ![1024]⟩
abbrev S1024x6144 : Shape := ⟨2, ![1024, 6144]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S16384x6144 : S_.BroadcastsInDim S16384x6144 (![] : Fin 0 → Fin S16384x6144.rank)
  bcast_S_S1024 : S_.BroadcastsInDim S1024 (![] : Fin 0 → Fin S1024.rank)
  bcast_S_S1024x6144 : S_.BroadcastsInDim S1024x6144 (![] : Fin 0 → Fin S1024x6144.rank)

variable [Facts]

def fn {F : FTy → Type} [FloatOps F] (main_arg0 : FVec F S16384x1024 .f32) (main_arg1 : FVec F S16384x6144 .bf16) (main_arg2 : FVec F S16384x1024 .f32) (main_arg3 : FVec F S1024 .f32) (main_arg4 : FVec F S1024x6144 .f32) : IVec S16384x1024 1 × IVec S16384x6144 1 × IVec S16384x1024 1 × IVec S1024 1 × IVec S1024x6144 1 :=
  let main_v0 : FVec F S16384x6144 .f32 := (extf .f32 · bitsLt_bf16_f32) main_arg1
  let main_v1 : FVec F S16384x1024 .f32 := Host.absf main_arg0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x6144 .f32 := Host.absf main_v0
  let main_cst_0 : FVec F S_ .f32 := constant S_ .f32 0x7F800000#32
  let main_v5 : FVec F S16384x6144 .f32 := broadcastInDim S16384x6144 ![] bcast_S_S16384x6144 main_cst_0
  let main_v6 : IVec S16384x6144 1 := cmpf .olt main_v4 main_v5
  let main_v7 : FVec F S16384x1024 .f32 := Host.absf main_arg2
  let main_cst_1 : FVec F S_ .f32 := constant S_ .f32 0x7F800000#32
  let main_v8 : FVec F S16384x1024 .f32 := broadcastInDim S16384x1024 ![] bcast_S_S16384x1024 main_cst_1
  let main_v9 : IVec S16384x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_v13 : FVec F S1024x6144 .f32 := Host.absf main_arg4
  let main_cst_3 : FVec F S_ .f32 := constant S_ .f32 0x7F800000#32
  let main_v14 : FVec F S1024x6144 .f32 := broadcastInDim S1024x6144 ![] bcast_S_S1024x6144 main_cst_3
  let main_v15 : IVec S1024x6144 1 := cmpf .olt main_v13 main_v14
  (main_v3, main_v6, main_v9, main_v12, main_v15)
-- ==== Pre_finite7.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024 .f32) (main_arg2 : FVec F S1024x5632 .f32) (main_arg3 : FVec F S2816x1024 .f32) (main_arg4 : FVec F S1024 .f32) (main_arg5 : FVec F S16384x1024 .f32) : IVec S16384x1024 1 × IVec S1024 1 × IVec S1024x5632 1 × IVec S2816x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S16384x1024 .f32 := Host.absf main_arg5
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Kernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S1024x4x1408 : Shape := ⟨3, ![1024, 4, 1408]⟩
abbrev S4x1024x1408 : Shape := ⟨3, ![4, 1024, 1408]⟩
abbrev S16384x2816 : Shape := ⟨2, ![16384, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 34
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x5632, .bf16⟩
  | .hbm, ⟨23, _⟩ => ⟨S1024x4x1408, .f32⟩
  | .hbm, ⟨24, _⟩ => ⟨S4x1024x1408, .f32⟩
  | .hbm, ⟨25, _⟩ => ⟨S4x1024x1408, .bf16⟩
  | .hbm, ⟨26, _⟩ => ⟨S1x1024, .f32⟩
  | .hbm, ⟨27, _⟩ => ⟨S2816x1024, .bf16⟩
  | .hbm, ⟨28, _⟩ => ⟨S16384x1024, .f32⟩
  | .hbm, ⟨29, _⟩ => ⟨S16384x1024, .bf16⟩
  | .hbm, ⟨30, _⟩ => ⟨S16384x2816, .bf16⟩
  | .hbm, ⟨31, _⟩ => ⟨S16384x5632, .bf16⟩
  | .hbm, ⟨32, _⟩ => ⟨S16384x1024, .bf16⟩
  | .hbm, ⟨33, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S4x1024x1408, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x5632, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .bf16⟩
  | .hbm, ⟨87, _⟩ => ⟨S16384x2816, .bf16⟩
  | .hbm, ⟨88, _⟩ => ⟨S16384x5632, .bf16⟩
  | .hbm, ⟨89, _⟩ => ⟨S16384x1024, .bf16⟩
  | .hbm, ⟨90, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Kernel2.lean ====
abbrev S16384x1024 : Shape := ⟨2, ![16384, 1024]⟩
abbrev S16384x5632 : Shape := ⟨2, ![16384, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S4x1024x1408, .f32⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1024, .f32⟩
  | .hbm, ⟨3, _⟩ => ⟨S16384x5632, .f32⟩
  | .hbm, ⟨4, _⟩ => ⟨S_, .f32⟩
  | .hbm, ⟨5, _⟩ => ⟨S1024x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S1x2816x1024 : Shape := ⟨3, ![1, 2816, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S1x2816x1024, .f32⟩
  | .hbm, ⟨3, _⟩ => ⟨S1x2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S1x2816x1024, .f32⟩
  | .local _ .vmem, ⟨5, _⟩ => ⟨S1x2816x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩
abbrev S2816x1x1024 : Shape := ⟨3, ![2816, 1, 1024]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1x1024, .f32⟩
  | .hbm, ⟨10, _⟩ => ⟨S1x2816x1024, .f32⟩
  | .hbm, ⟨11, _⟩ => ⟨S1x2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S16384x1024 : Shape := ⟨2, ![16384, 1024]⟩
abbrev S16384x6144 : Shape := ⟨2, ![16384, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S4x1024x1536, .f32⟩
  | .hbm, ⟨3, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S16384x1024 : Shape := ⟨2, ![16384, 1024]⟩
abbrev S16384x6144 : Shape := ⟨2, ![16384, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x1024, .f32⟩
  | .hbm, ⟨3, _⟩ => ⟨S16384x6144, .f32⟩
  | .hbm, ⟨4, _⟩ => ⟨S_, .f32⟩
  | .hbm, ⟨5, _⟩ => ⟨S1024x6144, .f32⟩
  | .hbm, ⟨6, _⟩ => ⟨S16384x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S16384x1024 : Shape := ⟨2, ![16384, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1024x1024, .f32⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference5Ideal.lean ====
abbrev S16384x1024 : Shape := ⟨2, ![16384, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | .hbm, ⟨11, _⟩ => ⟨S1x1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S16384x1024 : Shape := ⟨2, ![16384, 1024]⟩
abbrev S16384x6144 : Shape := ⟨2, ![16384, 6144]⟩
abbrev S1024 : Shape := ⟨1, ![1024]⟩
abbrev S1024x6144 : Shape := ⟨2, ![1024, 6144]⟩
abbrev S1x1024 : Shape := ⟨2, ![1, 1024]⟩
abbrev S1024x4x1536 : Shape := ⟨3, ![1024, 4, 1536]⟩
abbrev S4x1024x1536 : Shape := ⟨3, ![4, 1024, 1536]⟩
abbrev S1x6144 : Shape := ⟨2, ![1, 6144]⟩
abbrev S512x6144 : Shape := ⟨2, ![512, 6144]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S1x1024x1536 : Shape := ⟨3, ![1, 1024, 1536]⟩
abbrev S1024x1536 : Shape := ⟨2, ![1024, 1536]⟩
abbrev S1x1536 : Shape := ⟨2, ![1, 1536]⟩
abbrev S1536 : Shape := ⟨1, ![1536]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x6144, .bf16⟩
  | .hbm, ⟨2, _⟩ => ⟨S16384x1024, .f32⟩
  | .hbm, ⟨3, _⟩ => ⟨S1024, .f32⟩
  | .hbm, ⟨4, _⟩ => ⟨S1024x6144, .f32⟩
  | .hbm, ⟨5, _⟩ => ⟨S1x1024, .f32⟩
  | .hbm, ⟨6, _⟩ => ⟨S1024x4x1536, .f32⟩
  | .hbm, ⟨7, _⟩ => ⟨S4x1024x1536, .f32⟩
  | .hbm, ⟨8, _⟩ => ⟨S4x1024x1536, .bf16⟩
  | .hbm, ⟨9, _⟩ => ⟨S16384x1024, .f32⟩
  | .hbm, ⟨10, _⟩ => ⟨S1x1024, .f32⟩
  | .hbm, ⟨11, _⟩ => ⟨S1x6144, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x6144, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S16384x1024 : Shape := ⟨2, ![16384, 1024]⟩
abbrev S16384x6144 : Shape := ⟨2, ![16384, 6144]⟩
abbrev S1024 : Shape := ⟨1, ![1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S6144 : Shape := ⟨1, ![6144]⟩
abbrev S1x6144 : Shape := ⟨2, ![1, 6144]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6144, .bf16⟩
  | .hbm, ⟨2, _⟩ => ⟨S16384x1024, .f32⟩
  | .hbm, ⟨3, _⟩ => ⟨S1024, .f32⟩
  | .hbm, ⟨4, _⟩ => ⟨S1024x6144, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S6144, .f32⟩
  | .hbm, ⟨27, _⟩ => ⟨S16384x6144, .f32⟩
  | .hbm, ⟨28, _⟩ => ⟨S1x6144, .f32⟩
  | .hbm, ⟨29, _⟩ => ⟨S16384x6144, .f32⟩
  | .hbm, ⟨30, _⟩ => ⟨S16384x6144, .f32⟩
  | .hbm, ⟨31, _⟩ => ⟨S16384x6144, .f32⟩
  | .hbm, ⟨32, _⟩ => ⟨S_, .f32⟩
  | .hbm, ⟨33, _⟩ => ⟨S6144, .f32⟩
  | .hbm, ⟨34, _⟩ => ⟨S1x6144, .f32⟩
  | .hbm, ⟨35, _⟩ => ⟨S_, .f32⟩
  | .hbm, ⟨36, _⟩ => ⟨S6144, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S1x6144, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S16384x5632 : Shape := ⟨2, ![16384, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | .hbm, ⟨10, _⟩ => ⟨S2816x1024, .bf16⟩
  | .hbm, ⟨11, _⟩ => ⟨S1x1024, .f32⟩
  | .hbm, ⟨12, _⟩ => ⟨S16384x1024, .f32⟩
  | .hbm, ⟨13, _⟩ => ⟨S16384x5632, .bf16⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x5632, .bf16⟩
  | .local _ .vmem, ⟨11, _⟩ => ⟨S512x5632, .bf16⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S16384, .f32⟩
  | .hbm, ⟨80, _⟩ => ⟨S_, .f32⟩
  | .hbm, ⟨81, _⟩ => ⟨S16384, .f32⟩
  | .hbm, ⟨82, _⟩ => ⟨S16384, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S1024, .f32⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S16384x1024, .f32⟩
  | .hbm, ⟨98, _⟩ => ⟨S16384x1024, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384, .f32⟩
  | .hbm, ⟨105, _⟩ => ⟨S16384x1024, .f32⟩
  | .hbm, ⟨106, _⟩ => ⟨S16384x1024, .f32⟩
  | .hbm, ⟨107, _⟩ => ⟨S16384x1024, .f32⟩
  | .hbm, ⟨108, _⟩ => ⟨S16384x1024, .f32⟩
  | .hbm, ⟨109, _⟩ => ⟨S16384x1024, .f32⟩
  | .hbm, ⟨110, _⟩ => ⟨S16384x5632, .bf16⟩
  | .hbm, ⟨111, _⟩ => ⟨S1x1024, .f32⟩
  | .hbm, ⟨112, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_cst_13 : Ref sig .tc := ⟨.hbm, 76, rfl⟩
abbrev main_cst_14 : Ref sig .tc := ⟨.hbm, 77, rfl⟩
abbrev main_v48 : Ref sig .tc := ⟨.hbm, 78, rfl⟩
abbrev main_v49 : Ref sig .tc := ⟨.hbm, 79, rfl⟩
abbrev main_cst_15 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_16 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_17 : Ref sig .tc := ⟨.hbm, 91, rfl⟩
abbrev main_v59 : Ref sig .tc := ⟨.hbm, 92, rfl⟩
abbrev main_v60 : Ref sig .tc := ⟨.hbm, 93, rfl⟩
abbrev main_cst_18 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_19 : Ref sig .tc := ⟨.hbm, 100, rfl⟩
abbrev main_v66 : Ref sig .tc := ⟨.hbm, 101, rfl⟩
abbrev main_v67 : Ref sig .tc := ⟨.hbm, 102, rfl⟩
abbrev main_cst_20 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S16384x5632 : Shape := ⟨2, ![16384, 5632]⟩
abbrev S16384x2816 : Shape := ⟨2, ![16384, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S16384x5632, .bf16⟩
  | .hbm, ⟨8, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S512x2816, .bf16⟩
  | .local _ .vmem, ⟨7, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16384x1024 : Shape := ⟨2, ![16384, 1024]⟩
abbrev S1024 : Shape := ⟨1, ![1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5632, .f32⟩
  | .hbm, ⟨20, _⟩ => ⟨S16384x5632, .bf16⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel9.lean ====
abbrev S16384x1024 : Shape := ⟨2, ![16384, 1024]⟩
abbrev S16384x2816 : Shape := ⟨2, ![16384, 2816]⟩
abbrev S2816x1024 : Shape := ⟨2, ![2816, 1024]⟩
abbrev S512x1024 : Shape := ⟨2, ![512, 1024]⟩
abbrev S512x2816 : Shape := ⟨2, ![512, 2816]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S2816x1024, .f32⟩
  | .hbm, ⟨3, _⟩ => ⟨S2816x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16384x1024 : Shape := ⟨2, ![16384, 1024]⟩
abbrev S16384x2816 : Shape := ⟨2, ![16384, 2816]⟩
abbrev S2816x1024 : Shape := ⟨2, ![2816, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S2816x1024, .f32⟩
  | .hbm, ⟨3, _⟩ => ⟨S16384x2816, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩
abbrev S1x1024x512 : Shape := ⟨3, ![1, 1024, 512]⟩

abbrev nBuf : Space → Nat
  | .hbm => 13
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S1024, .f32⟩
  | .hbm, ⟨3, _⟩ => ⟨S1024x2048, .f32⟩
  | .hbm, ⟨4, _⟩ => ⟨S256x1024, .f32⟩
  | .hbm, ⟨5, _⟩ => ⟨S256x1024, .f32⟩
  | .hbm, ⟨6, _⟩ => ⟨S1x1024, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S4x1024x512, .f32⟩
  | .hbm, ⟨11, _⟩ => ⟨S4x1024x512, .bf16⟩
  | .hbm, ⟨12, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S4x1024x512, .bf16⟩
  | .local _ .vmem, ⟨4, _⟩ => ⟨S256x1024, .f32⟩
  | .local _ .vmem, ⟨5, _⟩ => ⟨S256x1024, .f32⟩
  | .local _ .vmem, ⟨6, _⟩ => ⟨S4x1024x512, .f32⟩
  | .local _ .vmem, ⟨7, _⟩ => ⟨S4x1024x512, .bf16⟩
  | .local _ .vmem, ⟨8, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference10Ideal.lean ====
abbrev S256x1024 : Shape := ⟨2, ![256, 1024]⟩
abbrev S1024 : Shape := ⟨1, ![1024]⟩
abbrev S1024x2048 : Shape := ⟨2, ![1024, 2048]⟩
abbrev S256x2048 : Shape := ⟨2, ![256, 2048]⟩
abbrev S2048x1024 : Shape := ⟨2, ![2048, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1024x4x512 : Shape := ⟨3, ![1024, 4, 512]⟩
abbrev S4x1024x512 : Shape := ⟨3, ![4, 1024, 512]⟩

abbrev nBuf : Space → Nat
  | .hbm => 63
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S1024, .f32⟩
  | .hbm, ⟨3, _⟩ => ⟨S1024x2048, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x2048, .f32⟩
  | .hbm, ⟨8, _⟩ => ⟨S256x1024, .f32⟩
  | .hbm, ⟨9, _⟩ => ⟨S256x1024, .f32⟩
  | .hbm, ⟨10, _⟩ => ⟨S256x2048, .f32⟩
  | .hbm, ⟨11, _⟩ => ⟨S2048x1024, .f32⟩
  | .hbm, ⟨12, _⟩ => ⟨S1024x2048, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1024, .f32⟩
  | .hbm, ⟨30, _⟩ => ⟨S256x1024, .f32⟩
  | .hbm, ⟨31, _⟩ => ⟨S1x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S1024, .f32⟩
  | .hbm, ⟨42, _⟩ => ⟨S256x1024, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S256x1024, .f32⟩
  | .hbm, ⟨47, _⟩ => ⟨S256x1024, .f32⟩
  | .hbm, ⟨48, _⟩ => ⟨S256x1, .f32⟩
  | .hbm, ⟨49, _⟩ => ⟨S_, .f32⟩
  | .hbm, ⟨50, _⟩ => ⟨S256x1, .f32⟩
  | .hbm, ⟨51, _⟩ => ⟨S256x1, .f32⟩
  | .hbm, ⟨52, _⟩ => ⟨S_, .f32⟩
  | .hbm, ⟨53, _⟩ => ⟨S256, .f32⟩
  | .hbm, ⟨54, _⟩ => ⟨S256x1024, .f32⟩
  | .hbm, ⟨55, _⟩ => ⟨S256x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S1024x4x512, .f32⟩
  | .hbm, ⟨60, _⟩ => ⟨S4x1024x512, .f32⟩
  | .hbm, ⟨61, _⟩ => ⟨S4x1024x512, .bf16⟩
  | .hbm, ⟨62, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel11.lean ====
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x4x512, .f32⟩
  | .hbm, ⟨5, _⟩ => ⟨S4x1024x512, .f32⟩
  | .hbm, ⟨6, _⟩ => ⟨S4x1024x512, .bf16⟩
  | .hbm, ⟨7, _⟩ => ⟨S256x1024, .bf16⟩
  | .hbm, ⟨8, _⟩ => ⟨S256x1024, .bf16⟩
  | .hbm, ⟨9, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S4x1024x512, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference11Ideal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .bf16⟩
  | .hbm, ⟨24, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel12.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 10
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .bf16⟩
  | .hbm, ⟨4, _⟩ => ⟨S256x1024, .bf16⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .bf16⟩
  | .hbm, ⟨4, _⟩ => ⟨S256x1024, .bf16⟩
  | .hbm, ⟨5, _⟩ => ⟨S1024x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S256x1024, .f32⟩
  | .hbm, ⟨24, _⟩ => ⟨S256x1024, .f32⟩
  | .hbm, ⟨25, _⟩ => ⟨S16384x4x256, .f32⟩
  | .hbm, ⟨26, _⟩ => ⟨S256x4x256, .f32⟩
  | .hbm, ⟨27, _⟩ => ⟨S256x4x256, .f32⟩
  | .hbm, ⟨28, _⟩ => ⟨S4x16384x256, .f32⟩
  | .hbm, ⟨29, _⟩ => ⟨S_, .f32⟩
  | .hbm, ⟨30, _⟩ => ⟨S4x16384x256, .f32⟩
  | .hbm, ⟨31, _⟩ => ⟨S4x16384x256, .f32⟩
  | .hbm, ⟨32, _⟩ => ⟨S_, .f32⟩
  | .hbm, ⟨33, _⟩ => ⟨S4x16384, .f32⟩
  | .hbm, ⟨34, _⟩ => ⟨S_, .f32⟩
  | .hbm, ⟨35, _⟩ => ⟨S4x16384, .f32⟩
  | .hbm, ⟨36, _⟩ => ⟨S4x16384, .f32⟩
  | .hbm, ⟨37, _⟩ => ⟨S4x16384x1, .f32⟩
  | .hbm, ⟨38, _⟩ => ⟨S4x16384x256, .f32⟩
  | .hbm, ⟨39, _⟩ => ⟨S4x16384x256, .f32⟩
  | .hbm, ⟨40, _⟩ => ⟨S4x16384x256, .f32⟩
  | .hbm, ⟨41, _⟩ => ⟨S_, .f32⟩
  | .hbm, ⟨42, _⟩ => ⟨S4x16384, .f32⟩
  | .hbm, ⟨43, _⟩ => ⟨S4x16384x1, .f32⟩
  | .hbm, ⟨44, _⟩ => ⟨S4x16384x256, .f32⟩
  | .hbm, ⟨45, _⟩ => ⟨S4x16384x256, .f32⟩
  | .hbm, ⟨46, _⟩ => ⟨S4x256x16384, .f32⟩
  | .hbm, ⟨47, _⟩ => ⟨S16384x4x256, .f32⟩
  | .hbm, ⟨48, _⟩ => ⟨S16384x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel13.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 18
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x1024, .f32⟩
  | .hbm, ⟨4, _⟩ => ⟨S256x1024, .bf16⟩
  | .hbm, ⟨5, _⟩ => ⟨S256x1024, .bf16⟩
  | .hbm, ⟨6, _⟩ => ⟨S1024x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S16384x1024, .f32⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S256x1024, .f32⟩
  | .hbm, ⟨16, _⟩ => ⟨S256x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_v3_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference13Ideal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S4x256x256 : Shape := ⟨3, ![4, 256, 256]⟩

abbrev nBuf : Space → Nat
  | .hbm => 141
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024x1024, .f32⟩
  | 4 => ⟨S256x1024, .bf16⟩
  | 5 => ⟨S256x1024, .bf16⟩
  | 6 => ⟨S1024x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x1024, .f32⟩
  | 28 => ⟨S256x1024, .f32⟩
  | 29 => ⟨S256x1024, .f32⟩
  | 30 => ⟨S16384x4x256, .f32⟩
  | 31 => ⟨S256x4x256, .f32⟩
  | 32 => ⟨S256x4x256, .f32⟩
  | 33 => ⟨S4x16384x256, .f32⟩
  | 34 => ⟨S_, .f32⟩
  | 35 => ⟨S4x16384x256, .f32⟩
  | 36 => ⟨S4x16384x256, .f32⟩
  | 37 => ⟨S_, .f32⟩
  | 38 => ⟨S4x16384, .f32⟩
  | 39 => ⟨S4x16384x1, .f32⟩
  | 40 => ⟨S4x16384x256, .f32⟩
  | 41 => ⟨S4x16384x256, .i1⟩
  | 42 => ⟨S4x16384x256, .f32⟩
  | 43 => ⟨S_, .f32⟩
  | 44 => ⟨S4x16384, .f32⟩
  | 45 => ⟨S_, .f32⟩
  | 46 => ⟨S4x16384, .f32⟩
  | 47 => ⟨S4x16384, .f32⟩
  | 48 => ⟨S_, .f32⟩
  | 49 => ⟨S4x16384, .f32⟩
  | 50 => ⟨S4x16384, .i1⟩
  | 51 => ⟨S_, .f32⟩
  | 52 => ⟨S4x16384, .f32⟩
  | 53 => ⟨S4x16384, .i1⟩
  | 54 => ⟨S_, .f32⟩
  | 55 => ⟨S4x16384, .f32⟩
  | 56 => ⟨S_, .f32⟩
  | 57 => ⟨S4x16384, .f32⟩
  | 58 => ⟨S_, .f32⟩
  | 59 => ⟨S4x16384, .f32⟩
  | 60 => ⟨S4x16384, .f32⟩
  | 61 => ⟨S4x16384, .f32⟩
  | 62 => ⟨S4x16384x1, .f32⟩
  | 63 => ⟨S4x16384x256, .f32⟩
  | 64 => ⟨S4x16384x256, .f32⟩
  | 65 => ⟨S4x16384x256, .f32⟩
  | 66 => ⟨S_, .f32⟩
  | 67 => ⟨S4x16384, .f32⟩
  | 68 => ⟨S4x16384x1, .f32⟩
  | 69 => ⟨S4x16384x256, .f32⟩
  | 70 => ⟨S4x16384x256, .f32⟩
  | 71 => ⟨S4x16384x1, .f32⟩
  | 72 => ⟨S_, .f32⟩
  | 73 => ⟨S4x16384x1, .f32⟩
  | 74 => ⟨S4x16384x1, .f32⟩
  | 75 => ⟨S4x256x16384, .f32⟩
  | 76 => ⟨S16384x4x256, .f32⟩
  | 77 => ⟨S16384x1024, .f32⟩
  | 78 => ⟨S16384x1024, .f32⟩
  | 79 => ⟨S16384x1024, .f32⟩
  | 80 => ⟨S16384x4x256, .f32⟩
  | 81 => ⟨S4x256x16384, .f32⟩
  | 82 => ⟨S4x16384x256, .f32⟩
  | 83 => ⟨S4x256x256, .f32⟩
  | 84 => ⟨S256x4x256, .f32⟩
  | 85 => ⟨S4x16384x256, .f32⟩
  | 86 => ⟨S4x16384x256, .f32⟩
  | 87 => ⟨S4x16384x256, .f32⟩
  | 88 => ⟨S_, .f32⟩
  | 89 => ⟨S4x16384, .f32⟩
  | 90 => ⟨S4x16384x1, .f32⟩
  | 91 => ⟨S4x16384x1, .f32⟩
  | 92 => ⟨S4x16384x256, .f32⟩
  | 93 => ⟨S4x16384x256, .f32⟩
  | 94 => ⟨S_, .f32⟩
  | 95 => ⟨S4x16384, .f32⟩
  | 96 => ⟨S4x16384x256, .f32⟩
  | 97 => ⟨S4x16384x256, .f32⟩
  | 98 => ⟨S4x16384x256, .f32⟩
  | 99 => ⟨S_, .f32⟩
  | 100 => ⟨S4x16384x256, .f32⟩
  | 101 => ⟨S4x16384x256, .f32⟩
  | 102 => ⟨S4x256x256, .f32⟩
  | 103 => ⟨S256x4x256, .f32⟩
  | 104 => ⟨S4x16384x256, .f32⟩
  | 105 => ⟨S16384x4x256, .f32⟩
  | 106 => ⟨S256x1024, .f32⟩
  | 107 => ⟨S256x1024, .f32⟩
  | 108 => ⟨S16384x1024, .f32⟩
  | 109 => ⟨S16384x1024, .f32⟩
  | 110 => ⟨S16384x1024, .f32⟩
  | 111 => ⟨S_, .f32⟩
  | 112 => ⟨S1024, .f32⟩
  | 113 => ⟨S1x1024, .f32⟩
  | 114 => ⟨S16384x1024, .f32⟩
  | 115 => ⟨S16384x1024, .f32⟩
  | 116 => ⟨S_, .f32⟩
  | 117 => ⟨S1024, .f32⟩
  | 118 => ⟨S16384x1024, .f32⟩
  | 119 => ⟨S_, .f32⟩
  | 120 => ⟨S16384, .f32⟩
  | 121 => ⟨S16384x1, .f32⟩
  | 122 => ⟨S16384x1024, .f32⟩
  | 123 => ⟨S16384x1024, .f32⟩
  | 124 => ⟨S16384x1, .f32⟩
  | 125 => ⟨S_, .f32⟩
  | 126 => ⟨S16384x1, .f32⟩
  | 127 => ⟨S16384x1, .f32⟩
  | _ => ⟨S16384x1024, .f32⟩

abbrev hbmTy0_1 (i : Nat) : BufTy := match i % 128 with
  | 0 => ⟨S_, .f32⟩
  | 1 => ⟨S16384, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .bf16⟩
  | 9 => ⟨S16384x1024, .bf16⟩
  | 10 => ⟨S16384x1024, .bf16⟩
  | 11 => ⟨S16384x1024, .bf16⟩
  | 12 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_17 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_cst_19 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_20 : Ref sig .tc := ⟨.hbm, 125, rfl⟩
abbrev main_v97 : Ref sig .tc := ⟨.hbm, 126, rfl⟩
abbrev main_v98 : Ref sig .tc := ⟨.hbm, 127, rfl⟩
abbrev main_cst_21 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩

abbrev nD : Nat := 1
abbrev τ : Topo := Topo.v7x

variable {F : FTy → Type} [FloatOps F]
-- ==== Kernel14.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S200x1024 : Shape := ⟨2, ![200, 1024]⟩

abbrev nBuf : Space → Nat
  | .hbm => 7
  | .vmem => 7
  | .smem => 0
  | _ => 0

abbrev bufTy : (tb : Table) → Fin (tcTables nBuf tb) → BufTy
  | .hbm, ⟨0, _⟩ => ⟨S200x1024, .f32⟩
  | .hbm, ⟨1, _⟩ => ⟨S200x1024, .f32⟩
  | .hbm, ⟨2, _⟩ => ⟨S200x1024, .f32⟩
  | .hbm, ⟨3, _⟩ => ⟨S200x1024, .f32⟩
  | .hbm, ⟨4, _⟩ => ⟨S200x1024, .f32⟩
  | .hbm, ⟨5, _⟩ => ⟨S200x1024, .f32⟩
  | .hbm, ⟨6, _⟩ => ⟨S200x1024, .f32⟩
  | .local _ .vmem, ⟨0, _⟩ => ⟨S200x1024, .f32⟩
  | .local _ .vmem, ⟨1, _⟩ => ⟨S200x1024, .f32⟩
  | .local _ .vmem, ⟨2, _⟩ => ⟨S200x1024, .f32⟩
  | .local _ .vmem, ⟨3, _⟩ => ⟨S200x1024, .f32⟩
  | .local _ .vmem, ⟨4, _⟩ => ⟨S200x1024, .f32⟩
  | .local _ .vmem, ⟨5, _⟩ => ⟨S200x1024, .f32⟩
  | .local _ .vmem, ⟨6, _⟩ => ⟨S200x1024, .f32⟩
  | _, _ => ⟨S200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S200x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S200x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S200x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S200x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S200x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S200x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S200x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S200x1024 : Shape := ⟨2, ![200, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S200x1024, .f32⟩
  | .hbm, ⟨1, _⟩ => ⟨S200x1024, .f32⟩
  | .hbm, ⟨2, _⟩ => ⟨S200x1024, .f32⟩
  | .hbm, ⟨3, _⟩ => ⟨S200x1024, .f32⟩
  | .hbm, ⟨4, _⟩ => ⟨S_, .f32⟩
  | .hbm, ⟨5, _⟩ => ⟨S200x1024, .f32⟩
  | .hbm, ⟨6, _⟩ => ⟨S200x1024, .f32⟩
  | .hbm, ⟨7, _⟩ => ⟨S_, .f32⟩
  | .hbm, ⟨8, _⟩ => ⟨S200x1024, .f32⟩
  | .hbm, ⟨9, _⟩ => ⟨S200x1024, .f32⟩
  | .hbm, ⟨10, _⟩ => ⟨S200x1024, .f32⟩
  | .hbm, ⟨11, _⟩ => ⟨S_, .f32⟩
  | .hbm, ⟨12, _⟩ => ⟨S200x1024, .f32⟩
  | .hbm, ⟨13, _⟩ => ⟨S200x1024, .f32⟩
  | .hbm, ⟨14, _⟩ => ⟨S200x1024, .f32⟩
  | .hbm, ⟨15, _⟩ => ⟨S_, .f32⟩
  | .hbm, ⟨16, _⟩ => ⟨S200x1024, .f32⟩
  | .hbm, ⟨17, _⟩ => ⟨S200x1024, .f32⟩
  | .hbm, ⟨18, _⟩ => ⟨S200x1024, .f32⟩
  | .hbm, ⟨19, _⟩ => ⟨S_, .f32⟩
  | .hbm, ⟨20, _⟩ => ⟨S200x1024, .f32⟩
  | .hbm, ⟨21, _⟩ => ⟨S200x1024, .f32⟩
  | .hbm, ⟨22, _⟩ => ⟨S_, .f32⟩
  | .hbm, ⟨23, _⟩ => ⟨S200x1024, .f32⟩
  | .hbm, ⟨24, _⟩ => ⟨S200x1024, .f32⟩
  | .hbm, ⟨25, _⟩ => ⟨S200x1024, .f32⟩
  | .hbm, ⟨26, _⟩ => ⟨S_, .f32⟩
  | .hbm, ⟨27, _⟩ => ⟨S200x1024, .f32⟩
  | .hbm, ⟨28, _⟩ => ⟨S200x1024, .f32⟩
  | .hbm, ⟨29, _⟩ => ⟨S200x1024, .f32⟩
  | .hbm, ⟨30, _⟩ => ⟨S_, .f32⟩
  | .hbm, ⟨31, _⟩ => ⟨S200x1024, .f32⟩
  | .hbm, ⟨32, _⟩ => ⟨S200x1024, .f32⟩
  | .hbm, ⟨33, _⟩ => ⟨S200x1024, .f32⟩
  | .hbm, ⟨34, _⟩ => ⟨S_, .f32⟩
  | .hbm, ⟨35, _⟩ => ⟨S200x1024, .f32⟩
  | .hbm, ⟨36, _⟩ => ⟨S200x1024, .f32⟩
  | _, _ => ⟨S200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RealVal.lean ====
/-
  Extended reals that are real numbers: closed under the operations both programs use.
-/
module

public import Idealize.ShloMosaic.Lib.Pointwise

@[expose] public section

noncomputable section

namespace RealVal

open Idealize.ShloMosaic

/-- `x` is a real number. -/
def IsR (x : EReal) : Prop := ∃ r : ℝ, x = (r : EReal)

theorem IsR.coe (r : ℝ) : IsR (r : EReal) := ⟨r, rfl⟩
theorem IsR.add {x y : EReal} (hx : IsR x) (hy : IsR y) : IsR (x + y) := by
  obtain ⟨a, rfl⟩ := hx; obtain ⟨b, rfl⟩ := hy; exact ⟨a + b, by push_cast; rfl⟩
theorem IsR.sub {x y : EReal} (hx : IsR x) (hy : IsR y) : IsR (x - y) := by
  obtain ⟨a, rfl⟩ := hx; obtain ⟨b, rfl⟩ := hy; exact ⟨a - b, by push_cast; rfl⟩
theorem IsR.mul {x y : EReal} (hx : IsR x) (hy : IsR y) : IsR (x * y) := by
  obtain ⟨a, rfl⟩ := hx; obtain ⟨b, rfl⟩ := hy; exact ⟨a * b, by push_cast; rfl⟩

/-- A sum of real numbers, as the sum of the reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

/-- A number whose absolute value is below infinity is real. -/
theorem IsR.of_abs_lt {x : EReal} (h : max x (-x) < ⊤) : IsR x := by
  induction x with
  | bot => simp at h
  | coe r => exact ⟨r, rfl⟩
  | top => simp at h

/-- Division by a real that is not zero. -/
theorem div_coe_coe (a b : ℝ) (hb : b ≠ 0) : Ideal.div (a : EReal) (b : EReal) = ((a / b : ℝ) : EReal) := by
  rw [Ideal.div_coe hb, ← EReal.coe_mul, mul_one_div]

/-- The literals 1024, 1, 1/2, −1/2 and the small literal added to a mean square. -/
theorem lit_1024 : Ideal.ofBits .f32 0x44800000#32 = ((1024 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_eps_eq : Ideal.ofBits .f32 0x358637BD#32 = ((8796093 / 8796093022208 : ℝ) : EReal) := by
  simp [Ideal.ofBits, Ideal.ieee, -EReal.coe_mul]; norm_num
theorem lit_eps : ∃ e : ℝ, 0 < e ∧ Ideal.ofBits .f32 0x358637BD#32 = (e : EReal) := ⟨_, by norm_num, lit_eps_eq⟩

/-- The reciprocal root of a positive real. -/
theorem rsqrt_pos {x : ℝ} (hx : 0 < x) : Ideal.rsqrt (x : EReal) = (((Real.sqrt x)⁻¹ : ℝ) : EReal) := by
  rw [Ideal.rsqrt_coe, if_neg (not_lt.2 hx.le), if_neg hx.ne']

end RealVal

end
-- ==== Proof.Finite.lean ====
/-
  What the preconditions say: an array all of whose entries compare below `∞` in absolute value holds real numbers.
-/
module

public import proofs.«01_k».proof.Defs
public import proofs.«01_k».proof.Proof.RealVal

@[expose] public section

noncomputable section

namespace RealVal

open Idealize.ShloMosaic

/-- An array all of whose entries compare below `∞` in absolute value holds real numbers. -/
theorem real_of_cmp {s : Shape} (x : FVec Ideal s .f32) (h : Shape.BroadcastsInDim ⟨0, ![]⟩ s (![] : Fin 0 → Fin s.rank))
    (hx : cmpf .olt (Host.absf x) (broadcastInDim s ![] h (constant (F := Ideal) ⟨0, ![]⟩ .f32 0x7F800000#32)) = fun _ => 1#1) (i : s.Idx) :
    IsR (x i) := by
  have hi := congrFun hx i
  have e : Ideal.ofBits .f32 0x7F800000#32 = ⊤ := by simp [Ideal.ofBits, Ideal.ieee]
  have h1 : BitVec.ofBool (decide (max (x i) (-(x i)) < Ideal.ofBits .f32 0x7F800000#32)) = 1#1 := hi
  rw [e] at h1
  refine IsR.of_abs_lt ?_
  by_contra hc
  rw [decide_eq_false hc] at h1
  exact absurd h1 (by decide)

/-- An index of a matrix is its row and column. -/
theorem eta2 {a b : Nat} (y : (⟨2, ![a, b]⟩ : Shape).Idx) : ∃ (s : Fin a) (d : Fin b), y = ix2 s d :=
  ⟨y 0, y 1, by funext i; fin_cases i <;> rfl⟩

end RealVal

end
-- ==== Proof.FfnSpec.lean ====
/-
  The backward pass of one row of the gated feed-forward block `x + ½ · (silu(g) * u) w_down`, `(g, u) = rms_norm(x) w_gu`,
  in plain words: the functions of a row both programs are compared with.
-/
module

public import Idealize.ShloMosaic.Lib.Pointwise

@[expose] public section

noncomputable section

namespace FfnSpec

open Idealize.ShloMosaic

/-- The literal 1024 of the mean over a row. -/
abbrev dim : EReal := Ideal.ofBits .f32 0x44800000#32
/-- The literal added to the mean square. -/
abbrev eps : EReal := Ideal.ofBits .f32 0x358637BD#32
/-- The literal 1/2 of the residual branch. -/
abbrev half : EReal := Ideal.ofBits .f32 0x3F000000#32
/-- The literal 1. -/
abbrev one : EReal := Ideal.ofBits .f32 0x3F800000#32

/-- The reciprocal root of a row's mean square. -/
def rinv (h : Fin 1024 → EReal) : EReal := Ideal.rsqrt (Ideal.div (∑ d, h d * h d) dim + eps)
/-- The logistic function spelled out. -/
def lgs (g : EReal) : EReal := Ideal.div one (one + Ideal.exp (0 - g))
/-- The derivative of `g * lgs g`. -/
def dsilu (g : EReal) : EReal := lgs g * (one + g * (one - lgs g))

/-- Column `c` of the gate half of the doubled columns. -/
abbrev fl (c : Fin 2816) : Fin 5632 := ⟨c.val, by omega⟩
/-- Column `c` of the other half. -/
abbrev fr (c : Fin 2816) : Fin 5632 := ⟨2816 + c.val, by omega⟩
/-- Column `c` of the first half of the inner columns. -/
abbrev lo (c : Fin 1408) : Fin 2816 := ⟨c.val, by omega⟩
/-- Column `c` of the second half. -/
abbrev hi (c : Fin 1408) : Fin 2816 := ⟨1408 + c.val, by omega⟩

variable (h ct g : Fin 1024 → EReal) (gu : Fin 5632 → EReal) (W : Fin 1024 → Fin 5632 → EReal) (WD : Fin 2816 → Fin 1024 → EReal)

/-- The row normalised and scaled. -/
def norm (d : Fin 1024) : EReal := h d * rinv h * g d
/-- The gate and the value before the activation. -/
def pre (k : Fin 5632) : EReal := ∑ d, norm h g d * W d k
/-- The activation. -/
def act (k : Fin 2816) : EReal := gu (fl k) * lgs (gu (fl k)) * gu (fr k)
/-- The gradient at the block's inner result. -/
def dhalf (d : Fin 1024) : EReal := half * ct d
/-- The gradient at the activation. -/
def dact (k : Fin 2816) : EReal := ∑ d, dhalf ct d * WD k d
/-- The gradient at the gate. -/
def dgate (k : Fin 2816) : EReal := dact ct WD k * gu (fr k) * dsilu (gu (fl k))
/-- The gradient at the gated value. -/
def dval (k : Fin 2816) : EReal := dact ct WD k * (gu (fl k) * lgs (gu (fl k)))
/-- The gradient at the normalised row, as four sums over half the inner columns. -/
def dnorm (d : Fin 1024) : EReal :=
  (((∑ c, dgate ct gu WD (lo c) * W d (fl (lo c))) + ∑ c, dval ct gu WD (lo c) * W d (fr (lo c)))
    + ∑ c, dgate ct gu WD (hi c) * W d (fl (hi c))) + ∑ c, dval ct gu WD (hi c) * W d (fr (hi c))
/-- The gradient at the row, the skip connection's included. -/
def dx (d : Fin 1024) : EReal :=
  ct d + rinv h * (dnorm ct gu W WD d * g d
    - h d * rinv h * Ideal.div (∑ e, dnorm ct gu W WD e * g e * (h e * rinv h)) dim)
/-- The row's contribution to the gradient of the normalisation's scale. -/
def dgain (d : Fin 1024) : EReal := dnorm ct gu W WD d * (h d * rinv h)
/-- The gradient at a row through its normalisation and past it, from the gradient `D` at the normalised row. -/
def rowGrad (D : Fin 1024 → EReal) (d : Fin 1024) : EReal :=
  ct d + rinv h * (D d * g d - h d * rinv h * Ideal.div (∑ e, D e * g e * (h e * rinv h)) dim)

end FfnSpec

end
-- ==== Proof.FfnAlg.lean ====
/-
  The algebra of the feed-forward block's backward pass on one row: on real arguments, the chain rule's spelling and the
  fused spelling agree.
-/
module

public import proofs.«01_k».proof.Proof.FfnSpec
public import proofs.«01_k».proof.Proof.RealVal

@[expose] public section

noncomputable section

namespace FfnSpec

open Idealize.ShloMosaic RealVal

variable (h ct g : Fin 1024 → EReal) (gu : Fin 5632 → EReal) (W : Fin 1024 → Fin 5632 → EReal) (WD : Fin 2816 → Fin 1024 → EReal)

/-- The logistic function's value at a real. -/
theorem lgs_coe (x : ℝ) : lgs (x : EReal) = ((1 / (1 + Real.exp (-x)) : ℝ) : EReal) := by
  have hp : (0 : ℝ) < 1 + Real.exp (-x) := by positivity
  rw [lgs, zero_sub, ← EReal.coe_neg, Ideal.exp_coe, one, lit_one, ← EReal.coe_add, div_coe_coe _ _ hp.ne']

theorem lgs_isR {x : EReal} (hx : IsR x) : IsR (lgs x) := by
  obtain ⟨a, rfl⟩ := hx; exact ⟨_, lgs_coe a⟩

/-- A row's mean square plus the literal is a positive real. -/
theorem ms_pos (hh : ∀ d, IsR (h d)) :
    ∃ x : ℝ, 0 < x ∧ Ideal.div (∑ d, h d * h d) dim + eps = (x : EReal) := by
  choose a ha using hh
  obtain ⟨e, he, hE⟩ := lit_eps
  refine ⟨(∑ d, a d * a d) / 1024 + e, by have : 0 ≤ ∑ d, a d * a d := Finset.sum_nonneg fun d _ => mul_self_nonneg _
                                          positivity, ?_⟩
  have : ∑ d, h d * h d = ((∑ d, a d * a d : ℝ) : EReal) := by
    rw [← coe_sum]; exact Finset.sum_congr rfl fun d _ => by rw [ha d, EReal.coe_mul]
  rw [this, dim, lit_1024, div_coe_coe _ _ (by norm_num), eps, hE, EReal.coe_add]

theorem rinv_isR (hh : ∀ d, IsR (h d)) : IsR (rinv h) := by
  obtain ⟨x, hx, e⟩ := ms_pos h hh
  rw [rinv, e, rsqrt_pos hx]; exact .coe _

theorem pre_isR (hh : ∀ d, IsR (h d)) (hg : ∀ d, IsR (g d)) (hW : ∀ d k, IsR (W d k)) (k : Fin 5632) : IsR (pre h g W k) :=
  .sum _ _ fun d => (((hh d).mul (rinv_isR h hh)).mul (hg d)).mul (hW d k)

theorem dact_isR (hc : ∀ d, IsR (ct d)) (hD : ∀ k d, IsR (WD k d)) (k : Fin 2816) : IsR (dact ct WD k) :=
  .sum _ _ fun d => (IsR.mul ⟨_, lit_half⟩ (hc d)).mul (hD k d)

/-- The gradient at the gate: the chain rule through `g * lgs g`. -/
def dgateR (k : Fin 2816) : EReal :=
  dact ct WD k * gu (fr k) * lgs (gu (fl k)) + gu (fl k) * (dact ct WD k * gu (fr k)) * (lgs (gu (fl k)) * (one - lgs (gu (fl k))))
/-- The gradient at the gated value. -/
def dvalR (k : Fin 2816) : EReal := gu (fl k) * lgs (gu (fl k)) * dact ct WD k

theorem dgateR_eq (hc : ∀ d, IsR (ct d)) (hD : ∀ k d, IsR (WD k d)) (hu : ∀ k, IsR (gu k)) (k : Fin 2816) :
    dgateR ct gu WD k = dgate ct gu WD k := by
  obtain ⟨a, ha⟩ := dact_isR ct WD hc hD k
  obtain ⟨u, hu'⟩ := hu (fr k)
  obtain ⟨x, hx⟩ := hu (fl k)
  obtain ⟨s, hs⟩ := lgs_isR (hu (fl k))
  rw [dgateR, dgate, dsilu, hs, ha, hu', hx, one, lit_one]
  norm_cast
  ring

theorem dvalR_eq (k : Fin 2816) : dvalR ct gu WD k = dval ct gu WD k := mul_comm _ _

theorem dgate_isR (hc : ∀ d, IsR (ct d)) (hD : ∀ k d, IsR (WD k d)) (hu : ∀ k, IsR (gu k)) (k : Fin 2816) : IsR (dgate ct gu WD k) :=
  ((dact_isR ct WD hc hD k).mul (hu _)).mul ((lgs_isR (hu _)).mul (IsR.add ⟨_, lit_one⟩ ((hu _).mul (IsR.sub ⟨_, lit_one⟩ (lgs_isR (hu _))))))
theorem dval_isR (hc : ∀ d, IsR (ct d)) (hD : ∀ k d, IsR (WD k d)) (hu : ∀ k, IsR (gu k)) (k : Fin 2816) : IsR (dval ct gu WD k) :=
  (dact_isR ct WD hc hD k).mul ((hu _).mul (lgs_isR (hu _)))

theorem dnorm_isR (hc : ∀ d, IsR (ct d)) (hW : ∀ d k, IsR (W d k)) (hD : ∀ k d, IsR (WD k d)) (hu : ∀ k, IsR (gu k)) (d : Fin 1024) :
    IsR (dnorm ct gu W WD d) :=
  (((IsR.sum _ _ fun c => (dgate_isR ct gu WD hc hD hu _).mul (hW _ _)).add (.sum _ _ fun c => (dval_isR ct gu WD hc hD hu _).mul (hW _ _))).add
    (.sum _ _ fun c => (dgate_isR ct gu WD hc hD hu _).mul (hW _ _))).add (.sum _ _ fun c => (dval_isR ct gu WD hc hD hu _).mul (hW _ _))

/-- A sum over the doubled columns is the sum over the gate half plus that over the other half. -/
theorem sum_halves (f : Fin 5632 → EReal) : ∑ k, f k = ∑ c : Fin 2816, f (fl c) + ∑ c : Fin 2816, f (fr c) :=
  Fin.sum_univ_add (a := 2816) (b := 2816) f
/-- A sum over the inner columns is the sum over the two halves. -/
theorem sum_lohi (f : Fin 2816 → EReal) : ∑ k, f k = ∑ c : Fin 1408, f (lo c) + ∑ c : Fin 1408, f (hi c) :=
  Fin.sum_univ_add (a := 1408) (b := 1408) f

/-- The gradient at the normalised row is one sum over all the doubled columns. -/
theorem dnorm_eq (P : Fin 5632 → EReal) (hl : ∀ k, P (fl k) = dgate ct gu WD k) (hr : ∀ k, P (fr k) = dval ct gu WD k) (d : Fin 1024) :
    ∑ k, P k * W d k = dnorm ct gu W WD d := by
  rw [sum_halves, sum_lohi, sum_lohi (fun c => P (fr c) * W d (fr c))]
  simp only [hl, hr]
  rw [dnorm]
  abel

/-- The gradient at the row: the normalisation's chain rule through `h * r` and `r = rsqrt (mean h² + eps)`. -/
theorem dx_eq (hh : ∀ d, IsR (h d)) (hc : ∀ d, IsR (ct d)) (hg : ∀ d, IsR (g d)) (D : Fin 1024 → EReal) (hD : ∀ d, IsR (D d)) (d : Fin 1024) :
    ct d + (D d * g d * rinv h
        + h d * Ideal.div ((∑ e, h e * (D e * g e)) * (Ideal.ofBits .f32 0xBF000000#32 * Ideal.div (rinv h) (Ideal.div (∑ d, h d * h d) dim + eps))) dim
        + Ideal.div ((∑ e, h e * (D e * g e)) * (Ideal.ofBits .f32 0xBF000000#32 * Ideal.div (rinv h) (Ideal.div (∑ d, h d * h d) dim + eps))) dim * h d)
      = ct d + rinv h * (D d * g d - h d * rinv h * Ideal.div (∑ e, D e * g e * (h e * rinv h)) dim) := by
  obtain ⟨x, hx, e⟩ := ms_pos h hh
  have hs : 0 < Real.sqrt x := Real.sqrt_pos.2 hx
  rw [rinv, e, rsqrt_pos hx]
  choose a ha using hh
  choose b hb using hg
  choose q hq using hD
  obtain ⟨y, hy⟩ := hc d
  have s1 : ∑ e, h e * (D e * g e) = ((∑ e, a e * (q e * b e) : ℝ) : EReal) := by
    rw [← coe_sum]; exact Finset.sum_congr rfl fun e _ => by rw [ha, hb, hq]; norm_cast
  have s2 : ∑ e, D e * g e * (h e * (((Real.sqrt x)⁻¹ : ℝ) : EReal)) = (((∑ e, a e * (q e * b e)) * (Real.sqrt x)⁻¹ : ℝ) : EReal) := by
    rw [Finset.sum_mul, ← coe_sum]; exact Finset.sum_congr rfl fun e _ => by rw [ha, hb, hq]; norm_cast; ring
  rw [s1, s2, dim, lit_1024, lit_neg_half, div_coe_coe _ _ hx.ne', hy, ha, hb, hq]
  generalize (∑ e, a e * (q e * b e)) = A
  have e1 : ∀ p w : ℝ, Ideal.div ((A : EReal) * ((p : EReal) * (w : EReal))) ((1024 : ℝ) : EReal) = ((A * (p * w) / 1024 : ℝ) : EReal) := fun p w => by
    rw [← div_coe_coe _ _ (by norm_num)]; norm_cast
  rw [e1, div_coe_coe _ _ (by norm_num)]
  norm_cast
  have hxx : x = Real.sqrt x * Real.sqrt x := (Real.mul_self_sqrt hx.le).symm
  generalize Real.sqrt x = z at *
  subst hxx
  field_simp
  ring

end FfnSpec

end
-- ==== Proof.FfnRef.lean ====
/-
  The reference's results read at one index, as functions of a row.
-/
module

public import proofs.«01_k».proof.Proof.Gen.ReferenceIdeal.Read
public import proofs.«01_k».proof.Proof.FfnAlg

@[expose] public section

set_option maxRecDepth 16384

noncomputable section

namespace Cert.ReferenceIdeal.Ffn

open Cert.ReferenceIdeal Cert.ReferenceIdeal.Gen Cert.ReferenceIdeal.Read Idealize.ShloMosaic Idealize.ShloMosaic.TcCoe FfnSpec

variable (x0 x1 : FVec Ideal S16384x1024 .f32) (x2 : FVec Ideal S1024 .f32) (x3 : FVec Ideal S1024x5632 .f32)
  (x4 : FVec Ideal S2816x1024 .f32)

/-- Row `s` of an array of rows; the scale; the two weights. -/
abbrev rw_ (x : FVec Ideal S16384x1024 .f32) (s : Fin 16384) : Fin 1024 → EReal := fun d => x (ix2 s d)
abbrev gr : Fin 1024 → EReal := fun d => x2 (ix1 d)
abbrev wr : Fin 1024 → Fin 5632 → EReal := fun d k => x3 (ix2 d k)
abbrev wdr : Fin 2816 → Fin 1024 → EReal := fun k d => x4 (ix2 k d)
abbrev gur (s : Fin 16384) : Fin 5632 → EReal := pre (rw_ x0 s) (gr x2) (wr x3)

theorem v7_at (s : Fin 16384) : val_main_v7 (F := Ideal) x0 (ix2 s 0) = rinv (rw_ x0 s) := by
  pointwise [val_main_v7, val_main_v6, val_main_v5, val_main_v4, val_main_v3, val_main_v2, val_main_v1, val_main_v0, val_main_cst,
    val_main_cst_0, val_main_cst_1, rinv]

theorem v12_at (s : Fin 16384) (d : Fin 1024) : val_main_v12 (F := Ideal) x0 (ix2 s d) = rw_ x0 s d * rinv (rw_ x0 s) := by
  pointwise [val_main_v12, val_main_v11]
  rw [v7_at]

theorem v15_at (s : Fin 16384) (d : Fin 1024) : val_main_v15 (F := Ideal) x0 x2 (ix2 s d) = norm (rw_ x0 s) (gr x2) d := by
  pointwise [val_main_v15, val_main_v14, val_main_v13]
  rw [v12_at, FfnSpec.norm]

theorem v16_at (s : Fin 16384) (k : Fin 5632) : val_main_v16 (F := Ideal) x0 x2 x3 (ix2 s k) = gur x0 x2 x3 s k := by
  pointwise [val_main_v16]
  simp only [v15_at]
  rfl

theorem v17_at (s : Fin 16384) (k : Fin 2816) : val_main_v17 (F := Ideal) x0 x2 x3 (ix2 s k) = gur x0 x2 x3 s (fl k) := by
  rw [← v16_at]
  pointwise [val_main_v17]

theorem v18_at (s : Fin 16384) (k : Fin 2816) : val_main_v18 (F := Ideal) x0 x2 x3 (ix2 s k) = gur x0 x2 x3 s (fr k) := by
  rw [← v16_at]
  pointwise [val_main_v18]

theorem v19_2_at (s : Fin 16384) (k : Fin 2816) :
    val_main_v19_2 (F := Ideal) x0 x2 x3 (ix2 s k) = lgs (gur x0 x2 x3 s (fl k)) := by
  pointwise [val_main_v19_2, val_main_call0_v4, val_main_call0_v3, val_main_call0_v2, val_main_call0_v1, val_main_call0_v0,
    val_main_call0_cst, val_main_call0_cst_0, lgs]
  rw [v17_at, zero_sub]

theorem v20_at (s : Fin 16384) (k : Fin 2816) :
    val_main_v20 (F := Ideal) x0 x2 x3 (ix2 s k) = act (gur x0 x2 x3 s) k := by
  pointwise [val_main_v20, val_main_v19_0]
  rw [v17_at, v18_at, v19_2_at, act]

theorem v27_at (s : Fin 16384) (d : Fin 1024) : val_main_v27 (F := Ideal) x1 (ix2 s d) = dhalf (rw_ x1 s) d := by
  pointwise [val_main_v27, val_main_v26, val_main_v25, val_main_cst_4, dhalf]

theorem v28_at (s : Fin 16384) (k : Fin 2816) :
    val_main_v28 (F := Ideal) x1 x4 (ix2 s k) = dact (rw_ x1 s) (wdr x4) k := by
  pointwise [val_main_v28]
  simp only [v27_at]
  rfl

theorem v29_at (s : Fin 16384) (k : Fin 2816) :
    val_main_v29 (F := Ideal) x0 x1 x2 x3 x4 (ix2 s k)
      = gur x0 x2 x3 s (fl k) * lgs (gur x0 x2 x3 s (fl k)) * dact (rw_ x1 s) (wdr x4) k := by
  pointwise [val_main_v29, val_main_v19_0]
  rw [v17_at, v19_2_at, v28_at]

/-- The gradient at the gate as the chain rule through `g * lgs g` spells it. -/
theorem v31_at (s : Fin 16384) (k : Fin 2816) :
    val_main_v31 (F := Ideal) x0 x1 x2 x3 x4 (ix2 s k)
      = (dact (rw_ x1 s) (wdr x4) k * gur x0 x2 x3 s (fr k)) * lgs (gur x0 x2 x3 s (fl k))
        + gur x0 x2 x3 s (fl k) * (dact (rw_ x1 s) (wdr x4) k * gur x0 x2 x3 s (fr k))
          * (lgs (gur x0 x2 x3 s (fl k)) * (one - lgs (gur x0 x2 x3 s (fl k)))) := by
  pointwise [val_main_v31, val_main_call1_v2, val_main_call1_v1, val_main_call1_v0, val_main_v30, val_main_v19_1, val_main_call0_v7,
    val_main_call0_v6, val_main_call0_cst_1]
  rw [v17_at, v18_at, v19_2_at, v28_at]

theorem v32_left (s : Fin 16384) (k : Fin 2816) :
    val_main_v32 (F := Ideal) x0 x1 x2 x3 x4 (ix2 s (fl k)) = val_main_v31 (F := Ideal) x0 x1 x2 x3 x4 (ix2 s k) := by
  pointwise [val_main_v32]

theorem v32_right (s : Fin 16384) (k : Fin 2816) :
    val_main_v32 (F := Ideal) x0 x1 x2 x3 x4 (ix2 s (fr k)) = val_main_v29 (F := Ideal) x0 x1 x2 x3 x4 (ix2 s k) := by
  pointwise [val_main_v32]

theorem v33_at (s : Fin 16384) (d : Fin 1024) :
    val_main_v33 (F := Ideal) x0 x1 x2 x3 x4 (ix2 s d) = ∑ k : Fin 5632, val_main_v32 (F := Ideal) x0 x1 x2 x3 x4 (ix2 s k) * x3 (ix2 d k) := by
  pointwise [val_main_v33]

theorem v59_at (d : Fin 1024) :
    val_main_v59 (F := Ideal) x0 x1 x2 x3 x4 (ix2 0 d)
      = ∑ s : Fin 16384, rw_ x0 s d * rinv (rw_ x0 s) * val_main_v33 (F := Ideal) x0 x1 x2 x3 x4 (ix2 s d) := by
  pointwise [val_main_v59, val_main_v39, val_main_v36, val_main_v35, val_main_v34, val_main_cst_5, val_main_cst_6]
  simp only [v12_at]
  rw [Fin.sum_univ_one]

theorem v6_at (s : Fin 16384) :
    val_main_v6 (F := Ideal) x0 (ix2 s 0) = Ideal.div (∑ d, rw_ x0 s d * rw_ x0 s d) dim + eps := by
  pointwise [val_main_v6, val_main_v5, val_main_v4, val_main_v3, val_main_v2, val_main_v1, val_main_v0, val_main_cst,
    val_main_cst_0, val_main_cst_1]

theorem v54_at (s : Fin 16384) (d : Fin 1024) :
    val_main_v54 (F := Ideal) x0 x1 x2 x3 x4 (ix2 s d)
      = x1 (ix2 s d) + (val_main_v33 (F := Ideal) x0 x1 x2 x3 x4 (ix2 s d) * x2 (ix1 d) * rinv (rw_ x0 s)
        + x0 (ix2 s d) * Ideal.div ((∑ e, x0 (ix2 s e) * (val_main_v33 (F := Ideal) x0 x1 x2 x3 x4 (ix2 s e) * x2 (ix1 e)))
            * (Ideal.ofBits .f32 0xBF000000#32 * Ideal.div (rinv (rw_ x0 s)) (Ideal.div (∑ d, rw_ x0 s d * rw_ x0 s d) dim + eps))) dim
        + Ideal.div ((∑ e, x0 (ix2 s e) * (val_main_v33 (F := Ideal) x0 x1 x2 x3 x4 (ix2 s e) * x2 (ix1 e)))
            * (Ideal.ofBits .f32 0xBF000000#32 * Ideal.div (rinv (rw_ x0 s)) (Ideal.div (∑ d, rw_ x0 s d * rw_ x0 s d) dim + eps))) dim
          * x0 (ix2 s d)) := by
  pointwise [val_main_v54, val_main_v53, val_main_v52, val_main_v51, val_main_v50, val_main_v49, val_main_v48, val_main_v47,
    val_main_v46, val_main_v45, val_main_v44, val_main_v43, val_main_v42, val_main_v41, val_main_v40, val_main_v38, val_main_v37,
    val_main_v10, val_main_v9, val_main_v8, val_main_v13, val_main_cst_2, val_main_cst_7, val_main_cst_8, val_main_cst_9]
  rw [Fin.sum_univ_one, v7_at, v6_at]

/-! ### The results, on real arguments -/

section Real

open RealVal

variable (h0 : ∀ i, IsR (x0 i)) (h1 : ∀ i, IsR (x1 i)) (h2 : ∀ i, IsR (x2 i)) (h3 : ∀ i, IsR (x3 i)) (h4 : ∀ i, IsR (x4 i))
include h0 h1 h2 h3 h4

theorem v32_left_eq (s : Fin 16384) (k : Fin 2816) :
    val_main_v32 (F := Ideal) x0 x1 x2 x3 x4 (ix2 s (fl k)) = dgate (rw_ x1 s) (gur x0 x2 x3 s) (wdr x4) k := by
  rw [v32_left, v31_at]
  exact dgateR_eq (rw_ x1 s) _ (wdr x4) (fun _ => h1 _) (fun _ _ => h4 _)
    (pre_isR _ _ _ (fun _ => h0 _) (fun _ => h2 _) fun _ _ => h3 _) k

omit h0 h1 h2 h3 h4 in
theorem v32_right_eq (s : Fin 16384) (k : Fin 2816) :
    val_main_v32 (F := Ideal) x0 x1 x2 x3 x4 (ix2 s (fr k)) = dval (rw_ x1 s) (gur x0 x2 x3 s) (wdr x4) k := by
  rw [v32_right, v29_at]
  exact dvalR_eq (rw_ x1 s) _ (wdr x4) k

theorem v33_eq (s : Fin 16384) (d : Fin 1024) :
    val_main_v33 (F := Ideal) x0 x1 x2 x3 x4 (ix2 s d) = dnorm (rw_ x1 s) (gur x0 x2 x3 s) (wr x3) (wdr x4) d := by
  rw [v33_at]
  exact dnorm_eq (rw_ x1 s) (gur x0 x2 x3 s) (wr x3) (wdr x4) (fun k => val_main_v32 (F := Ideal) x0 x1 x2 x3 x4 (ix2 s k))
    (v32_left_eq x0 x1 x2 x3 x4 h0 h1 h2 h3 h4 s) (v32_right_eq x0 x1 x2 x3 x4 s) d

theorem v54_eq_dx (s : Fin 16384) (d : Fin 1024) :
    val_main_v54 (F := Ideal) x0 x1 x2 x3 x4 (ix2 s d)
      = dx (rw_ x0 s) (rw_ x1 s) (gr x2) (gur x0 x2 x3 s) (wr x3) (wdr x4) d := by
  rw [v54_at]
  simp only [v33_eq x0 x1 x2 x3 x4 h0 h1 h2 h3 h4]
  exact dx_eq (rw_ x0 s) (rw_ x1 s) (gr x2) (fun _ => h0 _) (fun _ => h1 _) (fun _ => h2 _)
    (dnorm (rw_ x1 s) (gur x0 x2 x3 s) (wr x3) (wdr x4))
    (dnorm_isR _ _ _ _ (fun _ => h1 _) (fun _ _ => h3 _) (fun _ _ => h4 _) (pre_isR _ _ _ (fun _ => h0 _) (fun _ => h2 _) fun _ _ => h3 _)) d

theorem v59_eq_dgain (d : Fin 1024) :
    val_main_v59 (F := Ideal) x0 x1 x2 x3 x4 (ix2 0 d)
      = ∑ s : Fin 16384, dgain (rw_ x0 s) (rw_ x1 s) (gur x0 x2 x3 s) (wr x3) (wdr x4) d := by
  rw [v59_at]
  refine Finset.sum_congr rfl fun s _ => ?_
  rw [v33_eq x0 x1 x2 x3 x4 h0 h1 h2 h3 h4, dgain, mul_comm]

end Real

end Cert.ReferenceIdeal.Ffn

end
-- ==== Proof.FfnPay.lean ====
/-
  The gated feed-forward block's backward call, read at one index: what each value of the body is, as extended reals.
-/
module

public import proofs.«01_k».proof.Proof.Gen.KernelIdeal.Skeleton
public import proofs.«01_k».proof.Proof.FfnSpec

@[expose] public section

noncomputable section

namespace Cert.KernelIdeal.Ffn

open Cert.KernelIdeal Cert.KernelIdeal.Gen Idealize.ShloMosaic FfnSpec

theorem pay6_apply (v3 : FVec Ideal S256x1024 .f32) (s : Fin 256) :
    k0_pay6 (F := Ideal) v3 (ix2 s 0) = rinv fun d => v3 (ix2 s d) := by
  pointwise [k0_pay6, rinv]

theorem pay7_apply (v3 : FVec Ideal S256x1024 .f32) (s : Fin 256) (d : Fin 1024) :
    k0_pay7 (F := Ideal) v3 (ix2 s d) = v3 (ix2 s d) * rinv fun d => v3 (ix2 s d) := by
  pointwise [k0_pay7]
  rw [pay6_apply]

theorem pay8_apply (v3 : FVec Ideal S256x1024 .f32) (v5 : FVec Ideal S1x1024 .f32) (s : Fin 256) (d : Fin 1024) :
    k0_pay8 (F := Ideal) v3 v5 (ix2 s d) = v3 (ix2 s d) * (rinv fun d => v3 (ix2 s d)) * v5 (ix2 0 d) := by
  pointwise [k0_pay8, k0_pay5]
  rw [pay7_apply]

theorem pay9_apply (v4 : FVec Ideal S256x1024 .f32) (s : Fin 256) (d : Fin 1024) :
    k0_pay9 (F := Ideal) v4 (ix2 s d) = half * v4 (ix2 s d) := by
  pointwise [k0_pay9]

theorem pay14_apply (v26 : FVec Ideal S256x1408 .bf16) (s : Fin 256) (c : Fin 1408) :
    k0_pay14 (F := Ideal) (k0_pay13 v26) (ix2 s c) = lgs (v26 (ix2 s c)) := by
  pointwise [k0_pay14, k0_pay13, k0_pay11, lgs]

theorem pay23_apply (v26 : FVec Ideal S256x1408 .bf16) (s : Fin 256) (c : Fin 1408) :
    k0_pay23 (F := Ideal) v26 (ix2 s c) = lgs (v26 (ix2 s c)) := by
  pointwise [k0_pay23, k0_pay21, lgs]

theorem pay16_apply (v26 v29 : FVec Ideal S256x1408 .bf16) (s : Fin 256) (c : Fin 1408) :
    k0_pay16 (F := Ideal) (k0_pay11 v26) (k0_pay12 v29) (k0_pay13 v26) (ix2 s c)
      = v26 (ix2 s c) * lgs (v26 (ix2 s c)) * v29 (ix2 s c) := by
  pointwise [k0_pay16, k0_pay15, k0_pay11, k0_pay12]
  rw [pay14_apply]

theorem pay25_apply (v67 v70 : FVec Ideal S256x1408 .bf16) (s : Fin 256) (c : Fin 1408) :
    k0_pay25 (F := Ideal) v67 v70 (ix2 s c) = v67 (ix2 s c) * lgs (v67 (ix2 s c)) * v70 (ix2 s c) := by
  pointwise [k0_pay25, k0_pay24, k0_pay21, k0_pay22]
  rw [pay23_apply]

theorem pay17_apply (v23 : FVec Ideal S256x1024 .bf16) (v43 : FVec Ideal S1408x1024 .bf16) (s : Fin 256) (c : Fin 1408) :
    k0_pay17 (F := Ideal) v23 v43 (ix2 s c) = ∑ d : Fin 1024, v23 (ix2 s d) * v43 (ix2 c d) := by
  pointwise [k0_pay17]

theorem pay26_apply (v23 : FVec Ideal S256x1024 .bf16) (v43 : FVec Ideal S1408x1024 .bf16) (s : Fin 256) (c : Fin 1408) :
    k0_pay26 (F := Ideal) v23 v43 (ix2 s c) = ∑ d : Fin 1024, v23 (ix2 s d) * v43 (ix2 c d) := by
  pointwise [k0_pay26]

theorem pay18_apply (v23 : FVec Ideal S256x1024 .bf16) (v26 v29 : FVec Ideal S256x1408 .bf16) (v43 : FVec Ideal S1408x1024 .bf16)
    (s : Fin 256) (c : Fin 1408) :
    k0_pay18 (F := Ideal) v23 (k0_pay11 v26) (k0_pay12 v29) (k0_pay13 v26) v43 (ix2 s c)
      = (∑ d : Fin 1024, v23 (ix2 s d) * v43 (ix2 c d)) * v29 (ix2 s c) * dsilu (v26 (ix2 s c)) := by
  pointwise [k0_pay18, k0_pay11, k0_pay12, dsilu]
  rw [pay14_apply, pay17_apply]

theorem pay27_apply (v23 : FVec Ideal S256x1024 .bf16) (v67 v70 : FVec Ideal S256x1408 .bf16) (v84 : FVec Ideal S1408x1024 .bf16)
    (s : Fin 256) (c : Fin 1408) :
    k0_pay27 (F := Ideal) v23 v67 v70 v84 (ix2 s c)
      = (∑ d : Fin 1024, v23 (ix2 s d) * v84 (ix2 c d)) * v70 (ix2 s c) * dsilu (v67 (ix2 s c)) := by
  pointwise [k0_pay27, k0_pay21, k0_pay22, dsilu]
  rw [pay23_apply, pay26_apply]

theorem pay19_apply (v23 : FVec Ideal S256x1024 .bf16) (v26 : FVec Ideal S256x1408 .bf16) (v43 : FVec Ideal S1408x1024 .bf16)
    (s : Fin 256) (c : Fin 1408) :
    k0_pay19 (F := Ideal) v23 (k0_pay11 v26) (k0_pay13 v26) v43 (ix2 s c)
      = (∑ d : Fin 1024, v23 (ix2 s d) * v43 (ix2 c d)) * (v26 (ix2 s c) * lgs (v26 (ix2 s c))) := by
  pointwise [k0_pay19, k0_pay15, k0_pay11]
  rw [pay14_apply, pay17_apply]

theorem pay28_apply (v23 : FVec Ideal S256x1024 .bf16) (v67 : FVec Ideal S256x1408 .bf16) (v84 : FVec Ideal S1408x1024 .bf16)
    (s : Fin 256) (c : Fin 1408) :
    k0_pay28 (F := Ideal) v23 v67 v84 (ix2 s c)
      = (∑ d : Fin 1024, v23 (ix2 s d) * v84 (ix2 c d)) * (v67 (ix2 s c) * lgs (v67 (ix2 s c))) := by
  pointwise [k0_pay28, k0_pay24, k0_pay21]
  rw [pay23_apply, pay26_apply]

/-- One half's two products into the running gradient of the normalised row: the first half. -/
theorem pay20_apply (v23 : FVec Ideal S256x1024 .bf16) (v28 v31 v33 : FVec Ideal S256x1408 .f32) (v43 : FVec Ideal S1408x1024 .bf16)
    (v59 v63 : FVec Ideal S1x1024x1408 .bf16) (s : Fin 256) (d : Fin 1024) :
    k0_pay20 (F := Ideal) v23 k0_pay10 v28 v31 v33 v43 v59 v63 (ix2 s d)
      = (∑ c : Fin 1408, k0_pay18 v23 v28 v31 v33 v43 (ix2 s c) * v59 (ix3 0 d c))
        + ∑ c : Fin 1408, k0_pay19 v23 v28 v33 v43 (ix2 s c) * v63 (ix3 0 d c) := by
  pointwise [k0_pay20, k0_pay10]

/-- The same with the second half's two products. -/
theorem pay1_apply (v97 : FVec Ideal S256x1408 .bf16) (v103 : FVec Ideal S256x1024 .f32) (v104 : FVec Ideal S1x1024x1408 .bf16)
    (s : Fin 256) (d : Fin 1024) :
    k0_pay1 (F := Ideal) v97 v103 v104 (ix2 s d) = v103 (ix2 s d) + ∑ c : Fin 1408, v97 (ix2 s c) * v104 (ix3 0 d c) := by
  pointwise [k0_pay1]

theorem pay29_apply (v23 : FVec Ideal S256x1024 .bf16) (v66 : FVec Ideal S256x1024 .f32) (v67 v70 : FVec Ideal S256x1408 .bf16)
    (v84 : FVec Ideal S1408x1024 .bf16) (v100 : FVec Ideal S1x1024x1408 .bf16) (s : Fin 256) (d : Fin 1024) :
    k0_pay29 (F := Ideal) v23 v66 v67 v70 v84 v100 (ix2 s d)
      = v66 (ix2 s d) + ∑ c : Fin 1408, k0_pay27 v23 v67 v70 v84 (ix2 s c) * v100 (ix3 0 d c) := by
  pointwise [k0_pay29]

theorem pay2_apply (v16 : FVec Ideal S256x1024 .f32) (v97 : FVec Ideal S256x1408 .bf16) (v103 : FVec Ideal S256x1024 .f32)
    (v104 : FVec Ideal S1x1024x1408 .bf16) (v108 : FVec Ideal S1x1024 .f32) (d : Fin 1024) :
    k0_pay2 (F := Ideal) v16 v97 v103 v104 v108 (ix2 0 d)
      = v108 (ix2 0 d) + ∑ s : Fin 256, k0_pay1 v97 v103 v104 (ix2 s d) * v16 (ix2 s d) := by
  pointwise [k0_pay2]

theorem pay3_apply (v4 : FVec Ideal S256x1024 .f32) (v6 : FVec Ideal S1x1024 .f32) (v14 : FVec Ideal S256x1 .f32)
    (v16 : FVec Ideal S256x1024 .f32) (v97 : FVec Ideal S256x1408 .bf16) (v103 : FVec Ideal S256x1024 .f32)
    (v104 : FVec Ideal S1x1024x1408 .bf16) (s : Fin 256) (d : Fin 1024) :
    k0_pay3 (F := Ideal) v4 v6 v14 v16 v97 v103 v104 (ix2 s d)
      = v4 (ix2 s d) + v14 (ix2 s 0) * (k0_pay1 v97 v103 v104 (ix2 s d) * v6 (ix2 0 d)
          - v16 (ix2 s d) * Ideal.div (∑ e : Fin 1024, k0_pay1 v97 v103 v104 (ix2 s e) * v6 (ix2 0 e) * v16 (ix2 s e)) dim) := by
  pointwise [k0_pay3]

/-- The two readings above with the gradient of the normalised row named. -/
theorem pay2_row (v16 : FVec Ideal S256x1024 .f32) (v97 : FVec Ideal S256x1408 .bf16) (v103 : FVec Ideal S256x1024 .f32)
    (v104 : FVec Ideal S1x1024x1408 .bf16) (v108 : FVec Ideal S1x1024 .f32) (D : Fin 256 → Fin 1024 → EReal)
    (hD : ∀ s d, k0_pay1 (F := Ideal) v97 v103 v104 (ix2 s d) = D s d) (d : Fin 1024) :
    k0_pay2 (F := Ideal) v16 v97 v103 v104 v108 (ix2 0 d) = v108 (ix2 0 d) + ∑ s : Fin 256, D s d * v16 (ix2 s d) := by
  rw [pay2_apply]
  simp only [hD]

theorem pay3_row (v3 v4 : FVec Ideal S256x1024 .f32) (v6 : FVec Ideal S1x1024 .f32) (v97 : FVec Ideal S256x1408 .bf16) (v103 : FVec Ideal S256x1024 .f32)
    (v104 : FVec Ideal S1x1024x1408 .bf16) (s : Fin 256) (D : Fin 1024 → EReal)
    (hD : ∀ d, k0_pay1 (F := Ideal) v97 v103 v104 (ix2 s d) = D d) (d : Fin 1024) :
    k0_pay3 (F := Ideal) v4 (k0_pay5 v6) (k0_pay6 v3) (k0_pay7 v3) v97 v103 v104 (ix2 s d)
      = v4 (ix2 s d) + rinv (fun d => v3 (ix2 s d)) * (D d * v6 (ix2 0 d)
          - v3 (ix2 s d) * rinv (fun d => v3 (ix2 s d))
            * Ideal.div (∑ e : Fin 1024, D e * v6 (ix2 0 e) * (v3 (ix2 s e) * rinv fun d => v3 (ix2 s d))) dim) := by
  rw [pay3_apply, pay6_apply]
  have h5 : ∀ e, k0_pay5 (F := Ideal) v6 (ix2 0 e) = v6 (ix2 0 e) := fun e => by pointwise [k0_pay5]
  simp only [hD, pay7_apply, h5]

end Cert.KernelIdeal.Ffn

end
-- ==== Proof.FfnPoint.lean ====
/-
  The feed-forward block's backward call at one grid point: what each block of 256 rows written back holds, row by row.
-/
module

public import proofs.«01_k».proof.Proof.Gen.KernelIdeal.Value
public import proofs.«01_k».proof.Proof.FfnPay
public import Idealize.ShloMosaic.Lib.Pipeline.ValueKit

@[expose] public section

set_option maxRecDepth 16384

noncomputable section

namespace Cert.KernelIdeal.Ffn

open Cert.KernelIdeal Cert.KernelIdeal.Gen Idealize.ShloMosaic Idealize.ShloMosaic.TcCoe Idealize.SL.Sem FfnSpec
open Idealize.ShloMosaic.Pipeline (Dat)

variable (m : (ℓ : Loc nD τ sig) → Buf (Elt Ideal) ℓ)

/-- A row of a block of `h`, and of the other staged blocks. -/
abbrev hB (c : Dev nD) (t : Fin cfg0.N) (s : Fin 256) : Fin 1024 → EReal := fun d => iblk m c 0 t (ix2 s d)
abbrev guB (c : Dev nD) (t : Fin cfg0.N) (s : Fin 256) : Fin 5632 → EReal := fun k => iblk m c 1 t (ix2 s k)
abbrev ctB (c : Dev nD) (t : Fin cfg0.N) (s : Fin 256) : Fin 1024 → EReal := fun d => iblk m c 2 t (ix2 s d)
abbrev gB (c : Dev nD) (t : Fin cfg0.N) : Fin 1024 → EReal := fun d => iblk m c 3 t (ix2 0 d)
abbrev wdB (c : Dev nD) (t : Fin cfg0.N) : Fin 2816 → Fin 1024 → EReal := fun k d => iblk m c 5 t (ix2 k d)
/-- The up-projection's weight, of whose columns slab `j` of the staged block holds the `j`-th quarter. -/
abbrev wB (c : Dev nD) (t : Fin cfg0.N) : Fin 1024 → Fin 5632 → EReal := fun d k =>
  iblk m c 4 t (ix3 ⟨k.val / 1408, by omega⟩ d ⟨k.val % 1408, by omega⟩)

theorem gu_ld0 (c : Dev nD) (t : Fin cfg0.N) (s : Fin 256) (k : Fin 1408) :
    View.ld (iblk m c 1 t) (Rect.unit ![0, 0] ![256, 1408] inb_S256x5632_S256x1408_0_0) (ix2 s k) = guB m c t s (fl (lo k)) :=
  View.ld_unit_apply_of _ _ _ _ _ _ fun a => by fin_cases a <;> simp [ix2]
theorem gu_ld1 (c : Dev nD) (t : Fin cfg0.N) (s : Fin 256) (k : Fin 1408) :
    View.ld (iblk m c 1 t) (Rect.unit ![0, 1408] ![256, 1408] inb_S256x5632_S256x1408_0_1408) (ix2 s k) = guB m c t s (fl (hi k)) :=
  View.ld_unit_apply_of _ _ _ _ _ _ fun a => by fin_cases a <;> simp [ix2]
theorem gu_ld2 (c : Dev nD) (t : Fin cfg0.N) (s : Fin 256) (k : Fin 1408) :
    View.ld (iblk m c 1 t) (Rect.unit ![0, 2816] ![256, 1408] inb_S256x5632_S256x1408_0_2816) (ix2 s k) = guB m c t s (fr (lo k)) :=
  View.ld_unit_apply_of _ _ _ _ _ _ fun a => by fin_cases a <;> simp [ix2]
theorem gu_ld3 (c : Dev nD) (t : Fin cfg0.N) (s : Fin 256) (k : Fin 1408) :
    View.ld (iblk m c 1 t) (Rect.unit ![0, 4224] ![256, 1408] inb_S256x5632_S256x1408_0_4224) (ix2 s k) = guB m c t s (fr (hi k)) :=
  View.ld_unit_apply_of _ _ _ _ _ _ fun a => by fin_cases a <;> simp [ix2]; omega
theorem wd_ld0 (c : Dev nD) (t : Fin cfg0.N) (k : Fin 1408) (d : Fin 1024) :
    View.ld (iblk m c 5 t) (Rect.unit ![0, 0] ![1408, 1024] inb_S2816x1024_S1408x1024_0_0) (ix2 k d) = wdB m c t (lo k) d :=
  View.ld_unit_apply_of _ _ _ _ _ _ fun a => by fin_cases a <;> simp [ix2]
theorem wd_ld1 (c : Dev nD) (t : Fin cfg0.N) (k : Fin 1408) (d : Fin 1024) :
    View.ld (iblk m c 5 t) (Rect.unit ![1408, 0] ![1408, 1024] inb_S2816x1024_S1408x1024_1408_0) (ix2 k d) = wdB m c t (hi k) d :=
  View.ld_unit_apply_of _ _ _ _ _ _ fun a => by fin_cases a <;> simp [ix2]
theorem w_ld0 (c : Dev nD) (t : Fin cfg0.N) (d : Fin 1024) (k : Fin 1408) :
    View.ld (iblk m c 4 t) (Rect.unit ![0, 0, 0] ![1, 1024, 1408] inb_S4x1024x1408_S1x1024x1408_0_0_0) (ix3 0 d k) = wB m c t d (fl (lo k)) :=
  View.ld_unit_apply_of _ _ _ _ _ _ fun a => by fin_cases a <;> simp [ix3] <;> omega
theorem w_ld1 (c : Dev nD) (t : Fin cfg0.N) (d : Fin 1024) (k : Fin 1408) :
    View.ld (iblk m c 4 t) (Rect.unit ![1, 0, 0] ![1, 1024, 1408] inb_S4x1024x1408_S1x1024x1408_1_0_0) (ix3 0 d k) = wB m c t d (fl (hi k)) :=
  View.ld_unit_apply_of _ _ _ _ _ _ fun a => by fin_cases a <;> simp [ix3] <;> omega
theorem w_ld2 (c : Dev nD) (t : Fin cfg0.N) (d : Fin 1024) (k : Fin 1408) :
    View.ld (iblk m c 4 t) (Rect.unit ![2, 0, 0] ![1, 1024, 1408] inb_S4x1024x1408_S1x1024x1408_2_0_0) (ix3 0 d k) = wB m c t d (fr (lo k)) :=
  View.ld_unit_apply_of _ _ _ _ _ _ fun a => by fin_cases a <;> simp [ix3] <;> omega
theorem w_ld3 (c : Dev nD) (t : Fin cfg0.N) (d : Fin 1024) (k : Fin 1408) :
    View.ld (iblk m c 4 t) (Rect.unit ![3, 0, 0] ![1, 1024, 1408] inb_S4x1024x1408_S1x1024x1408_3_0_0) (ix3 0 d k) = wB m c t d (fr (hi k)) :=
  View.ld_unit_apply_of _ _ _ _ _ _ fun a => by fin_cases a <;> simp [ix3] <;> omega

/-- The gradient at the normalised row, as the body forms it. -/
theorem dn_point (c : Dev nD) (t : Fin cfg0.N) (s : Fin 256) (d : Fin 1024) :
    k0_pay1 (F := Ideal) (k0_pay28 (k0_pay9 (iblk m c 2 t))
        (View.ld (iblk m c 1 t) (Rect.unit ![0, 1408] ![256, 1408] inb_S256x5632_S256x1408_0_1408))
        (View.ld (iblk m c 5 t) (Rect.unit ![1408, 0] ![1408, 1024] inb_S2816x1024_S1408x1024_1408_0)))
      (k0_pay29 (k0_pay9 (iblk m c 2 t))
        (k0_pay20 (k0_pay9 (iblk m c 2 t)) k0_pay10
          (k0_pay11 (View.ld (iblk m c 1 t) (Rect.unit ![0, 0] ![256, 1408] inb_S256x5632_S256x1408_0_0)))
          (k0_pay12 (View.ld (iblk m c 1 t) (Rect.unit ![0, 2816] ![256, 1408] inb_S256x5632_S256x1408_0_2816)))
          (k0_pay13 (View.ld (iblk m c 1 t) (Rect.unit ![0, 0] ![256, 1408] inb_S256x5632_S256x1408_0_0)))
          (View.ld (iblk m c 5 t) (Rect.unit ![0, 0] ![1408, 1024] inb_S2816x1024_S1408x1024_0_0))
          (View.ld (iblk m c 4 t) (Rect.unit ![0, 0, 0] ![1, 1024, 1408] inb_S4x1024x1408_S1x1024x1408_0_0_0))
          (View.ld (iblk m c 4 t) (Rect.unit ![2, 0, 0] ![1, 1024, 1408] inb_S4x1024x1408_S1x1024x1408_2_0_0)))
        (View.ld (iblk m c 1 t) (Rect.unit ![0, 1408] ![256, 1408] inb_S256x5632_S256x1408_0_1408))
        (View.ld (iblk m c 1 t) (Rect.unit ![0, 4224] ![256, 1408] inb_S256x5632_S256x1408_0_4224))
        (View.ld (iblk m c 5 t) (Rect.unit ![1408, 0] ![1408, 1024] inb_S2816x1024_S1408x1024_1408_0))
        (View.ld (iblk m c 4 t) (Rect.unit ![1, 0, 0] ![1, 1024, 1408] inb_S4x1024x1408_S1x1024x1408_1_0_0)))
      (View.ld (iblk m c 4 t) (Rect.unit ![3, 0, 0] ![1, 1024, 1408] inb_S4x1024x1408_S1x1024x1408_3_0_0)) (ix2 s d)
      = dnorm (ctB m c t s) (guB m c t s) (wB m c t) (wdB m c t) d := by
  rw [pay1_apply, pay29_apply, pay20_apply]
  simp only [pay28_apply, pay27_apply, pay18_apply, pay19_apply, pay9_apply, gu_ld0, gu_ld1, gu_ld2, gu_ld3,
    wd_ld0, wd_ld1, w_ld0, w_ld1, w_ld2, w_ld3]
  rfl

end Cert.KernelIdeal.Ffn

end
-- ==== Proof.FfnArr.lean ====
/-
  The feed-forward block's backward call over the whole arrays: each result, row by row, as a function of the arguments.
-/
module

public import proofs.«01_k».proof.Proof.FfnPoint

@[expose] public section

set_option maxRecDepth 16384

noncomputable section

namespace Cert.KernelIdeal.Ffn

open Cert.KernelIdeal Cert.KernelIdeal.Gen Idealize.ShloMosaic Idealize.ShloMosaic.TcCoe Idealize.SL.Sem FfnSpec
open Idealize.ShloMosaic.Pipeline (Dat)

variable (m : (ℓ : Loc nD τ sig) → Buf (Elt Ideal) ℓ)

/-- Row `s` of the argument `h`, and of the others. -/
abbrev hA (c : Dev nD) (s : Fin 16384) : Fin 1024 → EReal := fun d => m ((c.tc : Thread nD τ).loc main_arg0) (ix2 s d)
abbrev ctA (c : Dev nD) (s : Fin 16384) : Fin 1024 → EReal := fun d => m ((c.tc : Thread nD τ).loc main_arg1) (ix2 s d)
abbrev gA (c : Dev nD) : Fin 1024 → EReal := fun d => m ((c.tc : Thread nD τ).loc main_arg2) (ix1 d)
abbrev wA (c : Dev nD) : Fin 1024 → Fin 5632 → EReal := fun d k => m ((c.tc : Thread nD τ).loc main_arg3) (ix2 d k)
abbrev wdA (c : Dev nD) : Fin 2816 → Fin 1024 → EReal := fun k d => m ((c.tc : Thread nD τ).loc main_arg4) (ix2 k d)
abbrev guA (c : Dev nD) (s : Fin 16384) : Fin 5632 → EReal := pre (hA m c s) (gA m c) (wA m c)

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] :=
  (by decide +kernel : ∀ t : Fin grid0.N, _)

theorem N64 : cfg0.N = 64 := by decide

/-- Row `s` of block `t` in the whole array. -/
abbrev row (t : Fin cfg0.N) (s : Fin 256) : Fin 16384 := ⟨t.val * 256 + s.val, by have := t.isLt; have := N64; omega⟩

theorem hB_eq (c : Dev nD) (t : Fin cfg0.N) (s : Fin 256) : hB m c t s = hA m c (row t s) := by
  funext d
  show iblk m c 0 t (ix2 s d) = m ((c.tc : Thread nD τ).loc main_arg0) (ix2 (row t s) d)
  blk_ext [iblk, V, idx t]
theorem ctB_eq (c : Dev nD) (t : Fin cfg0.N) (s : Fin 256) : ctB m c t s = ctA m c (row t s) := by
  funext d
  show iblk m c 2 t (ix2 s d) = m ((c.tc : Thread nD τ).loc main_arg1) (ix2 (row t s) d)
  blk_ext [iblk, V, idx t]
theorem gB_eq (c : Dev nD) (t : Fin cfg0.N) : gB m c t = gA m c := by
  funext d
  show iblk m c 3 t (ix2 0 d) = m ((c.tc : Thread nD τ).loc main_arg2) (ix1 d)
  blk_ext! [iblk, V, idx t]
theorem wdB_eq (c : Dev nD) (t : Fin cfg0.N) : wdB m c t = wdA m c := by
  funext k d
  show iblk m c 5 t (ix2 k d) = m ((c.tc : Thread nD τ).loc main_arg4) (ix2 k d)
  blk_ext! [iblk, V, idx t]
theorem wB_eq (c : Dev nD) (t : Fin cfg0.N) : wB m c t = wA m c := by
  funext d k
  show iblk m c 4 t (ix3 ⟨k.val / 1408, by omega⟩ d ⟨k.val % 1408, by omega⟩) = m ((c.tc : Thread nD τ).loc main_arg3) (ix2 d k)
  blk_ext! [iblk, V, idx t]
theorem guB_eq (c : Dev nD) (t : Fin cfg0.N) (s : Fin 256) : guB m c t s = guA m c (row t s) := by
  funext k
  show iblk m c 1 t (ix2 s k) = pre (hA m c (row t s)) (gA m c) (wA m c) k
  rw [show iblk m c 1 t (ix2 s k) = V m c main_v14 (ix2 (row t s) k) by blk_ext [iblk, idx t]]
  entry_read
  pointwise [pre, FfnSpec.norm, rinv]

theorem arr7 (c : Dev nD) :
    (dats m 0 c).arrAt 7 cfg0.N = fun y => norm (hA m c (y 0)) (gA m c) (y 1) := by
  refine (dats m 0 c).arrAt_eq_of_covers 7 _ (by decide +kernel) fun t hf y => ?_
  blk_simp
  have ey : (((View.whole main_v20_1).slice (win0_7.rect t)).emb y) = ix2 (row t (y 0)) (y 1) := by blk_ext [idx t]
  obtain ⟨s, d, rfl⟩ : ∃ (s : Fin 256) (d : Fin 1024), y = ix2 s d := ⟨y 0, y 1, by blk_ext [idx t]⟩
  rw [ey, after0_7]
  show _ = norm (hA m c (row t s)) (gA m c) d
  rw [← hB_eq, ← gB_eq m c t]
  by_cases h : t.val % 64 = 0
  · rw [outsAt0_A m c t h]
    frame_out
    exact pay8_apply _ _ s d
  · rw [outsAt0_B m c t h]
    frame_out
    exact pay8_apply _ _ s d

theorem arr10 (c : Dev nD) :
    (dats m 0 c).arrAt 10 cfg0.N = fun y => dhalf (ctA m c (y 0)) (y 1) := by
  refine (dats m 0 c).arrAt_eq_of_covers 10 _ (by decide +kernel) fun t hf y => ?_
  blk_simp
  have ey : (((View.whole main_v20_4).slice (win0_10.rect t)).emb y) = ix2 (row t (y 0)) (y 1) := by blk_ext [idx t]
  obtain ⟨s, d, rfl⟩ : ∃ (s : Fin 256) (d : Fin 1024), y = ix2 s d := ⟨y 0, y 1, by blk_ext [idx t]⟩
  rw [ey, after0_10]
  show _ = dhalf (ctA m c (row t s)) d
  rw [← ctB_eq]
  by_cases h : t.val % 64 = 0
  · rw [outsAt0_A m c t h]
    frame_out
    exact pay9_apply _ s d
  · rw [outsAt0_B m c t h]
    frame_out
    exact pay9_apply _ s d

theorem arr6 (c : Dev nD) :
    (dats m 0 c).arrAt 6 cfg0.N = fun y => dx (hA m c (y 0)) (ctA m c (y 0)) (gA m c) (guA m c (y 0)) (wA m c) (wdA m c) (y 1) := by
  refine (dats m 0 c).arrAt_eq_of_covers 6 _ (by decide +kernel) fun t hf y => ?_
  blk_simp
  have ey : (((View.whole main_v20_0).slice (win0_6.rect t)).emb y) = ix2 (row t (y 0)) (y 1) := by blk_ext [idx t]
  obtain ⟨s, d, rfl⟩ : ∃ (s : Fin 256) (d : Fin 1024), y = ix2 s d := ⟨y 0, y 1, by blk_ext [idx t]⟩
  rw [ey, after0_6]
  show _ = dx (hA m c (row t s)) (ctA m c (row t s)) (gA m c) (guA m c (row t s)) (wA m c) (wdA m c) d
  rw [← hB_eq, ← ctB_eq, ← gB_eq m c t, ← guB_eq, ← wB_eq m c t, ← wdB_eq m c t]
  by_cases h : t.val % 64 = 0
  · rw [outsAt0_A m c t h]
    frame_out
    exact pay3_row _ _ _ _ _ _ s _ (dn_point m c t s) d
  · rw [outsAt0_B m c t h]
    frame_out
    exact pay3_row _ _ _ _ _ _ s _ (dn_point m c t s) d

/-- The activation's two halves. -/
theorem act_lo (c : Dev nD) (t : Fin cfg0.N) (s : Fin 256) (k : Fin 1408) :
    k0_pay16 (F := Ideal) (k0_pay11 (View.ld (iblk m c 1 t) (Rect.unit ![0, 0] ![256, 1408] inb_S256x5632_S256x1408_0_0)))
      (k0_pay12 (View.ld (iblk m c 1 t) (Rect.unit ![0, 2816] ![256, 1408] inb_S256x5632_S256x1408_0_2816)))
      (k0_pay13 (View.ld (iblk m c 1 t) (Rect.unit ![0, 0] ![256, 1408] inb_S256x5632_S256x1408_0_0))) (ix2 s k)
      = act (guB m c t s) (lo k) := by
  rw [pay16_apply, gu_ld0, gu_ld2, act]
theorem act_hi (c : Dev nD) (t : Fin cfg0.N) (s : Fin 256) (k : Fin 1408) :
    k0_pay25 (F := Ideal) (View.ld (iblk m c 1 t) (Rect.unit ![0, 1408] ![256, 1408] inb_S256x5632_S256x1408_0_1408))
      (View.ld (iblk m c 1 t) (Rect.unit ![0, 4224] ![256, 1408] inb_S256x5632_S256x1408_0_4224)) (ix2 s k)
      = act (guB m c t s) (hi k) := by
  rw [pay25_apply, gu_ld1, gu_ld3, act]
/-- The four quarters of the gradient at the gate and the gated value. -/
theorem gate_lo (c : Dev nD) (t : Fin cfg0.N) (s : Fin 256) (k : Fin 1408) :
    k0_pay18 (F := Ideal) (k0_pay9 (iblk m c 2 t)) (k0_pay11 (View.ld (iblk m c 1 t) (Rect.unit ![0, 0] ![256, 1408] inb_S256x5632_S256x1408_0_0)))
      (k0_pay12 (View.ld (iblk m c 1 t) (Rect.unit ![0, 2816] ![256, 1408] inb_S256x5632_S256x1408_0_2816)))
      (k0_pay13 (View.ld (iblk m c 1 t) (Rect.unit ![0, 0] ![256, 1408] inb_S256x5632_S256x1408_0_0)))
      (View.ld (iblk m c 5 t) (Rect.unit ![0, 0] ![1408, 1024] inb_S2816x1024_S1408x1024_0_0)) (ix2 s k)
      = dgate (ctB m c t s) (guB m c t s) (wdB m c t) (lo k) := by
  rw [pay18_apply]
  simp only [pay9_apply, gu_ld0, gu_ld2, wd_ld0]
  rfl
theorem gate_hi (c : Dev nD) (t : Fin cfg0.N) (s : Fin 256) (k : Fin 1408) :
    k0_pay27 (F := Ideal) (k0_pay9 (iblk m c 2 t)) (View.ld (iblk m c 1 t) (Rect.unit ![0, 1408] ![256, 1408] inb_S256x5632_S256x1408_0_1408))
      (View.ld (iblk m c 1 t) (Rect.unit ![0, 4224] ![256, 1408] inb_S256x5632_S256x1408_0_4224))
      (View.ld (iblk m c 5 t) (Rect.unit ![1408, 0] ![1408, 1024] inb_S2816x1024_S1408x1024_1408_0)) (ix2 s k)
      = dgate (ctB m c t s) (guB m c t s) (wdB m c t) (hi k) := by
  rw [pay27_apply]
  simp only [pay9_apply, gu_ld1, gu_ld3, wd_ld1]
  rfl
theorem val_lo (c : Dev nD) (t : Fin cfg0.N) (s : Fin 256) (k : Fin 1408) :
    k0_pay19 (F := Ideal) (k0_pay9 (iblk m c 2 t)) (k0_pay11 (View.ld (iblk m c 1 t) (Rect.unit ![0, 0] ![256, 1408] inb_S256x5632_S256x1408_0_0)))
      (k0_pay13 (View.ld (iblk m c 1 t) (Rect.unit ![0, 0] ![256, 1408] inb_S256x5632_S256x1408_0_0)))
      (View.ld (iblk m c 5 t) (Rect.unit ![0, 0] ![1408, 1024] inb_S2816x1024_S1408x1024_0_0)) (ix2 s k)
      = dval (ctB m c t s) (guB m c t s) (wdB m c t) (lo k) := by
  rw [pay19_apply]
  simp only [pay9_apply, gu_ld0, wd_ld0]
  rfl
theorem val_hi (c : Dev nD) (t : Fin cfg0.N) (s : Fin 256) (k : Fin 1408) :
    k0_pay28 (F := Ideal) (k0_pay9 (iblk m c 2 t)) (View.ld (iblk m c 1 t) (Rect.unit ![0, 1408] ![256, 1408] inb_S256x5632_S256x1408_0_1408))
      (View.ld (iblk m c 5 t) (Rect.unit ![1408, 0] ![1408, 1024] inb_S2816x1024_S1408x1024_1408_0)) (ix2 s k)
      = dval (ctB m c t s) (guB m c t s) (wdB m c t) (hi k) := by
  rw [pay28_apply]
  simp only [pay9_apply, gu_ld1, wd_ld1]
  rfl

/-- An index of a piece put at column `b` of a row. -/
theorem piece_ix {N p : Nat} (x : (⟨2, ![256, p]⟩ : Shape).Idx) (s : Fin 256) (d : Fin N) (b : Nat) (hb : b + p ≤ N)
    (h0 : s.val = (x 0).val) (h1 : d.val = b + (x 1).val) :
    ∃ k : Fin p, x = ix2 s k ∧ d = ⟨b + k.val, Nat.lt_of_lt_of_le (Nat.add_lt_add_left k.isLt b) hb⟩ :=
  ⟨x 1, funext fun a => by fin_cases a <;> apply Fin.ext <;> simp [ix2, h0], Fin.ext h1⟩

theorem arr8 (c : Dev nD) :
    (dats m 0 c).arrAt 8 cfg0.N = fun y => act (guA m c (y 0)) (y 1) := by
  refine (dats m 0 c).arrAt_eq_of_covers 8 _ (by decide +kernel) fun t hf y => ?_
  blk_simp
  have ey : (((View.whole main_v20_2).slice (win0_8.rect t)).emb y) = ix2 (row t (y 0)) (y 1) := by blk_ext [idx t]
  obtain ⟨s, d, rfl⟩ : ∃ (s : Fin 256) (d : Fin 2816), y = ix2 s d := ⟨y 0, y 1, by blk_ext [idx t]⟩
  rw [ey, after0_8]
  show _ = act (guA m c (row t s)) d
  rw [← guB_eq]
  by_cases h : t.val % 64 = 0
  · rw [outsAt0_A m c t h]
    frame_out
    canon_tiles x h'
    · obtain ⟨k, rfl, rfl⟩ := piece_ix x s d 1408 (by decide) h'0 h'1
      exact act_hi m c t s k
    · obtain ⟨k, rfl, rfl⟩ := piece_ix x s d 0 (by decide) h'0 (by rw [Nat.zero_add]; exact h'1)
      exact (act_lo m c t s k).trans (congrArg _ (Fin.ext (Nat.zero_add _).symm))
  · rw [outsAt0_B m c t h]
    frame_out
    canon_tiles x h'
    · obtain ⟨k, rfl, rfl⟩ := piece_ix x s d 1408 (by decide) h'0 h'1
      exact act_hi m c t s k
    · obtain ⟨k, rfl, rfl⟩ := piece_ix x s d 0 (by decide) h'0 (by rw [Nat.zero_add]; exact h'1)
      exact (act_lo m c t s k).trans (congrArg _ (Fin.ext (Nat.zero_add _).symm))

/-- The gradients at the gate and at the gated value, side by side. -/
def dpair (ct : Fin 1024 → EReal) (gu : Fin 5632 → EReal) (WD : Fin 2816 → Fin 1024 → EReal) (k : Fin 5632) : EReal :=
  if h : k.val < 2816 then dgate ct gu WD ⟨k.val, h⟩ else dval ct gu WD ⟨k.val - 2816, by omega⟩

theorem dpair_left (ct : Fin 1024 → EReal) (gu : Fin 5632 → EReal) (WD : Fin 2816 → Fin 1024 → EReal) (k : Fin 5632) (c : Fin 2816)
    (h : k.val = c.val) : dpair ct gu WD k = dgate ct gu WD c := by
  rw [dpair, dif_pos (by omega)]
  exact congrArg _ (Fin.ext h)
theorem dpair_right (ct : Fin 1024 → EReal) (gu : Fin 5632 → EReal) (WD : Fin 2816 → Fin 1024 → EReal) (k : Fin 5632) (c : Fin 2816)
    (h : k.val = 2816 + c.val) : dpair ct gu WD k = dval ct gu WD c := by
  rw [dpair, dif_neg (by omega)]
  exact congrArg _ (Fin.ext (by show k.val - 2816 = c.val; omega))

theorem arr9 (c : Dev nD) :
    (dats m 0 c).arrAt 9 cfg0.N = fun y => dpair (ctA m c (y 0)) (guA m c (y 0)) (wdA m c) (y 1) := by
  refine (dats m 0 c).arrAt_eq_of_covers 9 _ (by decide +kernel) fun t hf y => ?_
  blk_simp
  have ey : (((View.whole main_v20_3).slice (win0_9.rect t)).emb y) = ix2 (row t (y 0)) (y 1) := by blk_ext [idx t]
  obtain ⟨s, d, rfl⟩ : ∃ (s : Fin 256) (d : Fin 5632), y = ix2 s d := ⟨y 0, y 1, by blk_ext [idx t]⟩
  rw [ey, after0_9]
  show _ = dpair (ctA m c (row t s)) (guA m c (row t s)) (wdA m c) d
  rw [← guB_eq, ← ctB_eq, ← wdB_eq m c t]
  by_cases h : t.val % 64 = 0
  · rw [outsAt0_A m c t h]
    frame_out
    canon_tiles x h'
    · obtain ⟨k, rfl, rfl⟩ := piece_ix x s d 4224 (by decide) h'0 h'1
      exact (val_hi m c t s k).trans (dpair_right _ _ _ _ _ (by show 4224 + k.val = 2816 + (1408 + k.val); omega)).symm
    · obtain ⟨k, rfl, rfl⟩ := piece_ix x s d 1408 (by decide) h'0 h'1
      exact (gate_hi m c t s k).trans (dpair_left _ _ _ _ _ rfl).symm
    · obtain ⟨k, rfl, rfl⟩ := piece_ix x s d 2816 (by decide) h'0 h'1
      exact (val_lo m c t s k).trans (dpair_right _ _ _ _ _ rfl).symm
    · obtain ⟨k, rfl, rfl⟩ := piece_ix x s d 0 (by decide) h'0 (by rw [Nat.zero_add]; exact h'1)
      exact (gate_lo m c t s k).trans (dpair_left _ _ _ _ _ (Nat.zero_add _)).symm
  · rw [outsAt0_B m c t h]
    frame_out
    canon_tiles x h'
    · obtain ⟨k, rfl, rfl⟩ := piece_ix x s d 4224 (by decide) h'0 h'1
      exact (val_hi m c t s k).trans (dpair_right _ _ _ _ _ (by show 4224 + k.val = 2816 + (1408 + k.val); omega)).symm
    · obtain ⟨k, rfl, rfl⟩ := piece_ix x s d 1408 (by decide) h'0 h'1
      exact (gate_hi m c t s k).trans (dpair_left _ _ _ _ _ rfl).symm
    · obtain ⟨k, rfl, rfl⟩ := piece_ix x s d 2816 (by decide) h'0 h'1
      exact (val_lo m c t s k).trans (dpair_right _ _ _ _ _ rfl).symm
    · obtain ⟨k, rfl, rfl⟩ := piece_ix x s d 0 (by decide) h'0 (by rw [Nat.zero_add]; exact h'1)
      exact (gate_lo m c t s k).trans (dpair_left _ _ _ _ _ (Nat.zero_add _)).symm

/-- The running sum over the grid: the rows of one block of 256 join it at each point. -/
theorem acc11 (c : Dev nD) (t : Fin cfg0.N) (ht : t.val + 1 = cfg0.N) (d : Fin 1024) :
    (outsAt0 m c t.val t.isLt).2.2.2.2.2 (ix2 0 d)
      = 0 + ∑ p : Fin cfg0.N, ∑ s : Fin 256, dgain (hA m c (row p s)) (ctA m c (row p s)) (guA m c (row p s)) (wA m c) (wdA m c) d := by
  refine Pipeline.eq_sum_fin_of_reset_step_apply_last (fun n h d => (outsAt0 m c n h).2.2.2.2.2 (ix2 0 d)) 64 (fun _ => 0)
    (fun p d => ∑ s : Fin 256, dgain (hA m c (row p s)) (ctA m c (row p s)) (guA m c (row p s)) (wA m c) (wdA m c) d)
    (fun t h d => ?_) (fun t h d => ?_) (by decide) t ht d
  · rw [outsAt0_A m c t h]
    frame_out
    refine (pay2_row _ _ _ _ _ _ (dn_point m c t) d).trans ?_
    refine congrArg₂ (· + ·) ?_ (Finset.sum_congr rfl fun s _ => ?_)
    · pointwise [k0_pay4]
    · rw [← hB_eq, ← ctB_eq, ← guB_eq, ← wB_eq m c t, ← wdB_eq m c t, pay7_apply, dgain]
  · rw [outsAt0_B m c t h]
    frame_out
    refine (pay2_row _ _ _ _ _ _ (dn_point m c t) d).trans ?_
    refine congrArg₂ (· + ·) rfl (Finset.sum_congr rfl fun s _ => ?_)
    rw [← hB_eq, ← ctB_eq, ← guB_eq, ← wB_eq m c t, ← wdB_eq m c t, pay7_apply, dgain]

/-- The last grid point. -/
abbrev tLast : Fin cfg0.N := ⟨63, by decide⟩

theorem acc11_at (c : Dev nD) (t : Fin cfg0.N) (ht : t.val + 1 = cfg0.N) (y : S1x1024.Idx) :
    (outsAt0 m c t.val t.isLt).2.2.2.2.2 y
      = ∑ s : Fin 16384, dgain (hA m c s) (ctA m c s) (guA m c s) (wA m c) (wdA m c) (y 1) := by
  obtain ⟨d, rfl⟩ : ∃ d : Fin 1024, y = ix2 0 d := ⟨y 1, by blk_ext [idx t]⟩
  refine (acc11 m c t ht d).trans ?_
  rw [zero_add]
  exact Fin.sum_mul_add_fin 64 256 (fun s => dgain (hA m c s) (ctA m c s) (guA m c s) (wA m c) (wdA m c) d) rfl

theorem arr11 (c : Dev nD) : (dats m 0 c).arrAt 11 cfg0.N
    = fun y => ∑ s : Fin 16384, dgain (hA m c s) (ctA m c s) (guA m c s) (wA m c) (wdA m c) (y 1) := by
  refine (dats m 0 c).arrAt_eq_of_after_last 11 tLast (by decide +kernel) _ fun j => ?_
  blk_simp
  rw [after0_11]
  exact acc11_at m c tLast rfl _

end Cert.KernelIdeal.Ffn

end
-- ==== Proof.FfnRefArr.lean ====
/-
  The reference's six results as whole arrays, on real arguments: the same row functions the kernel's arrays are.
-/
module

public import proofs.«01_k».proof.Proof.FfnRef
public import proofs.«01_k».proof.Proof.FfnArr

@[expose] public section

set_option maxRecDepth 16384

noncomputable section

namespace Cert.ReferenceIdeal.Ffn

open Cert.ReferenceIdeal Cert.ReferenceIdeal.Gen Cert.ReferenceIdeal.Read Idealize.ShloMosaic Idealize.ShloMosaic.TcCoe FfnSpec RealVal
open Cert.KernelIdeal.Ffn (dpair dpair_left)

variable (x0 x1 : FVec Ideal S16384x1024 .f32) (x2 : FVec Ideal S1024 .f32) (x3 : FVec Ideal S1024x5632 .f32)
  (x4 : FVec Ideal S2816x1024 .f32)

theorem eta2 {a b : Nat} (y : (⟨2, ![a, b]⟩ : Shape).Idx) : ∃ (s : Fin a) (d : Fin b), y = ix2 s d :=
  ⟨y 0, y 1, by funext i; fin_cases i <;> rfl⟩

/-- The normalised rows the kernel hands on. -/
theorem ref55 : val_main_v55 (F := Ideal) x0 x2 = fun y => norm (rw_ x0 (y 0)) (gr x2) (y 1) := by
  funext y
  obtain ⟨s, d, rfl⟩ := eta2 y
  rw [val_main_v55_apply]
  exact v15_at x0 x2 s d

/-- The activations the kernel hands on. -/
theorem ref56 : val_main_v56 (F := Ideal) x0 x2 x3 = fun y => act (gur x0 x2 x3 (y 0)) (y 1) := by
  funext y
  obtain ⟨s, d, rfl⟩ := eta2 y
  rw [val_main_v56_apply]
  exact v20_at x0 x2 x3 s d

/-- Half the incoming gradient. -/
theorem ref58 : val_main_v58 (F := Ideal) x1 = fun y => dhalf (rw_ x1 (y 0)) (y 1) := by
  funext y
  obtain ⟨s, d, rfl⟩ := eta2 y
  rw [val_main_v58_apply]
  exact v27_at x1 s d

section Real

variable (h0 : ∀ i, IsR (x0 i)) (h1 : ∀ i, IsR (x1 i)) (h2 : ∀ i, IsR (x2 i)) (h3 : ∀ i, IsR (x3 i)) (h4 : ∀ i, IsR (x4 i))
include h0 h1 h2 h3 h4

/-- The gradient of the block's input. -/
theorem ref54 : val_main_v54 (F := Ideal) x0 x1 x2 x3 x4
    = fun y => dx (rw_ x0 (y 0)) (rw_ x1 (y 0)) (gr x2) (gur x0 x2 x3 (y 0)) (wr x3) (wdr x4) (y 1) := by
  funext y
  obtain ⟨s, d, rfl⟩ := eta2 y
  exact v54_eq_dx x0 x1 x2 x3 x4 h0 h1 h2 h3 h4 s d

/-- The gradient of the two halves of the hidden layer, side by side. -/
theorem ref57 : val_main_v57 (F := Ideal) x0 x1 x2 x3 x4
    = fun y => dpair (rw_ x1 (y 0)) (gur x0 x2 x3 (y 0)) (wdr x4) (y 1) := by
  funext y
  obtain ⟨s, k, rfl⟩ := eta2 y
  rw [val_main_v57_apply]
  show val_main_v32 (F := Ideal) x0 x1 x2 x3 x4 (ix2 s k) = dpair (rw_ x1 s) (gur x0 x2 x3 s) (wdr x4) k
  by_cases hk : k.val < 2816
  · rw [show k = fl ⟨k.val, hk⟩ from Fin.ext rfl, v32_left_eq x0 x1 x2 x3 x4 h0 h1 h2 h3 h4]
    exact (dpair_left _ _ _ _ _ rfl).symm
  · obtain ⟨j, rfl⟩ : ∃ j : Fin 2816, k = fr j :=
      ⟨⟨k.val - 2816, by have := k.isLt; omega⟩, Fin.ext (by show k.val = 2816 + (k.val - 2816); omega)⟩
    rw [v32_right_eq x0 x1 x2 x3 x4, dpair, dif_neg hk]
    congr 1
    exact Fin.ext (by show j.val = 2816 + j.val - 2816; omega)

/-- The gradient of the norm's gain. -/
theorem ref59 : val_main_v59 (F := Ideal) x0 x1 x2 x3 x4
    = fun y => ∑ s : Fin 16384, dgain (rw_ x0 s) (rw_ x1 s) (gur x0 x2 x3 s) (wr x3) (wdr x4) (y 1) := by
  funext y
  obtain ⟨o, d, rfl⟩ := eta2 y
  obtain rfl : o = 0 := Subsingleton.elim _ _
  exact v59_eq_dgain x0 x1 x2 x3 x4 h0 h1 h2 h3 h4 d

end Real

end Cert.ReferenceIdeal.Ffn

end
-- ==== Proof.FfnClaim.lean ====
/-
  The claims about the feed-forward block's backward call: the frames, and the equality of its six results with the reference's.
-/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Finite
public import proofs.«01_k».proof.Proof.FfnRefArr

@[expose] public section

set_option maxRecDepth 16384

noncomputable section

namespace Cert.Proof.Ffn

open Idealize.ShloMosaic Idealize.ShloMosaic.TcCoe Idealize.SL.Sem RealVal
open Cert.KernelIdeal.Ffn Cert.ReferenceIdeal.Ffn Cert.ReferenceIdeal.Read

theorem frame_r : Cert.quiescent_ReferenceIdeal (hReferenceIdeal := Cert.ReferenceIdeal.Gen.facts) := by
  intro m ρ _
  exact (θ_run Cert.ReferenceIdeal.defs _ _).mono (fun r h => ⟨fun c => (h c).2.2.2.2.2.2, sem_eq_zero_of_no_sems (by decide) r.2⟩)
    (Cert.ReferenceIdeal.Value.run m ρ)

theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  run_from Cert.KernelIdeal.Value.run_blocks m g
  have hp : ∀ c : Dev Cert.KernelIdeal.nD, (∀ i, IsR (m ((c.tc : Thread Cert.KernelIdeal.nD Cert.KernelIdeal.τ).loc Cert.KernelIdeal.main_arg0) i))
      ∧ (∀ i, IsR (m ((c.tc : Thread Cert.KernelIdeal.nD Cert.KernelIdeal.τ).loc Cert.KernelIdeal.main_arg1) i))
      ∧ (∀ i, IsR (m ((c.tc : Thread Cert.KernelIdeal.nD Cert.KernelIdeal.τ).loc Cert.KernelIdeal.main_arg2) i))
      ∧ (∀ i, IsR (m ((c.tc : Thread Cert.KernelIdeal.nD Cert.KernelIdeal.τ).loc Cert.KernelIdeal.main_arg3) i))
      ∧ (∀ i, IsR (m ((c.tc : Thread Cert.KernelIdeal.nD Cert.KernelIdeal.τ).loc Cert.KernelIdeal.main_arg4) i)) := fun c =>
    ⟨real_of_cmp _ _ (hpre c).1, real_of_cmp _ _ (hpre c).2.1, real_of_cmp _ _ (hpre c).2.2.1, real_of_cmp _ _ (hpre c).2.2.2.1,
      real_of_cmp _ _ (hpre c).2.2.2.2⟩
  refine (θ_run Cert.ReferenceIdeal.defs _ _).mono (fun r h c => ?_) (Cert.ReferenceIdeal.Value.run m' g')
  obtain ⟨r54, r55, r56, r57, r58, r59, k⟩ := h c
  obtain ⟨h0, h1, h2, h3, h4⟩ := hp c
  obtain ⟨e0, e1, e2, e3, e4⟩ := hagree c
  rw [val_main_v54_eq m' c, e0, e1, e2, e3, e4] at r54
  rw [e0, e2] at r55
  rw [e0, e2, e3] at r56
  rw [val_main_v57_eq m' c, e0, e1, e2, e3, e4] at r57
  rw [e1] at r58
  rw [val_main_v59_eq m' c, e0, e1, e2, e3, e4] at r59
  refine ⟨?_, ?_, ?_, ?_, ?_, ?_, k⟩
  · exact (r54.trans (ref54 _ _ _ _ _ h0 h1 h2 h3 h4)).trans (arr6 m c).symm
  · exact ((r55.trans (val_main_v55_eq _ _)).trans (ref55 _ _)).trans (arr7 m c).symm
  · exact ((r56.trans (val_main_v56_eq _ _ _)).trans (ref56 _ _ _)).trans (arr8 m c).symm
  · exact (r57.trans (ref57 _ _ _ _ _ h0 h1 h2 h3 h4)).trans (arr9 m c).symm
  · exact ((r58.trans (val_main_v58_eq _)).trans (ref58 _)).trans (arr10 m c).symm
  · exact (r59.trans (ref59 _ _ _ _ _ h0 h1 h2 h3 h4)).trans (arr11 m c).symm

end Cert.Proof.Ffn

end
-- ==== Proof.DwSum.lean ====
/-
  A sum kept over a run of grid points, each adding the terms of one block of rows.
-/
module

public import Idealize.ShloMosaic.Lib.Pipeline.ValueKit

@[expose] public section

noncomputable section

namespace DwSum

open Idealize.ShloMosaic

variable {N n A L J : ℕ}

/-- The run which grid point `t` belongs to, of `A` runs with `J` points each. -/
abbrev batch (hN : N = A * J) (t : Fin N) : Fin A :=
  ⟨t.val / J, Nat.div_lt_of_lt_mul (Nat.lt_of_lt_of_eq t.isLt (hN.trans (Nat.mul_comm A J)))⟩

theorem lane_lt (hJ : 0 < J) (hL : L = J * n) (t : Fin N) (k : Fin n) : t.val % J * n + k.val < L := by
  have h1 := Nat.mod_lt t.val hJ
  have h2 := Nat.mul_le_mul_right n (Nat.succ_le_of_lt h1)
  rw [Nat.succ_mul] at h2
  have := k.isLt
  omega

/-- Row `k` of the block which grid point `t` reads, of the `L` rows. -/
abbrev lane (hJ : 0 < J) (hL : L = J * n) (t : Fin N) (k : Fin n) : Fin L := ⟨t.val % J * n + k.val, lane_lt hJ hL t k⟩

/-- If the first point of a run writes its block's terms and each later one adds its block's, then after the last
    point the sum is over all rows. -/
theorem acc_run {ι : Type} (hJ : 0 < J) (hN : N = A * J) (hL : L = J * n) (f : (k : ℕ) → k < N → ι → EReal)
    (g : Fin A → Fin L → ι → EReal)
    (h0 : ∀ t : Fin N, t.val % J = 0 → ∀ i, f t.val t.isLt i = 0 + ∑ k : Fin n, g (batch hN t) (lane hJ hL t k) i)
    (hs : ∀ t : Fin N, ¬t.val % J = 0 → ∀ i, f t.val t.isLt i
      = f (t.val - 1) (Nat.lt_of_le_of_lt (Nat.sub_le _ _) t.isLt) i + ∑ k : Fin n, g (batch hN t) (lane hJ hL t k) i)
    (t : Fin N) (ht : t.val % J = J - 1) (i : ι) : f t.val t.isLt i = ∑ l : Fin L, g (batch hN t) l i := by
  haveI : NeZero J := ⟨hJ.ne'⟩
  refine (Pipeline.eq_sum_fin_of_reset_step_apply_of_flush f J (fun _ => 0)
    (fun t i => ∑ k : Fin n, g (batch hN t) (lane hJ hL t k) i) h0 hs t ht i).trans ?_
  rw [zero_add]
  refine Fin.sum_mul_add_congr (fun s k hl => ?_) hL
  have e : batch hN ⟨J * (t.val / J) + s.val, Pipeline.run_point_lt_of_flush t ht s⟩ = batch hN t :=
    Fin.ext (by show (J * (t.val / J) + s.val) / J = t.val / J
                rw [Nat.mul_add_div hJ, Nat.div_eq_of_lt s.isLt, Nat.add_zero])
  have e' : lane hJ hL ⟨J * (t.val / J) + s.val, Pipeline.run_point_lt_of_flush t ht s⟩ k = ⟨s.val * n + k.val, hl⟩ :=
    Fin.ext (by show (J * (t.val / J) + s.val) % J * n + k.val = s.val * n + k.val
                rw [Nat.mul_add_mod, Nat.mod_eq_of_lt s.isLt])
  rw [e, e']

end DwSum

end
-- ==== Proof.Dw2.lean ====
/-
  The gated layer's weight gradient: what the product call leaves in its two results.
-/
module

public import proofs.«01_k».proof.Proof.Gen.Kernel2Ideal.Value
public import proofs.«01_k».proof.Proof.DwSum

@[expose] public section

set_option maxRecDepth 16384

noncomputable section

namespace Cert.Kernel2Ideal.Dw

open Cert.Kernel2Ideal Cert.Kernel2Ideal.Gen Idealize.ShloMosaic Idealize.ShloMosaic.TcCoe Idealize.SL.Sem
open DwSum (batch lane)

variable (m : (ℓ : Loc nD τ sig) → Buf (Elt Ideal) ℓ)

theorem pay2_at (o : FVec Ideal S1x1024x1408 .f32) (x : FVec Ideal S2048x1024 .bf16) (y : FVec Ideal S2048x1408 .bf16)
    (a : Fin 1024) (b : Fin 1408) :
    k0_pay2 (F := Ideal) o x y (ix3 0 a b) = o (ix3 0 a b) + ∑ s : Fin 2048, x (ix2 s a) * y (ix2 s b) := by
  pointwise [k0_pay2]

/-- The activations and the gradient, by row. -/
abbrev xA (c : Dev nD) : Fin 16384 → Fin 1024 → EReal := fun s a => m ((c.tc : Thread nD τ).loc main_arg0) (ix2 s a)
abbrev yA (c : Dev nD) : Fin 16384 → Fin 5632 → EReal := fun s b => m ((c.tc : Thread nD τ).loc main_arg1) (ix2 s b)

theorem idx : ∀ t : Fin cfg0.N, win0_0.index t = ![t.val % 8, 0] ∧ win0_1.index t = ![t.val % 8, t.val / 8]
    ∧ win0_2.index t = ![t.val / 8, 0, 0] ∧ win0_3.index t = ![t.val / 8, 0, 0] :=
  (by decide +kernel : ∀ t : Fin grid0.N, _)

/-- The column shard a grid point works on, and the rows it reads. -/
abbrev shard (t : Fin cfg0.N) : Fin 4 := batch (J := 8) N_0 t
abbrev row (t : Fin cfg0.N) (s : Fin 2048) : Fin 16384 := lane (J := 8) (by decide) (by decide) t s
/-- Column `b` of shard `j`. -/
abbrev col (j : Fin 4) (b : Fin 1408) : Fin 5632 := ⟨j.val * 1408 + b.val, by omega⟩

theorem x_blk (c : Dev nD) (t : Fin cfg0.N) (s : Fin 2048) (a : Fin 1024) : iblk m c 0 t (ix2 s a) = xA m c (row t s) a := by
  show _ = m ((c.tc : Thread nD τ).loc main_arg0) (ix2 (row t s) a)
  blk_ext [iblk, V, idx t]

theorem y_blk (c : Dev nD) (t : Fin cfg0.N) (s : Fin 2048) (b : Fin 1408) :
    iblk m c 1 t (ix2 s b) = yA m c (row t s) (col (shard t) b) := by
  show _ = m ((c.tc : Thread nD τ).loc main_arg1) (ix2 (row t s) (col (shard t) b))
  blk_ext [iblk, V, idx t]

theorem step (c : Dev nD) (t : Fin cfg0.N) (o : FVec Ideal S1x1024x1408 .f32) (i : Fin 1024 × Fin 1408) :
    k0_pay2 (F := Ideal) o (iblk m c 0 t) (iblk m c 1 t) (ix3 0 i.1 i.2)
      = o (ix3 0 i.1 i.2) + ∑ s : Fin 2048, xA m c (row t s) i.1 * yA m c (row t s) (col (shard t) i.2) := by
  rw [pay2_at]
  refine congrArg (_ + ·) (Finset.sum_congr rfl fun s _ => ?_)
  rw [x_blk, y_blk]

/-- The gradient, shard by shard. -/
abbrev grad (c : Dev nD) (j : Fin 4) (a : Fin 1024) (b : Fin 1408) : EReal := ∑ s : Fin 16384, xA m c s a * yA m c s (col j b)

/-- At the last point of a shard's run the block holds the product over all rows. -/
theorem acc (c : Dev nD) (t : Fin cfg0.N) (ht : t.val % 8 = 7) (a : Fin 1024) (b : Fin 1408) :
    (outsAt0 m c t.val t.isLt).1 (ix3 0 a b) = grad m c (shard t) a b := by
  refine DwSum.acc_run (J := 8) (A := 4) (n := 2048) (by decide) N_0 (by decide) (fun n h i => (outsAt0 m c n h).1 (ix3 0 i.1 i.2))
    (fun j s i => xA m c s i.1 * yA m c s (col j i.2)) (fun t h i => ?_) (fun t h i => ?_) t ht (a, b)
  · rw [outsAt0_A m c t h (by omega)]
    frame_out
    refine (step m c t _ i).trans (congrArg (· + _) ?_)
    pointwise [k0_pay1]
  · by_cases h1 : t.val % 8 = 7
    · rw [outsAt0_C m c t h h1]
      frame_out
      exact step m c t _ i
    · rw [outsAt0_B m c t h h1]
      frame_out
      exact step m c t _ i

/-- The rounded copy is written from the block at the last point. -/
theorem copy (c : Dev nD) (t : Fin cfg0.N) (ht : t.val % 8 = 7) (i : S1x1024x1408.Idx) :
    (outsAt0 m c t.val t.isLt).2 i = (outsAt0 m c t.val t.isLt).1 i := by
  rw [outsAt0_C m c t (by omega) ht]
  frame_out
  pointwise [k0_pay3]

theorem eta (y : S1x1024x1408.Idx) : ∃ (a : Fin 1024) (b : Fin 1408), y = ix3 0 a b :=
  ⟨y 1, y 2, by funext i; fin_cases i <;> first | rfl | exact Subsingleton.elim (α := Fin 1) _ _⟩

theorem arr2 (c : Dev nD) : (dats m 0 c).arrAt 2 cfg0.N = fun y => grad m c (y 0) (y 1) (y 2) := by
  refine (dats m 0 c).arrAt_eq_of_covers 2 _ (by decide +kernel) fun t hf y => ?_
  have ht : t.val % 8 = 7 := (flush0_2 t).mp hf
  blk_simp
  obtain ⟨a, b, rfl⟩ := eta y
  have ey : (((View.whole main_v0_0).slice (win0_2.rect t)).emb (ix3 0 a b)) = ix3 (shard t) a b := by blk_ext [idx t]
  rw [ey, after0_2]
  exact acc m c t ht a b

theorem arr3 (c : Dev nD) : (dats m 0 c).arrAt 3 cfg0.N = fun y => grad m c (y 0) (y 1) (y 2) := by
  refine (dats m 0 c).arrAt_eq_of_covers 3 _ (by decide +kernel) fun t hf y => ?_
  have ht : t.val % 8 = 7 := (flush0_3 t).mp hf
  blk_simp
  obtain ⟨a, b, rfl⟩ := eta y
  have ey : (((View.whole main_v0_1).slice (win0_3.rect t)).emb (ix3 0 a b)) = ix3 (shard t) a b := by blk_ext [idx t]
  rw [ey, after0_3, copy m c t ht]
  exact acc m c t ht a b

end Cert.Kernel2Ideal.Dw

end
-- ==== Proof.Dw2Claim.lean ====
/-
  The gated layer's weight gradient: the call's two results are the reference's.
-/
module

public import proofs.«01_k».proof.Defs
public import proofs.«01_k».proof.Proof.Gen.Kernel2.Frame
public import proofs.«01_k».proof.Proof.Gen.Reference2Ideal.Run
public import proofs.«01_k».proof.Proof.Gen.Reference2Ideal.Read
public import proofs.«01_k».proof.Proof.Dw2

@[expose] public section

set_option maxRecDepth 16384

noncomputable section

namespace Cert.Proof.Dw2

open Idealize.ShloMosaic Idealize.ShloMosaic.TcCoe Idealize.SL.Sem
open Cert.Reference2Ideal Cert.Reference2Ideal.Read Cert.Kernel2Ideal.Dw

/-- The reference's product at one entry of a shard. -/
theorem ref7 (x0 : FVec Ideal S16384x1024 .bf16) (x1 : FVec Ideal S16384x5632 .bf16) :
    val_main_v7 (F := Ideal) x0 x1 = fun y => ∑ s : Fin 16384, x0 (ix2 s (y 1)) * x1 (ix2 s (col (y 0) (y 2))) := by
  funext y
  rw [val_main_v7_apply, val_main_v6_apply, val_main_v5_apply, val_main_v4_apply]
  refine Finset.sum_congr rfl fun s _ => ?_
  rw [mul_comm]
  congr 1
  · blk_ext [val_main_v0]
  · blk_ext [val_main_v1]

theorem ref8 (x0 : FVec Ideal S16384x1024 .bf16) (x1 : FVec Ideal S16384x5632 .bf16) :
    val_main_v8 (F := Ideal) x0 x1 = val_main_v7 (F := Ideal) x0 x1 := by
  funext y
  rw [val_main_v8_apply]
  generalize val_main_v7 (F := Ideal) x0 x1 y = z
  rfl

theorem frame_r : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run m ρ)

theorem value : Cert.algebraic_Kernel2Ideal_Reference2Ideal (hKernel2Ideal := Cert.Kernel2Ideal.Gen.facts)
    (hReference2Ideal := Cert.Reference2Ideal.Gen.facts) := by
  pair_intro
  run_from Cert.Kernel2Ideal.Value.run_blocks m g
  refine (θ_run Cert.Reference2Ideal.defs _ _).mono (fun r h c => ?_) (Cert.Reference2Ideal.Value.run m' g')
  obtain ⟨r7, r8, k⟩ := h c
  obtain ⟨e0, e1⟩ := hagree c
  rw [e0, e1] at r7 r8
  exact ⟨((r7.trans (val_main_v7_eq _ _)).trans (ref7 _ _)).trans (arr2 m c).symm,
    (((r8.trans (val_main_v8_eq _ _)).trans (ref8 _ _)).trans (ref7 _ _)).trans (arr3 m c).symm, k⟩

end Cert.Proof.Dw2

end
-- ==== Proof.Dw3.lean ====
/-
  The down projection's weight gradient: what the product call leaves in its two results.
-/
module

public import proofs.«01_k».proof.Proof.Gen.Kernel3Ideal.Value
public import proofs.«01_k».proof.Proof.DwSum

@[expose] public section

set_option maxRecDepth 16384

noncomputable section

namespace Cert.Kernel3Ideal.Dw

open Cert.Kernel3Ideal Cert.Kernel3Ideal.Gen Idealize.ShloMosaic Idealize.ShloMosaic.TcCoe Idealize.SL.Sem
open DwSum (batch lane)

variable (m : (ℓ : Loc nD τ sig) → Buf (Elt Ideal) ℓ)

theorem pay2_at (o : FVec Ideal S1x2816x1024 .f32) (x : FVec Ideal S1024x2816 .bf16) (y : FVec Ideal S1024x1024 .bf16)
    (a : Fin 2816) (b : Fin 1024) :
    k0_pay2 (F := Ideal) o x y (ix3 0 a b) = o (ix3 0 a b) + ∑ s : Fin 1024, x (ix2 s a) * y (ix2 s b) := by
  pointwise [k0_pay2]

/-- The activations and the gradient, by row. -/
abbrev xA (c : Dev nD) : Fin 16384 → Fin 2816 → EReal := fun s a => m ((c.tc : Thread nD τ).loc main_arg0) (ix2 s a)
abbrev yA (c : Dev nD) : Fin 16384 → Fin 1024 → EReal := fun s b => m ((c.tc : Thread nD τ).loc main_arg1) (ix2 s b)

theorem idx : ∀ t : Fin cfg0.N, win0_0.index t = ![t.val % 16, 0] ∧ win0_1.index t = ![t.val % 16, t.val / 16]
    ∧ win0_2.index t = ![t.val / 16, 0, 0] ∧ win0_3.index t = ![t.val / 16, 0, 0] :=
  (by decide +kernel : ∀ t : Fin grid0.N, _)

/-- The column shard a grid point works on, and the rows it reads. -/
abbrev shard (t : Fin cfg0.N) : Fin 1 := batch (J := 16) N_0 t
abbrev row (t : Fin cfg0.N) (s : Fin 1024) : Fin 16384 := lane (J := 16) (by decide) (by decide) t s
/-- Column `b` of shard `j`. -/
abbrev col (j : Fin 1) (b : Fin 1024) : Fin 1024 := ⟨j.val * 1024 + b.val, by omega⟩

theorem x_blk (c : Dev nD) (t : Fin cfg0.N) (s : Fin 1024) (a : Fin 2816) : iblk m c 0 t (ix2 s a) = xA m c (row t s) a := by
  show _ = m ((c.tc : Thread nD τ).loc main_arg0) (ix2 (row t s) a)
  blk_ext [iblk, V, idx t]

theorem y_blk (c : Dev nD) (t : Fin cfg0.N) (s : Fin 1024) (b : Fin 1024) :
    iblk m c 1 t (ix2 s b) = yA m c (row t s) (col (shard t) b) := by
  show _ = m ((c.tc : Thread nD τ).loc main_arg1) (ix2 (row t s) (col (shard t) b))
  blk_ext [iblk, V, idx t]

theorem step (c : Dev nD) (t : Fin cfg0.N) (o : FVec Ideal S1x2816x1024 .f32) (i : Fin 2816 × Fin 1024) :
    k0_pay2 (F := Ideal) o (iblk m c 0 t) (iblk m c 1 t) (ix3 0 i.1 i.2)
      = o (ix3 0 i.1 i.2) + ∑ s : Fin 1024, xA m c (row t s) i.1 * yA m c (row t s) (col (shard t) i.2) := by
  rw [pay2_at]
  refine congrArg (_ + ·) (Finset.sum_congr rfl fun s _ => ?_)
  rw [x_blk, y_blk]

/-- The gradient, shard by shard. -/
abbrev grad (c : Dev nD) (j : Fin 1) (a : Fin 2816) (b : Fin 1024) : EReal := ∑ s : Fin 16384, xA m c s a * yA m c s (col j b)

/-- At the last point of a shard's run the block holds the product over all rows. -/
theorem acc (c : Dev nD) (t : Fin cfg0.N) (ht : t.val % 16 = 15) (a : Fin 2816) (b : Fin 1024) :
    (outsAt0 m c t.val t.isLt).1 (ix3 0 a b) = grad m c (shard t) a b := by
  refine DwSum.acc_run (J := 16) (A := 1) (n := 1024) (by decide) N_0 (by decide) (fun n h i => (outsAt0 m c n h).1 (ix3 0 i.1 i.2))
    (fun j s i => xA m c s i.1 * yA m c s (col j i.2)) (fun t h i => ?_) (fun t h i => ?_) t ht (a, b)
  · rw [outsAt0_A m c t h (by omega)]
    frame_out
    refine (step m c t _ i).trans (congrArg (· + _) ?_)
    pointwise [k0_pay1]
  · by_cases h1 : t.val % 16 = 15
    · rw [outsAt0_C m c t h h1]
      frame_out
      exact step m c t _ i
    · rw [outsAt0_B m c t h h1]
      frame_out
      exact step m c t _ i

/-- The rounded copy is written from the block at the last point. -/
theorem copy (c : Dev nD) (t : Fin cfg0.N) (ht : t.val % 16 = 15) (i : S1x2816x1024.Idx) :
    (outsAt0 m c t.val t.isLt).2 i = (outsAt0 m c t.val t.isLt).1 i := by
  rw [outsAt0_C m c t (by omega) ht]
  frame_out
  pointwise [k0_pay3]

theorem eta (y : S1x2816x1024.Idx) : ∃ (a : Fin 2816) (b : Fin 1024), y = ix3 0 a b :=
  ⟨y 1, y 2, by funext i; fin_cases i <;> first | rfl | exact Subsingleton.elim (α := Fin 1) _ _⟩

theorem arr2 (c : Dev nD) : (dats m 0 c).arrAt 2 cfg0.N = fun y => grad m c (y 0) (y 1) (y 2) := by
  refine (dats m 0 c).arrAt_eq_of_covers 2 _ (by decide +kernel) fun t hf y => ?_
  have ht : t.val % 16 = 15 := (flush0_2 t).mp hf
  blk_simp
  obtain ⟨a, b, rfl⟩ := eta y
  have ey : (((View.whole main_v0_0).slice (win0_2.rect t)).emb (ix3 0 a b)) = ix3 (shard t) a b := by blk_ext [idx t]
  rw [ey, after0_2]
  exact acc m c t ht a b

theorem arr3 (c : Dev nD) : (dats m 0 c).arrAt 3 cfg0.N = fun y => grad m c (y 0) (y 1) (y 2) := by
  refine (dats m 0 c).arrAt_eq_of_covers 3 _ (by decide +kernel) fun t hf y => ?_
  have ht : t.val % 16 = 15 := (flush0_3 t).mp hf
  blk_simp
  obtain ⟨a, b, rfl⟩ := eta y
  have ey : (((View.whole main_v0_1).slice (win0_3.rect t)).emb (ix3 0 a b)) = ix3 (shard t) a b := by blk_ext [idx t]
  rw [ey, after0_3, copy m c t ht]
  exact acc m c t ht a b

end Cert.Kernel3Ideal.Dw

end
-- ==== Proof.Dw3Claim.lean ====
/-
  The down projection's weight gradient: the call's two results are the reference's.
-/
module

public import proofs.«01_k».proof.Defs
public import proofs.«01_k».proof.Proof.Gen.Kernel3.Frame
public import proofs.«01_k».proof.Proof.Gen.Reference3Ideal.Run
public import proofs.«01_k».proof.Proof.Gen.Reference3Ideal.Read
public import proofs.«01_k».proof.Proof.Dw3

@[expose] public section

set_option maxRecDepth 16384

noncomputable section

namespace Cert.Proof.Dw3

open Idealize.ShloMosaic Idealize.ShloMosaic.TcCoe Idealize.SL.Sem
open Cert.Reference3Ideal Cert.Reference3Ideal.Read Cert.Kernel3Ideal.Dw

/-- The reference's product at one entry of a shard. -/
theorem ref7 (x0 : FVec Ideal S16384x2816 .bf16) (x1 : FVec Ideal S16384x1024 .bf16) :
    val_main_v7 (F := Ideal) x0 x1 = fun y => ∑ s : Fin 16384, x0 (ix2 s (y 1)) * x1 (ix2 s (col (y 0) (y 2))) := by
  funext y
  rw [val_main_v7_apply, val_main_v6_apply, val_main_v5_apply, val_main_v4_apply]
  refine Finset.sum_congr rfl fun s _ => ?_
  rw [mul_comm]
  congr 1
  · blk_ext [val_main_v0]
  · blk_ext [val_main_v1]

theorem ref8 (x0 : FVec Ideal S16384x2816 .bf16) (x1 : FVec Ideal S16384x1024 .bf16) :
    val_main_v8 (F := Ideal) x0 x1 = val_main_v7 (F := Ideal) x0 x1 := by
  funext y
  rw [val_main_v8_apply]
  generalize val_main_v7 (F := Ideal) x0 x1 y = z
  rfl

theorem frame_r : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run m ρ)

theorem value : Cert.algebraic_Kernel3Ideal_Reference3Ideal (hKernel3Ideal := Cert.Kernel3Ideal.Gen.facts)
    (hReference3Ideal := Cert.Reference3Ideal.Gen.facts) := by
  pair_intro
  run_from Cert.Kernel3Ideal.Value.run_blocks m g
  refine (θ_run Cert.Reference3Ideal.defs _ _).mono (fun r h c => ?_) (Cert.Reference3Ideal.Value.run m' g')
  obtain ⟨r7, r8, k⟩ := h c
  obtain ⟨e0, e1⟩ := hagree c
  rw [e0, e1] at r7 r8
  exact ⟨((r7.trans (val_main_v7_eq _ _)).trans (ref7 _ _)).trans (arr2 m c).symm,
    (((r8.trans (val_main_v8_eq _ _)).trans (ref8 _ _)).trans (ref7 _ _)).trans (arr3 m c).symm, k⟩

end Cert.Proof.Dw3

end
-- ==== Proof.Dw4.lean ====
/-
  The branches' input projection's weight gradient: what the product call leaves in its two results.
-/
module

public import proofs.«01_k».proof.Proof.Gen.Kernel4Ideal.Value
public import proofs.«01_k».proof.Proof.DwSum

@[expose] public section

set_option maxRecDepth 16384

noncomputable section

namespace Cert.Kernel4Ideal.Dw

open Cert.Kernel4Ideal Cert.Kernel4Ideal.Gen Idealize.ShloMosaic Idealize.ShloMosaic.TcCoe Idealize.SL.Sem
open DwSum (batch lane)

variable (m : (ℓ : Loc nD τ sig) → Buf (Elt Ideal) ℓ)

theorem pay2_at (o : FVec Ideal S1x1024x1536 .f32) (x : FVec Ideal S2048x1024 .bf16) (y : FVec Ideal S2048x1536 .bf16)
    (a : Fin 1024) (b : Fin 1536) :
    k0_pay2 (F := Ideal) o x y (ix3 0 a b) = o (ix3 0 a b) + ∑ s : Fin 2048, x (ix2 s a) * y (ix2 s b) := by
  pointwise [k0_pay2]

/-- The activations and the gradient, by row. -/
abbrev xA (c : Dev nD) : Fin 16384 → Fin 1024 → EReal := fun s a => m ((c.tc : Thread nD τ).loc main_arg0) (ix2 s a)
abbrev yA (c : Dev nD) : Fin 16384 → Fin 6144 → EReal := fun s b => m ((c.tc : Thread nD τ).loc main_arg1) (ix2 s b)

theorem idx : ∀ t : Fin cfg0.N, win0_0.index t = ![t.val % 8, 0] ∧ win0_1.index t = ![t.val % 8, t.val / 8]
    ∧ win0_2.index t = ![t.val / 8, 0, 0] ∧ win0_3.index t = ![t.val / 8, 0, 0] :=
  (by decide +kernel : ∀ t : Fin grid0.N, _)

/-- The column shard a grid point works on, and the rows it reads. -/
abbrev shard (t : Fin cfg0.N) : Fin 4 := batch (J := 8) N_0 t
abbrev row (t : Fin cfg0.N) (s : Fin 2048) : Fin 16384 := lane (J := 8) (by decide) (by decide) t s
/-- Column `b` of shard `j`. -/
abbrev col (j : Fin 4) (b : Fin 1536) : Fin 6144 := ⟨j.val * 1536 + b.val, by omega⟩

theorem x_blk (c : Dev nD) (t : Fin cfg0.N) (s : Fin 2048) (a : Fin 1024) : iblk m c 0 t (ix2 s a) = xA m c (row t s) a := by
  show _ = m ((c.tc : Thread nD τ).loc main_arg0) (ix2 (row t s) a)
  blk_ext [iblk, V, idx t]

theorem y_blk (c : Dev nD) (t : Fin cfg0.N) (s : Fin 2048) (b : Fin 1536) :
    iblk m c 1 t (ix2 s b) = yA m c (row t s) (col (shard t) b) := by
  show _ = m ((c.tc : Thread nD τ).loc main_arg1) (ix2 (row t s) (col (shard t) b))
  blk_ext [iblk, V, idx t]

theorem step (c : Dev nD) (t : Fin cfg0.N) (o : FVec Ideal S1x1024x1536 .f32) (i : Fin 1024 × Fin 1536) :
    k0_pay2 (F := Ideal) o (iblk m c 0 t) (iblk m c 1 t) (ix3 0 i.1 i.2)
      = o (ix3 0 i.1 i.2) + ∑ s : Fin 2048, xA m c (row t s) i.1 * yA m c (row t s) (col (shard t) i.2) := by
  rw [pay2_at]
  refine congrArg (_ + ·) (Finset.sum_congr rfl fun s _ => ?_)
  rw [x_blk, y_blk]

/-- The gradient, shard by shard. -/
abbrev grad (c : Dev nD) (j : Fin 4) (a : Fin 1024) (b : Fin 1536) : EReal := ∑ s : Fin 16384, xA m c s a * yA m c s (col j b)

/-- At the last point of a shard's run the block holds the product over all rows. -/
theorem acc (c : Dev nD) (t : Fin cfg0.N) (ht : t.val % 8 = 7) (a : Fin 1024) (b : Fin 1536) :
    (outsAt0 m c t.val t.isLt).1 (ix3 0 a b) = grad m c (shard t) a b := by
  refine DwSum.acc_run (J := 8) (A := 4) (n := 2048) (by decide) N_0 (by decide) (fun n h i => (outsAt0 m c n h).1 (ix3 0 i.1 i.2))
    (fun j s i => xA m c s i.1 * yA m c s (col j i.2)) (fun t h i => ?_) (fun t h i => ?_) t ht (a, b)
  · rw [outsAt0_A m c t h (by omega)]
    frame_out
    refine (step m c t _ i).trans (congrArg (· + _) ?_)
    pointwise [k0_pay1]
  · by_cases h1 : t.val % 8 = 7
    · rw [outsAt0_C m c t h h1]
      frame_out
      exact step m c t _ i
    · rw [outsAt0_B m c t h h1]
      frame_out
      exact step m c t _ i

/-- The rounded copy is written from the block at the last point. -/
theorem copy (c : Dev nD) (t : Fin cfg0.N) (ht : t.val % 8 = 7) (i : S1x1024x1536.Idx) :
    (outsAt0 m c t.val t.isLt).2 i = (outsAt0 m c t.val t.isLt).1 i := by
  rw [outsAt0_C m c t (by omega) ht]
  frame_out
  pointwise [k0_pay3]

theorem eta (y : S1x1024x1536.Idx) : ∃ (a : Fin 1024) (b : Fin 1536), y = ix3 0 a b :=
  ⟨y 1, y 2, by funext i; fin_cases i <;> first | rfl | exact Subsingleton.elim (α := Fin 1) _ _⟩

theorem arr2 (c : Dev nD) : (dats m 0 c).arrAt 2 cfg0.N = fun y => grad m c (y 0) (y 1) (y 2) := by
  refine (dats m 0 c).arrAt_eq_of_covers 2 _ (by decide +kernel) fun t hf y => ?_
  have ht : t.val % 8 = 7 := (flush0_2 t).mp hf
  blk_simp
  obtain ⟨a, b, rfl⟩ := eta y
  have ey : (((View.whole main_v0_0).slice (win0_2.rect t)).emb (ix3 0 a b)) = ix3 (shard t) a b := by blk_ext [idx t]
  rw [ey, after0_2]
  exact acc m c t ht a b

theorem arr3 (c : Dev nD) : (dats m 0 c).arrAt 3 cfg0.N = fun y => grad m c (y 0) (y 1) (y 2) := by
  refine (dats m 0 c).arrAt_eq_of_covers 3 _ (by decide +kernel) fun t hf y => ?_
  have ht : t.val % 8 = 7 := (flush0_3 t).mp hf
  blk_simp
  obtain ⟨a, b, rfl⟩ := eta y
  have ey : (((View.whole main_v0_1).slice (win0_3.rect t)).emb (ix3 0 a b)) = ix3 (shard t) a b := by blk_ext [idx t]
  rw [ey, after0_3, copy m c t ht]
  exact acc m c t ht a b

end Cert.Kernel4Ideal.Dw

end
-- ==== Proof.Dw4Claim.lean ====
/-
  The branches' input projection's weight gradient: the call's two results are the reference's.
-/
module

public import proofs.«01_k».proof.Defs
public import proofs.«01_k».proof.Proof.Gen.Kernel4.Frame
public import proofs.«01_k».proof.Proof.Gen.Reference4Ideal.Run
public import proofs.«01_k».proof.Proof.Gen.Reference4Ideal.Read
public import proofs.«01_k».proof.Proof.Dw4

@[expose] public section

set_option maxRecDepth 16384

noncomputable section

namespace Cert.Proof.Dw4

open Idealize.ShloMosaic Idealize.ShloMosaic.TcCoe Idealize.SL.Sem
open Cert.Reference4Ideal Cert.Reference4Ideal.Read Cert.Kernel4Ideal.Dw

/-- The reference's product at one entry of a shard. -/
theorem ref7 (x0 : FVec Ideal S16384x1024 .bf16) (x1 : FVec Ideal S16384x6144 .bf16) :
    val_main_v7 (F := Ideal) x0 x1 = fun y => ∑ s : Fin 16384, x0 (ix2 s (y 1)) * x1 (ix2 s (col (y 0) (y 2))) := by
  funext y
  rw [val_main_v7_apply, val_main_v6_apply, val_main_v5_apply, val_main_v4_apply]
  refine Finset.sum_congr rfl fun s _ => ?_
  rw [mul_comm]
  congr 1
  · blk_ext [val_main_v0]
  · blk_ext [val_main_v1]

theorem ref8 (x0 : FVec Ideal S16384x1024 .bf16) (x1 : FVec Ideal S16384x6144 .bf16) :
    val_main_v8 (F := Ideal) x0 x1 = val_main_v7 (F := Ideal) x0 x1 := by
  funext y
  rw [val_main_v8_apply]
  generalize val_main_v7 (F := Ideal) x0 x1 y = z
  rfl

theorem frame_r : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run m ρ)

theorem value : Cert.algebraic_Kernel4Ideal_Reference4Ideal (hKernel4Ideal := Cert.Kernel4Ideal.Gen.facts)
    (hReference4Ideal := Cert.Reference4Ideal.Gen.facts) := by
  pair_intro
  run_from Cert.Kernel4Ideal.Value.run_blocks m g
  refine (θ_run Cert.Reference4Ideal.defs _ _).mono (fun r h c => ?_) (Cert.Reference4Ideal.Value.run m' g')
  obtain ⟨r7, r8, k⟩ := h c
  obtain ⟨e0, e1⟩ := hagree c
  rw [e0, e1] at r7 r8
  exact ⟨((r7.trans (val_main_v7_eq _ _)).trans (ref7 _ _)).trans (arr2 m c).symm,
    (((r8.trans (val_main_v8_eq _ _)).trans (ref8 _ _)).trans (ref7 _ _)).trans (arr3 m c).symm, k⟩

end Cert.Proof.Dw4

end
-- ==== Proof.Dw5.lean ====
/-
  The weight gradient of a square projection: what the product call leaves in its two results.
-/
module

public import proofs.«01_k».proof.Proof.Gen.Kernel5Ideal.Value
public import proofs.«01_k».proof.Proof.DwSum

@[expose] public section

set_option maxRecDepth 16384

noncomputable section

namespace Cert.Kernel5Ideal.Dw

open Cert.Kernel5Ideal Cert.Kernel5Ideal.Gen Idealize.ShloMosaic Idealize.ShloMosaic.TcCoe Idealize.SL.Sem
open DwSum (batch lane)

variable (m : (ℓ : Loc nD τ sig) → Buf (Elt Ideal) ℓ)

theorem pay2_at (o : FVec Ideal S1x1024x1024 .f32) (x : FVec Ideal S2048x1024 .bf16) (y : FVec Ideal S2048x1024 .bf16)
    (a : Fin 1024) (b : Fin 1024) :
    k0_pay2 (F := Ideal) o x y (ix3 0 a b) = o (ix3 0 a b) + ∑ s : Fin 2048, x (ix2 s a) * y (ix2 s b) := by
  pointwise [k0_pay2]

/-- The activations and the gradient, by row. -/
abbrev xA (c : Dev nD) : Fin 16384 → Fin 1024 → EReal := fun s a => m ((c.tc : Thread nD τ).loc main_arg0) (ix2 s a)
abbrev yA (c : Dev nD) : Fin 16384 → Fin 1024 → EReal := fun s b => m ((c.tc : Thread nD τ).loc main_arg1) (ix2 s b)

theorem idx : ∀ t : Fin cfg0.N, win0_0.index t = ![t.val % 8, 0] ∧ win0_1.index t = ![t.val % 8, t.val / 8]
    ∧ win0_2.index t = ![t.val / 8, 0, 0] ∧ win0_3.index t = ![t.val / 8, 0, 0] :=
  (by decide +kernel : ∀ t : Fin grid0.N, _)

/-- The column shard a grid point works on, and the rows it reads. -/
abbrev shard (t : Fin cfg0.N) : Fin 1 := batch (J := 8) N_0 t
abbrev row (t : Fin cfg0.N) (s : Fin 2048) : Fin 16384 := lane (J := 8) (by decide) (by decide) t s
/-- Column `b` of shard `j`. -/
abbrev col (j : Fin 1) (b : Fin 1024) : Fin 1024 := ⟨j.val * 1024 + b.val, by omega⟩

theorem x_blk (c : Dev nD) (t : Fin cfg0.N) (s : Fin 2048) (a : Fin 1024) : iblk m c 0 t (ix2 s a) = xA m c (row t s) a := by
  show _ = m ((c.tc : Thread nD τ).loc main_arg0) (ix2 (row t s) a)
  blk_ext [iblk, V, idx t]

theorem y_blk (c : Dev nD) (t : Fin cfg0.N) (s : Fin 2048) (b : Fin 1024) :
    iblk m c 1 t (ix2 s b) = yA m c (row t s) (col (shard t) b) := by
  show _ = m ((c.tc : Thread nD τ).loc main_arg1) (ix2 (row t s) (col (shard t) b))
  blk_ext [iblk, V, idx t]

theorem step (c : Dev nD) (t : Fin cfg0.N) (o : FVec Ideal S1x1024x1024 .f32) (i : Fin 1024 × Fin 1024) :
    k0_pay2 (F := Ideal) o (iblk m c 0 t) (iblk m c 1 t) (ix3 0 i.1 i.2)
      = o (ix3 0 i.1 i.2) + ∑ s : Fin 2048, xA m c (row t s) i.1 * yA m c (row t s) (col (shard t) i.2) := by
  rw [pay2_at]
  refine congrArg (_ + ·) (Finset.sum_congr rfl fun s _ => ?_)
  rw [x_blk, y_blk]

/-- The gradient, shard by shard. -/
abbrev grad (c : Dev nD) (j : Fin 1) (a : Fin 1024) (b : Fin 1024) : EReal := ∑ s : Fin 16384, xA m c s a * yA m c s (col j b)

/-- At the last point of a shard's run the block holds the product over all rows. -/
theorem acc (c : Dev nD) (t : Fin cfg0.N) (ht : t.val % 8 = 7) (a : Fin 1024) (b : Fin 1024) :
    (outsAt0 m c t.val t.isLt).1 (ix3 0 a b) = grad m c (shard t) a b := by
  refine DwSum.acc_run (J := 8) (A := 1) (n := 2048) (by decide) N_0 (by decide) (fun n h i => (outsAt0 m c n h).1 (ix3 0 i.1 i.2))
    (fun j s i => xA m c s i.1 * yA m c s (col j i.2)) (fun t h i => ?_) (fun t h i => ?_) t ht (a, b)
  · rw [outsAt0_A m c t h (by omega)]
    frame_out
    refine (step m c t _ i).trans (congrArg (· + _) ?_)
    pointwise [k0_pay1]
  · by_cases h1 : t.val % 8 = 7
    · rw [outsAt0_C m c t h h1]
      frame_out
      exact step m c t _ i
    · rw [outsAt0_B m c t h h1]
      frame_out
      exact step m c t _ i

/-- The rounded copy is written from the block at the last point. -/
theorem copy (c : Dev nD) (t : Fin cfg0.N) (ht : t.val % 8 = 7) (i : S1x1024x1024.Idx) :
    (outsAt0 m c t.val t.isLt).2 i = (outsAt0 m c t.val t.isLt).1 i := by
  rw [outsAt0_C m c t (by omega) ht]
  frame_out
  pointwise [k0_pay3]

theorem eta (y : S1x1024x1024.Idx) : ∃ (a : Fin 1024) (b : Fin 1024), y = ix3 0 a b :=
  ⟨y 1, y 2, by funext i; fin_cases i <;> first | rfl | exact Subsingleton.elim (α := Fin 1) _ _⟩

theorem arr2 (c : Dev nD) : (dats m 0 c).arrAt 2 cfg0.N = fun y => grad m c (y 0) (y 1) (y 2) := by
  refine (dats m 0 c).arrAt_eq_of_covers 2 _ (by decide +kernel) fun t hf y => ?_
  have ht : t.val % 8 = 7 := (flush0_2 t).mp hf
  blk_simp
  obtain ⟨a, b, rfl⟩ := eta y
  have ey : (((View.whole main_v0_0).slice (win0_2.rect t)).emb (ix3 0 a b)) = ix3 (shard t) a b := by blk_ext [idx t]
  rw [ey, after0_2]
  exact acc m c t ht a b

theorem arr3 (c : Dev nD) : (dats m 0 c).arrAt 3 cfg0.N = fun y => grad m c (y 0) (y 1) (y 2) := by
  refine (dats m 0 c).arrAt_eq_of_covers 3 _ (by decide +kernel) fun t hf y => ?_
  have ht : t.val % 8 = 7 := (flush0_3 t).mp hf
  blk_simp
  obtain ⟨a, b, rfl⟩ := eta y
  have ey : (((View.whole main_v0_1).slice (win0_3.rect t)).emb (ix3 0 a b)) = ix3 (shard t) a b := by blk_ext [idx t]
  rw [ey, after0_3, copy m c t ht]
  exact acc m c t ht a b

end Cert.Kernel5Ideal.Dw

end
-- ==== Proof.Dw5Claim.lean ====
/-
  The weight gradient of a square projection: the call's two results are the reference's.
-/
module

public import proofs.«01_k».proof.Defs
public import proofs.«01_k».proof.Proof.Gen.Kernel5.Frame
public import proofs.«01_k».proof.Proof.Gen.Reference5Ideal.Run
public import proofs.«01_k».proof.Proof.Gen.Reference5Ideal.Read
public import proofs.«01_k».proof.Proof.Dw5

@[expose] public section

set_option maxRecDepth 16384

noncomputable section

namespace Cert.Proof.Dw5

open Idealize.ShloMosaic Idealize.ShloMosaic.TcCoe Idealize.SL.Sem
open Cert.Reference5Ideal Cert.Reference5Ideal.Read Cert.Kernel5Ideal.Dw

/-- The reference's product at one entry of a shard. -/
theorem ref7 (x0 : FVec Ideal S16384x1024 .bf16) (x1 : FVec Ideal S16384x1024 .bf16) :
    val_main_v7 (F := Ideal) x0 x1 = fun y => ∑ s : Fin 16384, x0 (ix2 s (y 1)) * x1 (ix2 s (col (y 0) (y 2))) := by
  funext y
  rw [val_main_v7_apply, val_main_v6_apply, val_main_v5_apply, val_main_v4_apply]
  refine Finset.sum_congr rfl fun s _ => ?_
  rw [mul_comm]
  congr 1
  · blk_ext [val_main_v0]
  · blk_ext [val_main_v1]

theorem ref8 (x0 : FVec Ideal S16384x1024 .bf16) (x1 : FVec Ideal S16384x1024 .bf16) :
    val_main_v8 (F := Ideal) x0 x1 = val_main_v7 (F := Ideal) x0 x1 := by
  funext y
  rw [val_main_v8_apply]
  generalize val_main_v7 (F := Ideal) x0 x1 y = z
  rfl

theorem frame_r : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run m ρ)

theorem value : Cert.algebraic_Kernel5Ideal_Reference5Ideal (hKernel5Ideal := Cert.Kernel5Ideal.Gen.facts)
    (hReference5Ideal := Cert.Reference5Ideal.Gen.facts) := by
  pair_intro
  run_from Cert.Kernel5Ideal.Value.run_blocks m g
  refine (θ_run Cert.Reference5Ideal.defs _ _).mono (fun r h c => ?_) (Cert.Reference5Ideal.Value.run m' g')
  obtain ⟨r7, r8, k⟩ := h c
  obtain ⟨e0, e1⟩ := hagree c
  rw [e0, e1] at r7 r8
  exact ⟨((r7.trans (val_main_v7_eq _ _)).trans (ref7 _ _)).trans (arr2 m c).symm,
    (((r8.trans (val_main_v8_eq _ _)).trans (ref8 _ _)).trans (ref7 _ _)).trans (arr3 m c).symm, k⟩

end Cert.Proof.Dw5

end
-- ==== Proof.MixIn6.lean ====
/-
  The input side of the mixing block's backward pass: the call's values at one index and over the whole arrays.
-/
module

public import proofs.«01_k».proof.Proof.Gen.Kernel6Ideal.Value
public import proofs.«01_k».proof.Proof.FfnSpec
public import Idealize.ShloMosaic.Lib.Pipeline.ValueKit
public import Idealize.ShloMosaic.Lib.Pipeline.ReadBack

@[expose] public section

set_option maxRecDepth 16384

noncomputable section

namespace Cert.Kernel6Ideal.MixIn

open Cert.Kernel6Ideal Cert.Kernel6Ideal.Gen Idealize.ShloMosaic Idealize.ShloMosaic.TcCoe Idealize.SL.Sem FfnSpec

/-! ## The body's values at one index -/

section Pay

theorem pay6_at (g : FVec Ideal S1x1024 .f32) (d : Fin 1024) : k0_pay6 (F := Ideal) g (ix2 0 d) = g (ix2 0 d) := by
  pointwise [k0_pay6]
theorem pay7_at (h : FVec Ideal S512x1024 .f32) (s : Fin 512) : k0_pay7 (F := Ideal) h (ix2 s 0) = rinv fun d => h (ix2 s d) := by
  pointwise [k0_pay7, rinv]
theorem pay8_at (h : FVec Ideal S512x1024 .f32) (s : Fin 512) (d : Fin 1024) :
    k0_pay8 (F := Ideal) h (ix2 s d) = h (ix2 s d) * rinv fun d => h (ix2 s d) := by
  pointwise [k0_pay8]
  rw [pay7_at]
theorem pay9_at (p : FVec Ideal S512x1536 .bf16) (w : FVec Ideal S1x1024x1536 .bf16) (s : Fin 512) (d : Fin 1024) :
    k0_pay9 (F := Ideal) p w (ix2 s d) = ∑ k : Fin 1536, p (ix2 s k) * w (ix3 0 d k) := by
  pointwise [k0_pay9]
theorem pay13_at (a : FVec Ideal S512x1024 .f32) (p1 p2 p3 : FVec Ideal S512x1536 .bf16) (w1 w2 w3 : FVec Ideal S1x1024x1536 .bf16)
    (s : Fin 512) (d : Fin 1024) :
    k0_pay13 (F := Ideal) a p1 w1 p2 w2 p3 w3 (ix2 s d)
      = ((a (ix2 s d) + ∑ k : Fin 1536, p1 (ix2 s k) * w1 (ix3 0 d k)) + ∑ k : Fin 1536, p2 (ix2 s k) * w2 (ix3 0 d k))
        + ∑ k : Fin 1536, p3 (ix2 s k) * w3 (ix3 0 d k) := by
  pointwise [k0_pay13]
theorem pay3_at (h D ct : FVec Ideal S512x1024 .f32) (g : FVec Ideal S1x1024 .f32) (s : Fin 512) (d : Fin 1024) :
    k0_pay3 (F := Ideal) (k0_pay6 g) (k0_pay7 h) (k0_pay8 h) D ct (ix2 s d)
      = rowGrad (fun d => h (ix2 s d)) (fun d => ct (ix2 s d)) (fun d => g (ix2 0 d)) (fun d => D (ix2 s d)) d := by
  pointwise [k0_pay3, rowGrad]
  simp only [pay6_at, pay7_at, pay8_at]
theorem pay2_at (h D : FVec Ideal S512x1024 .f32) (a : FVec Ideal S1x1024 .f32) (d : Fin 1024) :
    k0_pay2 (F := Ideal) (k0_pay8 h) D a (ix2 0 d)
      = a (ix2 0 d) + ∑ s : Fin 512, D (ix2 s d) * (h (ix2 s d) * rinv fun d => h (ix2 s d)) := by
  pointwise [k0_pay2]
  simp only [pay8_at]
theorem pay10_at (p : FVec Ideal S512x1536 .bf16) (a : FVec Ideal S1x1536 .f32) (k : Fin 1536) :
    k0_pay10 (F := Ideal) p a (ix2 0 k) = a (ix2 0 k) + ∑ s : Fin 512, p (ix2 s k) := by
  pointwise [k0_pay10]
theorem pay11_at (p : FVec Ideal S512x1536 .bf16) (a : FVec Ideal S1x1536 .f32) (k : Fin 1536) :
    k0_pay11 (F := Ideal) p a (ix2 0 k) = a (ix2 0 k) + ∑ s : Fin 512, p (ix2 s k) := by
  pointwise [k0_pay11]
theorem pay12_at (p : FVec Ideal S512x1536 .bf16) (a : FVec Ideal S1x1536 .f32) (k : Fin 1536) :
    k0_pay12 (F := Ideal) p a (ix2 0 k) = a (ix2 0 k) + ∑ s : Fin 512, p (ix2 s k) := by
  pointwise [k0_pay12]
theorem pay1_at (p : FVec Ideal S512x1536 .bf16) (a : FVec Ideal S1x1536 .f32) (k : Fin 1536) :
    k0_pay1 (F := Ideal) (k0_pay14 a) (k0_pay15 p) (ix2 0 k) = a (ix2 0 k) + ∑ s : Fin 512, p (ix2 s k) := by
  pointwise [k0_pay1, k0_pay14, k0_pay15]
theorem pay4_at (d : Fin 1024) : k0_pay4 (F := Ideal) (ix2 0 d) = 0 := by
  pointwise [k0_pay4]
theorem pay5_at (d : Fin 6144) : k0_pay5 (F := Ideal) (ix2 0 d) = 0 := by
  pointwise [k0_pay5]

end Pay

/-! ## Blocks -/

variable (m : (ℓ : Loc nD τ sig) → Buf (Elt Ideal) ℓ)

abbrev hA (c : Dev nD) (s : Fin 16384) : Fin 1024 → EReal := fun d => m ((c.tc : Thread nD τ).loc main_arg0) (ix2 s d)
abbrev pA (c : Dev nD) (s : Fin 16384) : Fin 6144 → EReal := fun k => m ((c.tc : Thread nD τ).loc main_arg1) (ix2 s k)
abbrev ctA (c : Dev nD) (s : Fin 16384) : Fin 1024 → EReal := fun d => m ((c.tc : Thread nD τ).loc main_arg2) (ix2 s d)
abbrev gA (c : Dev nD) : Fin 1024 → EReal := fun d => m ((c.tc : Thread nD τ).loc main_arg3) (ix1 d)
abbrev wA (c : Dev nD) : Fin 1024 → Fin 6144 → EReal := fun d k => m ((c.tc : Thread nD τ).loc main_arg4) (ix2 d k)

/-- The gradient at a normalised row. -/
def dn (p : Fin 6144 → EReal) (W : Fin 1024 → Fin 6144 → EReal) (d : Fin 1024) : EReal := ∑ k, p k * W d k

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0]
    ∧ win0_7.index t = ![0, 0] :=
  (by decide +kernel : ∀ t : Fin grid0.N, _)

theorem N32 : cfg0.N = 32 := N_0
abbrev row (t : Fin cfg0.N) (s : Fin 512) : Fin 16384 := ⟨t.val * 512 + s.val, by have := t.isLt; have := N32; omega⟩
/-- Column `k` of quarter `j`. -/
abbrev col (j : Fin 4) (k : Fin 1536) : Fin 6144 := ⟨j.val * 1536 + k.val, by omega⟩

theorem p_blk (c : Dev nD) (t : Fin cfg0.N) (s : Fin 512) (k : Fin 6144) : iblk m c 0 t (ix2 s k) = pA m c (row t s) k := by
  show _ = m ((c.tc : Thread nD τ).loc main_arg1) (ix2 (row t s) k)
  blk_ext [iblk, V, idx t]
theorem h_blk (c : Dev nD) (t : Fin cfg0.N) (s : Fin 512) (d : Fin 1024) : iblk m c 1 t (ix2 s d) = hA m c (row t s) d := by
  show _ = m ((c.tc : Thread nD τ).loc main_arg0) (ix2 (row t s) d)
  blk_ext [iblk, V, idx t]
theorem ct_blk (c : Dev nD) (t : Fin cfg0.N) (s : Fin 512) (d : Fin 1024) : iblk m c 2 t (ix2 s d) = ctA m c (row t s) d := by
  show _ = m ((c.tc : Thread nD τ).loc main_arg2) (ix2 (row t s) d)
  blk_ext [iblk, V, idx t]
theorem g_blk (c : Dev nD) (t : Fin cfg0.N) (d : Fin 1024) : iblk m c 3 t (ix2 0 d) = gA m c d := by
  show _ = m ((c.tc : Thread nD τ).loc main_arg3) (ix1 d)
  blk_ext! [iblk, V, idx t]
theorem w_blk (c : Dev nD) (t : Fin cfg0.N) (d : Fin 1024) (k : Fin 6144) :
    iblk m c 4 t (ix3 ⟨k.val / 1536, by omega⟩ d ⟨k.val % 1536, by omega⟩) = wA m c d k := by
  show _ = m ((c.tc : Thread nD τ).loc main_arg4) (ix2 d k)
  blk_ext! [iblk, V, idx t]

theorem w_col (c : Dev nD) (t : Fin cfg0.N) (d : Fin 1024) (j : Fin 4) (k : Fin 1536) :
    iblk m c 4 t (ix3 j d k) = wA m c d (col j k) := by
  rw [← w_blk m c t]
  refine congrArg (iblk m c 4 t) (congrArg₂ (fun a b => ix3 a d b) (Fin.ext ?_) (Fin.ext ?_))
  · show j.val = (j.val * 1536 + k.val) / 1536; omega
  · show k.val = (j.val * 1536 + k.val) % 1536; omega
theorem w_ld0 (c : Dev nD) (t : Fin cfg0.N) (d : Fin 1024) (k : Fin 1536) :
    View.ld (iblk m c 4 t) (Rect.unit ![0, 0, 0] ![1, 1024, 1536] inb_S4x1024x1536_S1x1024x1536_0_0_0) (ix3 0 d k) = wA m c d (col 0 k) :=
  (View.ld_unit_apply_of _ _ _ _ _ (ix3 0 d k) fun a => by fin_cases a <;> simp [ix3]).trans (w_col m c t d 0 k)
theorem w_ld1 (c : Dev nD) (t : Fin cfg0.N) (d : Fin 1024) (k : Fin 1536) :
    View.ld (iblk m c 4 t) (Rect.unit ![1, 0, 0] ![1, 1024, 1536] inb_S4x1024x1536_S1x1024x1536_1_0_0) (ix3 0 d k) = wA m c d (col 1 k) :=
  (View.ld_unit_apply_of _ _ _ _ _ (ix3 1 d k) fun a => by fin_cases a <;> simp [ix3]).trans (w_col m c t d 1 k)
theorem w_ld2 (c : Dev nD) (t : Fin cfg0.N) (d : Fin 1024) (k : Fin 1536) :
    View.ld (iblk m c 4 t) (Rect.unit ![2, 0, 0] ![1, 1024, 1536] inb_S4x1024x1536_S1x1024x1536_2_0_0) (ix3 0 d k) = wA m c d (col 2 k) :=
  (View.ld_unit_apply_of _ _ _ _ _ (ix3 2 d k) fun a => by fin_cases a <;> simp [ix3]).trans (w_col m c t d 2 k)
theorem w_ld3 (c : Dev nD) (t : Fin cfg0.N) (d : Fin 1024) (k : Fin 1536) :
    View.ld (iblk m c 4 t) (Rect.unit ![3, 0, 0] ![1, 1024, 1536] inb_S4x1024x1536_S1x1024x1536_3_0_0) (ix3 0 d k) = wA m c d (col 3 k) :=
  (View.ld_unit_apply_of _ _ _ _ _ (ix3 3 d k) fun a => by fin_cases a <;> simp [ix3]).trans (w_col m c t d 3 k)
theorem p_ld0 (c : Dev nD) (t : Fin cfg0.N) (s : Fin 512) (k : Fin 1536) :
    View.ld (iblk m c 0 t) (Rect.unit ![0, 0] ![512, 1536] inb_S512x6144_S512x1536_0_0) (ix2 s k) = pA m c (row t s) (col 0 k) :=
  (View.ld_unit_apply_of _ _ _ _ _ (ix2 s (col 0 k)) fun a => by fin_cases a <;> simp [ix2]).trans (p_blk m c t s _)
theorem p_ld1 (c : Dev nD) (t : Fin cfg0.N) (s : Fin 512) (k : Fin 1536) :
    View.ld (iblk m c 0 t) (Rect.unit ![0, 1536] ![512, 1536] inb_S512x6144_S512x1536_0_1536) (ix2 s k) = pA m c (row t s) (col 1 k) :=
  (View.ld_unit_apply_of _ _ _ _ _ (ix2 s (col 1 k)) fun a => by fin_cases a <;> simp [ix2]).trans (p_blk m c t s _)
theorem p_ld2 (c : Dev nD) (t : Fin cfg0.N) (s : Fin 512) (k : Fin 1536) :
    View.ld (iblk m c 0 t) (Rect.unit ![0, 3072] ![512, 1536] inb_S512x6144_S512x1536_0_3072) (ix2 s k) = pA m c (row t s) (col 2 k) :=
  (View.ld_unit_apply_of _ _ _ _ _ (ix2 s (col 2 k)) fun a => by fin_cases a <;> simp [ix2]).trans (p_blk m c t s _)
theorem p_ld3 (c : Dev nD) (t : Fin cfg0.N) (s : Fin 512) (k : Fin 1536) :
    View.ld (iblk m c 0 t) (Rect.unit ![0, 4608] ![512, 1536] inb_S512x6144_S512x1536_0_4608) (ix2 s k) = pA m c (row t s) (col 3 k) :=
  (View.ld_unit_apply_of _ _ _ _ _ (ix2 s (col 3 k)) fun a => by fin_cases a <;> simp [ix2]).trans (p_blk m c t s _)

theorem dn_quarters (p : Fin 6144 → EReal) (W : Fin 1024 → Fin 6144 → EReal) (d : Fin 1024) :
    (((∑ k, p (col 0 k) * W d (col 0 k)) + ∑ k, p (col 1 k) * W d (col 1 k)) + ∑ k, p (col 2 k) * W d (col 2 k))
      + ∑ k, p (col 3 k) * W d (col 3 k) = dn p W d := by
  rw [dn, ← Fin.sum_mul_add_fin 4 1536 (fun k => p k * W d k) rfl, Fin.sum_univ_four]

/-- The gradient at the normalised row, as the body forms it. -/
theorem dn_point (c : Dev nD) (t : Fin cfg0.N) (s : Fin 512) (d : Fin 1024) :
    k0_pay13 (F := Ideal)
      (k0_pay9 (View.ld (iblk m c 0 t) (Rect.unit ![0, 0] ![512, 1536] inb_S512x6144_S512x1536_0_0))
        (View.ld (iblk m c 4 t) (Rect.unit ![0, 0, 0] ![1, 1024, 1536] inb_S4x1024x1536_S1x1024x1536_0_0_0)))
      (View.ld (iblk m c 0 t) (Rect.unit ![0, 1536] ![512, 1536] inb_S512x6144_S512x1536_0_1536))
      (View.ld (iblk m c 4 t) (Rect.unit ![1, 0, 0] ![1, 1024, 1536] inb_S4x1024x1536_S1x1024x1536_1_0_0))
      (View.ld (iblk m c 0 t) (Rect.unit ![0, 3072] ![512, 1536] inb_S512x6144_S512x1536_0_3072))
      (View.ld (iblk m c 4 t) (Rect.unit ![2, 0, 0] ![1, 1024, 1536] inb_S4x1024x1536_S1x1024x1536_2_0_0))
      (View.ld (iblk m c 0 t) (Rect.unit ![0, 4608] ![512, 1536] inb_S512x6144_S512x1536_0_4608))
      (View.ld (iblk m c 4 t) (Rect.unit ![3, 0, 0] ![1, 1024, 1536] inb_S4x1024x1536_S1x1024x1536_3_0_0)) (ix2 s d)
      = dn (pA m c (row t s)) (wA m c) d := by
  rw [pay13_at, pay9_at]
  simp only [p_ld0, p_ld1, p_ld2, p_ld3, w_ld0, w_ld1, w_ld2, w_ld3]
  exact dn_quarters _ _ _

/-- The row's gradient from values known entry by entry. -/
theorem pay3_row (h D ct : FVec Ideal S512x1024 .f32) (g : FVec Ideal S1x1024 .f32) (s : Fin 512) (d : Fin 1024) (D' : Fin 1024 → EReal)
    (hD : ∀ d, D (ix2 s d) = D' d) :
    k0_pay3 (F := Ideal) (k0_pay6 g) (k0_pay7 h) (k0_pay8 h) D ct (ix2 s d)
      = rowGrad (fun d => h (ix2 s d)) (fun d => ct (ix2 s d)) (fun d => g (ix2 0 d)) D' d :=
  (pay3_at h D ct g s d).trans (congrArg (fun f => rowGrad _ _ _ f d) (funext hD))
theorem pay2_row (h D : FVec Ideal S512x1024 .f32) (a : FVec Ideal S1x1024 .f32) (d : Fin 1024) (D' : Fin 512 → EReal)
    (hD : ∀ s, D (ix2 s d) = D' s) :
    k0_pay2 (F := Ideal) (k0_pay8 h) D a (ix2 0 d)
      = a (ix2 0 d) + ∑ s : Fin 512, D' s * (h (ix2 s d) * rinv fun d => h (ix2 s d)) :=
  (pay2_at h D a d).trans (congrArg _ (Finset.sum_congr rfl fun s _ => by rw [hD]))

theorem arr5 (c : Dev nD) : (dats m 0 c).arrAt 5 cfg0.N
    = fun y => rowGrad (hA m c (y 0)) (ctA m c (y 0)) (gA m c) (dn (pA m c (y 0)) (wA m c)) (y 1) := by
  refine (dats m 0 c).arrAt_eq_of_covers 5 _ (by decide +kernel) fun t hf y => ?_
  blk_simp
  have ey : (((View.whole main_v4_0).slice (win0_5.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_5]
  show _ = rowGrad (hA m c (row t s)) (ctA m c (row t s)) (gA m c) (dn (pA m c (row t s)) (wA m c)) d
  have key := fun D hD => pay3_row (iblk m c 1 t) D (iblk m c 2 t) (iblk m c 3 t) s d (dn (pA m c (row t s)) (wA m c)) hD
  simp only [h_blk, ct_blk, g_blk] at key
  by_cases h : t.val % 32 = 0
  · rw [outsAt0_A m c t h]
    frame_out
    exact key _ (dn_point m c t s)
  · rw [outsAt0_B m c t h]
    frame_out
    exact key _ (dn_point m c t s)

/-- The running sum over the grid of the scale's gradient. -/
theorem acc6 (c : Dev nD) (t : Fin cfg0.N) (ht : t.val + 1 = cfg0.N) (d : Fin 1024) :
    (outsAt0 m c t.val t.isLt).2.1 (ix2 0 d)
      = 0 + ∑ p : Fin cfg0.N, ∑ s : Fin 512, dn (pA m c (row p s)) (wA m c) d * (hA m c (row p s) d * rinv (hA m c (row p s))) := by
  refine Pipeline.eq_sum_fin_of_reset_step_apply_last (fun n h d => (outsAt0 m c n h).2.1 (ix2 0 d)) 32 (fun _ => 0)
    (fun p d => ∑ s : Fin 512, dn (pA m c (row p s)) (wA m c) d * (hA m c (row p s) d * rinv (hA m c (row p s))))
    (fun t h d => ?_) (fun t h d => ?_) (by decide) t ht d
  · rw [outsAt0_A m c t h]
    frame_out
    refine (pay2_row _ _ _ d _ (fun s => dn_point m c t s d)).trans ?_
    simp only [h_blk, pay4_at]
  · rw [outsAt0_B m c t h]
    frame_out
    refine (pay2_row _ _ _ d _ (fun s => dn_point m c t s d)).trans ?_
    simp only [h_blk]

/-- A quarter of the bias's running sum so far, as the body loads it. -/
theorem b_ld0 (a : FVec Ideal S1x6144 .f32) (k : Fin 1536) :
    View.ld (Val := Elt Ideal) (S := S1x6144) (e' := .f32) a (Rect.unit ![0, 0] ![1, 1536] inb_S1x6144_S1x1536_0_0) (ix2 0 k) = a (ix2 0 (col 0 k)) :=
  View.ld_unit_apply_of _ _ _ _ _ _ fun a => by fin_cases a <;> simp [ix2]
theorem b_ld1 (a : FVec Ideal S1x6144 .f32) (k : Fin 1536) :
    View.ld (Val := Elt Ideal) (S := S1x6144) (e' := .f32) a (Rect.unit ![0, 1536] ![1, 1536] inb_S1x6144_S1x1536_0_1536) (ix2 0 k) = a (ix2 0 (col 1 k)) :=
  View.ld_unit_apply_of _ _ _ _ _ _ fun a => by fin_cases a <;> simp [ix2]
theorem b_ld2 (a : FVec Ideal S1x6144 .f32) (k : Fin 1536) :
    View.ld (Val := Elt Ideal) (S := S1x6144) (e' := .f32) a (Rect.unit ![0, 3072] ![1, 1536] inb_S1x6144_S1x1536_0_3072) (ix2 0 k) = a (ix2 0 (col 2 k)) :=
  View.ld_unit_apply_of _ _ _ _ _ _ fun a => by fin_cases a <;> simp [ix2]
theorem b_ld3 (a : FVec Ideal S1x6144 .f32) (k : Fin 1536) :
    View.ld (Val := Elt Ideal) (S := S1x6144) (e' := .f32) a (Rect.unit ![0, 4608] ![1, 1536] inb_S1x6144_S1x1536_0_4608) (ix2 0 k) = a (ix2 0 (col 3 k)) :=
  View.ld_unit_apply_of _ _ _ _ _ _ fun a => by fin_cases a <;> simp [ix2]

/-- A sum of two numbers whose first one is known. -/
theorem sum_rows (c : Dev nD) (t : Fin cfg0.N) (j : Fin 4) (k : Fin 1536) {x y : EReal} {q : FVec Ideal S512x1536 .bf16} (hx : x = y)
    (hq : ∀ s, q (ix2 s k) = pA m c (row t s) (col j k)) :
    x + ∑ s : Fin 512, q (ix2 s k) = y + ∑ s : Fin 512, pA m c (row t s) (col j k) := by
  rw [hx]; exact congrArg _ (Finset.sum_congr rfl fun s _ => hq s)

/-- Writes that cover an index hide the earlier ones there. -/
theorem canon_append_of_cover {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩
theorem canon_fill4 {S : Shape} {e : EltTy} (a b c d z : View.Piece (Elt Ideal) S e) (y : S.Idx) (h : ∃ p ∈ [a, b, c, d], y ∈ p.1.set) :
    View.canon [a, b, c, d, z] y = View.canon [a, b, c, d] y := canon_append_of_cover [a, b, c, d] [z] y h

/-- An index of a piece put at column `b` of a row. -/
theorem piece_ix {N p : Nat} (x : (⟨2, ![1, p]⟩ : Shape).Idx) (s : Fin 1) (d : Fin N) (b : Nat) (hb : b + p ≤ N)
    (h0 : s.val = (x 0).val) (h1 : d.val = b + (x 1).val) :
    ∃ k : Fin p, x = ix2 0 k ∧ d = ⟨b + k.val, Nat.lt_of_lt_of_le (Nat.add_lt_add_left k.isLt b) hb⟩ :=
  ⟨x 1, funext fun a => by fin_cases a <;> apply Fin.ext <;> simp [ix2], Fin.ext h1⟩

theorem acc7 (c : Dev nD) (t : Fin cfg0.N) (ht : t.val + 1 = cfg0.N) (k : Fin 6144) :
    (outsAt0 m c t.val t.isLt).2.2 (ix2 0 k) = 0 + ∑ p : Fin cfg0.N, ∑ s : Fin 512, pA m c (row p s) k := by
  refine Pipeline.eq_sum_fin_of_reset_step_apply_last (fun n h k => (outsAt0 m c n h).2.2 (ix2 0 k)) 32 (fun _ => 0)
    (fun p k => ∑ s : Fin 512, pA m c (row p s) k) (fun t h k => ?_) (fun t h k => ?_) (by decide) t ht k
  · rw [outsAt0_A m c t h]
    frame_out
    simp (disch := decide) only [↓View.readCov_skip, ↓View.readCov_fill]
    refine (canon_fill4 _ _ _ _ _ _ (View.cover_of_tiled_head _ _ _ (by rfl) _)).trans ?_
    canon_tiles x h'
    · obtain ⟨k, rfl, rfl⟩ := piece_ix x 0 k 4608 (by decide) h'0 h'1
      exact (pay1_at _ _ k).trans (sum_rows m c t 3 k ((b_ld3 _ k).trans (pay5_at _)) fun s => p_ld3 m c t s k)
    · obtain ⟨k, rfl, rfl⟩ := piece_ix x 0 k 3072 (by decide) h'0 h'1
      exact (pay12_at _ _ k).trans (sum_rows m c t 2 k ((b_ld2 _ k).trans (pay5_at _)) fun s => p_ld2 m c t s k)
    · obtain ⟨k, rfl, rfl⟩ := piece_ix x 0 k 1536 (by decide) h'0 h'1
      exact (pay11_at _ _ k).trans (sum_rows m c t 1 k ((b_ld1 _ k).trans (pay5_at _)) fun s => p_ld1 m c t s k)
    · obtain ⟨k, rfl, rfl⟩ := piece_ix x 0 k 0 (by decide) h'0 (by rw [Nat.zero_add]; exact h'1)
      exact (pay10_at _ _ k).trans (sum_rows m c t 0 k ((b_ld0 _ k).trans (pay5_at _)) fun s => p_ld0 m c t s k)
  · rw [outsAt0_B m c t h]
    frame_out
    canon_tiles x h'
    · obtain ⟨k, rfl, rfl⟩ := piece_ix x 0 k 4608 (by decide) h'0 h'1
      exact (pay1_at _ _ k).trans (sum_rows m c t 3 k (b_ld3 _ k) fun s => p_ld3 m c t s k)
    · obtain ⟨k, rfl, rfl⟩ := piece_ix x 0 k 3072 (by decide) h'0 h'1
      exact (pay12_at _ _ k).trans (sum_rows m c t 2 k (b_ld2 _ k) fun s => p_ld2 m c t s k)
    · obtain ⟨k, rfl, rfl⟩ := piece_ix x 0 k 1536 (by decide) h'0 h'1
      exact (pay11_at _ _ k).trans (sum_rows m c t 1 k (b_ld1 _ k) fun s => p_ld1 m c t s k)
    · obtain ⟨k, rfl, rfl⟩ := piece_ix x 0 k 0 (by decide) h'0 (by rw [Nat.zero_add]; exact h'1)
      exact (pay10_at _ _ k).trans (sum_rows m c t 0 k (b_ld0 _ k) fun s => p_ld0 m c t s k)

theorem tile_sum (f : Fin 16384 → EReal) : 0 + ∑ p : Fin cfg0.N, ∑ s : Fin 512, f (row p s) = ∑ s, f s :=
  (zero_add _).trans (Fin.sum_mul_add_fin 32 512 f rfl)

abbrev tLast : Fin cfg0.N := ⟨31, by rw [N32]; decide⟩

theorem acc6_at (c : Dev nD) (t : Fin cfg0.N) (ht : t.val + 1 = cfg0.N) (y : S1x1024.Idx) :
    (outsAt0 m c t.val t.isLt).2.1 y = ∑ s : Fin 16384, dn (pA m c s) (wA m c) (y 1) * (hA m c s (y 1) * rinv (hA m c s)) := by
  obtain ⟨d, rfl⟩ : ∃ d : Fin 1024, y = ix2 0 d := ⟨y 1, by blk_ext [idx t]⟩
  exact (acc6 m c t ht d).trans (tile_sum fun s => dn (pA m c s) (wA m c) d * (hA m c s d * rinv (hA m c s)))
theorem acc7_at (c : Dev nD) (t : Fin cfg0.N) (ht : t.val + 1 = cfg0.N) (y : S1x6144.Idx) :
    (outsAt0 m c t.val t.isLt).2.2 y = ∑ s : Fin 16384, pA m c s (y 1) := by
  obtain ⟨k, rfl⟩ : ∃ k : Fin 6144, y = ix2 0 k := ⟨y 1, by blk_ext [idx t]⟩
  exact (acc7 m c t ht k).trans (tile_sum fun s => pA m c s k)

theorem arr6 (c : Dev nD) : (dats m 0 c).arrAt 6 cfg0.N
    = fun y => ∑ s : Fin 16384, dn (pA m c s) (wA m c) (y 1) * (hA m c s (y 1) * rinv (hA m c s)) := by
  refine (dats m 0 c).arrAt_eq_of_after_last 6 tLast (by decide +kernel) _ fun j => ?_
  blk_simp
  rw [after0_6]
  exact acc6_at m c tLast rfl _

theorem arr7 (c : Dev nD) : (dats m 0 c).arrAt 7 cfg0.N = fun y => ∑ s : Fin 16384, pA m c s (y 1) := by
  refine (dats m 0 c).arrAt_eq_of_after_last 7 tLast (by decide +kernel) _ fun j => ?_
  blk_simp
  rw [after0_7]
  exact acc7_at m c tLast rfl _

end Cert.Kernel6Ideal.MixIn

end
-- ==== Proof.MixIn6Claim.lean ====
/-
  The claims about the input side of the mixing block's backward pass: the frames, and the equality of its three results with the
  reference's.
-/
module

public import proofs.«01_k».proof.Proof.MixIn6
public import proofs.«01_k».proof.Proof.FfnAlg
public import proofs.«01_k».proof.Proof.Finite
public import proofs.«01_k».proof.Proof.Gen.Kernel6.Frame
public import proofs.«01_k».proof.Proof.Gen.Reference6Ideal.Run
public import proofs.«01_k».proof.Proof.Gen.Reference6Ideal.Read
public import proofs.«01_k».proof.Proof.Gen.Pre_finite6

@[expose] public section

set_option maxRecDepth 16384

noncomputable section

namespace Cert.Proof.MixIn6

open Idealize.ShloMosaic Idealize.ShloMosaic.TcCoe Idealize.SL.Sem RealVal FfnSpec
open Cert.Reference6Ideal Cert.Reference6Ideal.Read Cert.Kernel6Ideal.MixIn

section Ref

variable (x0 : FVec Ideal S16384x1024 .f32) (x1 : FVec Ideal S16384x6144 .bf16) (x2 : FVec Ideal S16384x1024 .f32)
  (x3 : FVec Ideal S1024 .f32) (x4 : FVec Ideal S1024x6144 .f32)

abbrev rowR (x : FVec Ideal S16384x1024 .f32) (s : Fin 16384) : Fin 1024 → EReal := fun d => x (ix2 s d)
abbrev pR (s : Fin 16384) : Fin 6144 → EReal := fun k => x1 (ix2 s k)
abbrev gR : Fin 1024 → EReal := fun d => x3 (ix1 d)
abbrev wR : Fin 1024 → Fin 6144 → EReal := fun d k => x4 (ix2 d k)

theorem v7_at (s : Fin 16384) : val_main_v7 (F := Ideal) x0 (ix2 s 0) = rinv (rowR x0 s) := by
  pointwise [val_main_v7, val_main_v6, val_main_v5, val_main_v4, val_main_v3, val_main_v2, val_main_v1, val_main_v0, val_main_cst,
    val_main_cst_0, val_main_cst_1, rinv]

theorem v6_at (s : Fin 16384) :
    val_main_v6 (F := Ideal) x0 (ix2 s 0) = Ideal.div (∑ d, rowR x0 s d * rowR x0 s d) dim + eps := by
  pointwise [val_main_v6, val_main_v5, val_main_v4, val_main_v3, val_main_v2, val_main_v1, val_main_v0, val_main_cst,
    val_main_cst_0, val_main_cst_1]

theorem v25_at (s : Fin 16384) (d : Fin 1024) : val_main_v25 (F := Ideal) x1 x4 (ix2 s d) = dn (pR x1 s) (wR x4) d := by
  pointwise [val_main_v25, val_main_v21, dn]

theorem v47_at (d : Fin 1024) :
    val_main_v47 (F := Ideal) x0 x1 x4 (ix2 0 d) = ∑ s : Fin 16384, dn (pR x1 s) (wR x4) d * (rowR x0 s d * rinv (rowR x0 s)) := by
  pointwise [val_main_v47, val_main_v31, val_main_v28, val_main_v27, val_main_v26, val_main_v12, val_main_v11, val_main_cst_6,
    val_main_cst_7]
  rw [Fin.sum_univ_one]
  exact Finset.sum_congr rfl fun s _ => by rw [v7_at, v25_at, mul_comm]

theorem v48_at (k : Fin 6144) : val_main_v48 (F := Ideal) x1 (ix2 0 k) = ∑ s : Fin 16384, pR x1 s k := by
  pointwise [val_main_v48, val_main_v24, val_main_v23, val_main_v22, val_main_v21, val_main_cst_4, val_main_cst_5]
  rw [Fin.sum_univ_one]

theorem v46_at (s : Fin 16384) (d : Fin 1024) :
    val_main_v46 (F := Ideal) x0 x1 x2 x3 x4 (ix2 s d)
      = x2 (ix2 s d) + (val_main_v25 (F := Ideal) x1 x4 (ix2 s d) * x3 (ix1 d) * rinv (rowR x0 s)
        + x0 (ix2 s d) * Ideal.div ((∑ e, x0 (ix2 s e) * (val_main_v25 (F := Ideal) x1 x4 (ix2 s e) * x3 (ix1 e)))
            * (Ideal.ofBits .f32 0xBF000000#32 * Ideal.div (rinv (rowR x0 s)) (Ideal.div (∑ d, rowR x0 s d * rowR x0 s d) dim + eps))) dim
        + Ideal.div ((∑ e, x0 (ix2 s e) * (val_main_v25 (F := Ideal) x1 x4 (ix2 s e) * x3 (ix1 e)))
            * (Ideal.ofBits .f32 0xBF000000#32 * Ideal.div (rinv (rowR x0 s)) (Ideal.div (∑ d, rowR x0 s d * rowR x0 s d) dim + eps))) dim
          * x0 (ix2 s d)) := by
  pointwise [val_main_v46, val_main_v45, val_main_v44, val_main_v43, val_main_v42, val_main_v41, val_main_v40, val_main_v39, val_main_v38,
    val_main_v37, val_main_v36, val_main_v35, val_main_v34, val_main_v33, val_main_v32, val_main_v30, val_main_v29,
    val_main_v10, val_main_v9, val_main_v8, val_main_v13, val_main_cst_2, val_main_cst_8, val_main_cst_9, val_main_cst_10]
  rw [Fin.sum_univ_one, v7_at, v6_at]

theorem ref47 : val_main_v47 (F := Ideal) x0 x1 x4
    = fun y => ∑ s : Fin 16384, dn (pR x1 s) (wR x4) (y 1) * (rowR x0 s (y 1) * rinv (rowR x0 s)) := by
  funext y
  obtain ⟨o, d, rfl⟩ := eta2 y
  obtain rfl : o = 0 := Subsingleton.elim _ _
  exact v47_at x0 x1 x4 d

theorem ref48 : val_main_v48 (F := Ideal) x1 = fun y => ∑ s : Fin 16384, pR x1 s (y 1) := by
  funext y
  obtain ⟨o, k, rfl⟩ := eta2 y
  obtain rfl : o = 0 := Subsingleton.elim _ _
  exact v48_at x1 k

theorem ref46 (h0 : ∀ i, IsR (x0 i)) (h1 : ∀ i, IsR (x1 i)) (h2 : ∀ i, IsR (x2 i)) (h3 : ∀ i, IsR (x3 i)) (h4 : ∀ i, IsR (x4 i)) :
    val_main_v46 (F := Ideal) x0 x1 x2 x3 x4
      = fun y => rowGrad (rowR x0 (y 0)) (rowR x2 (y 0)) (gR x3) (dn (pR x1 (y 0)) (wR x4)) (y 1) := by
  funext y
  obtain ⟨s, d, rfl⟩ := eta2 y
  rw [v46_at]
  simp only [v25_at]
  exact dx_eq (rowR x0 s) (rowR x2 s) (gR x3) (fun _ => h0 _) (fun _ => h2 _) (fun _ => h3 _) (dn (pR x1 s) (wR x4))
    (fun d => IsR.sum _ _ fun k => (h1 _).mul (h4 _)) d

end Ref

theorem frame_r : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩)
    (Cert.Reference6Ideal.Value.run m ρ)

theorem value : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  pair_intro
  run_from Cert.Kernel6Ideal.Value.run_blocks m g
  refine (θ_run Cert.Reference6Ideal.defs _ _).mono (fun r h c => ?_) (Cert.Reference6Ideal.Value.run m' g')
  obtain ⟨r46, r47, r48, k⟩ := h c
  obtain ⟨e0, e1, e2, e3, e4⟩ := hagree c
  have h0 := real_of_cmp _ _ (hpre c).1
  have h1 := real_of_cmp _ _ (hpre c).2.1
  have h2 := real_of_cmp _ _ (hpre c).2.2.1
  have h3 := real_of_cmp _ _ (hpre c).2.2.2.1
  have h4 := real_of_cmp _ _ (hpre c).2.2.2.2
  rw [val_main_v46_eq m' c, e0, e1, e2, e3, e4] at r46
  rw [e0, e1, e4] at r47
  rw [e1] at r48
  refine ⟨?_, ?_, ?_, k⟩
  · exact (r46.trans (ref46 _ _ _ _ _ h0 h1 h2 h3 h4)).trans (arr5 m c).symm
  · exact ((r47.trans (val_main_v47_eq _ _ _)).trans (ref47 _ _ _)).trans (arr6 m c).symm
  · exact ((r48.trans (val_main_v48_eq _)).trans (ref48 _)).trans (arr7 m c).symm

end Cert.Proof.MixIn6

end
-- ==== Proof.Loss7.lean ====
/-
  The second feed-forward block's forward call with the loss's gradient: the call's values at one index and over the whole arrays.
-/
module

public import proofs.«01_k».proof.Proof.Gen.Kernel7Ideal.Value
public import proofs.«01_k».proof.Proof.FfnAlg
public import Idealize.ShloMosaic.Lib.Pipeline.ValueKit
public import Idealize.ShloMosaic.Lib.Pipeline.ReadBack

@[expose] public section

set_option maxRecDepth 16384

noncomputable section

namespace FfnSpec

open Idealize.ShloMosaic

/-- A row plus half its hidden layer's image. -/
def skip (h : Fin 1024 → EReal) (gu : Fin 5632 → EReal) (WD : Fin 2816 → Fin 1024 → EReal) (d : Fin 1024) : EReal :=
  h d + half * ∑ k, act gu k * WD k d
/-- The normalised row's distance from the target. -/
def err (x gf tg : Fin 1024 → EReal) (d : Fin 1024) : EReal := x d * rinv x * gf d - tg d
/-- The loss's gradient at the normalised row. -/
def dloss (x gf tg : Fin 1024 → EReal) (d : Fin 1024) : EReal := err x gf tg d * Ideal.ofBits .f32 0x3A800000#32
/-- The loss's gradient at the row. -/
def drow (x gf tg : Fin 1024 → EReal) (d : Fin 1024) : EReal :=
  rinv x * (dloss x gf tg d * gf d - x d * rinv x * Ideal.div (∑ e, dloss x gf tg e * gf e * (x e * rinv x)) dim)

end FfnSpec

namespace Cert.Kernel7Ideal.Loss

open Cert.Kernel7Ideal Cert.Kernel7Ideal.Gen Idealize.ShloMosaic Idealize.ShloMosaic.TcCoe Idealize.SL.Sem FfnSpec

/-! ## The body's values at one index -/

section Pay

variable (h : FVec Ideal S512x1024 .f32) (g : FVec Ideal S1x1024 .f32)

theorem pay4_at (s : Fin 512) (d : Fin 1024) :
    k0_pay4 (F := Ideal) h g (ix2 s d) = FfnSpec.norm (fun d => h (ix2 s d)) (fun d => g (ix2 0 d)) d := by
  pointwise [k0_pay4, FfnSpec.norm, rinv]
theorem pay6_at (w : FVec Ideal S1x1024x1408 .bf16) (s : Fin 512) (k : Fin 1408) :
    k0_pay6 (F := Ideal) h g w (ix2 s k) = ∑ d : Fin 1024, k0_pay4 (F := Ideal) h g (ix2 s d) * w (ix3 0 d k) := by
  pointwise [k0_pay6]
theorem pay7_at (w : FVec Ideal S1x1024x1408 .bf16) (s : Fin 512) (k : Fin 1408) :
    k0_pay7 (F := Ideal) h g w (ix2 s k) = ∑ d : Fin 1024, k0_pay4 (F := Ideal) h g (ix2 s d) * w (ix3 0 d k) := by
  pointwise [k0_pay7]
theorem pay11_at (n : FVec Ideal S512x1024 .bf16) (w : FVec Ideal S1x1024x1408 .bf16) (s : Fin 512) (k : Fin 1408) :
    k0_pay11 (F := Ideal) n w (ix2 s k) = ∑ d : Fin 1024, n (ix2 s d) * w (ix3 0 d k) := by
  pointwise [k0_pay11]
theorem pay12_at (n : FVec Ideal S512x1024 .bf16) (w : FVec Ideal S1x1024x1408 .bf16) (s : Fin 512) (k : Fin 1408) :
    k0_pay12 (F := Ideal) n w (ix2 s k) = ∑ d : Fin 1024, n (ix2 s d) * w (ix3 0 d k) := by
  pointwise [k0_pay12]
theorem pay15_at (n : FVec Ideal S512x1024 .bf16) (z : FVec Ideal S512x1024 .f32) (a b e : FVec Ideal S512x1408 .f32)
    (v v' : FVec Ideal S1408x1024 .bf16) (w w' : FVec Ideal S1x1024x1408 .bf16) (s : Fin 512) (d : Fin 1024) :
    k0_pay15 (F := Ideal) n z a b e v w w' v' (ix2 s d)
      = (z (ix2 s d) + ∑ k : Fin 1408, a (ix2 s k) * Ideal.div one (one + e (ix2 s k)) * b (ix2 s k) * v (ix2 k d))
        + ∑ k : Fin 1408, k0_pay11 (F := Ideal) n w (ix2 s k) * lgs (k0_pay11 (F := Ideal) n w (ix2 s k)) * k0_pay12 (F := Ideal) n w' (ix2 s k)
            * v' (ix2 k d) := by
  pointwise [k0_pay15, lgs]
theorem pay5_at (s : Fin 512) (d : Fin 1024) : k0_pay5 (F := Ideal) (ix2 s d) = 0 := by
  pointwise [k0_pay5]
theorem pay10_at (w : FVec Ideal S1x1024x1408 .bf16) (s : Fin 512) (k : Fin 1408) :
    Ideal.div one (one + k0_pay10 (F := Ideal) h g w (ix2 s k)) = lgs (k0_pay6 (F := Ideal) h g w (ix2 s k)) := by
  pointwise [k0_pay10, lgs]

variable (f : FVec Ideal S512x1024 .f32) (tg : FVec Ideal S512x1024 .f32)

theorem pay16_at (s : Fin 512) (d : Fin 1024) : k0_pay16 (F := Ideal) h f (ix2 s d) = h (ix2 s d) + half * f (ix2 s d) := by
  pointwise [k0_pay16]
theorem pay17_at (s : Fin 512) : k0_pay17 (F := Ideal) h f (ix2 s 0) = rinv fun d => k0_pay16 (F := Ideal) h f (ix2 s d) := by
  pointwise [k0_pay17, rinv]
theorem pay18_at (s : Fin 512) (d : Fin 1024) :
    k0_pay18 (F := Ideal) h f (ix2 s d) = k0_pay16 (F := Ideal) h f (ix2 s d) * rinv fun d => k0_pay16 (F := Ideal) h f (ix2 s d) := by
  pointwise [k0_pay18]
  rw [pay17_at]
theorem pay20_at (s : Fin 512) (d : Fin 1024) :
    k0_pay20 (F := Ideal) h f g tg (ix2 s d)
      = err (fun d => k0_pay16 (F := Ideal) h f (ix2 s d)) (fun d => g (ix2 0 d)) (fun d => tg (ix2 s d)) d := by
  pointwise [k0_pay20, k0_pay19, err]
  rw [pay18_at]
theorem pay22_at (s : Fin 512) (d : Fin 1024) :
    k0_pay22 (F := Ideal) h f g tg (ix2 s d)
      = dloss (fun d => k0_pay16 (F := Ideal) h f (ix2 s d)) (fun d => g (ix2 0 d)) (fun d => tg (ix2 s d)) d := by
  pointwise [k0_pay22, dloss]
  rw [pay20_at]
theorem pay24_at (s : Fin 512) (d : Fin 1024) :
    k0_pay24 (F := Ideal) h f g tg (ix2 s d)
      = dloss (fun d => k0_pay16 (F := Ideal) h f (ix2 s d)) (fun d => g (ix2 0 d)) (fun d => tg (ix2 s d)) d * g (ix2 0 d) := by
  pointwise [k0_pay24, k0_pay19]
  rw [pay22_at]
theorem pay25_at (s : Fin 512) (d : Fin 1024) :
    k0_pay25 (F := Ideal) h f g tg (ix2 s d) = k0_pay24 (F := Ideal) h f g tg (ix2 s d) * k0_pay18 (F := Ideal) h f (ix2 s d) := by
  pointwise [k0_pay25]
theorem pay1_at (r : FVec Ideal S512x1 .f32) (x y z : FVec Ideal S512x1024 .f32) (s : Fin 512) (d : Fin 1024) :
    k0_pay1 (F := Ideal) r x y z (ix2 s d)
      = r (ix2 s 0) * (y (ix2 s d) - x (ix2 s d) * Ideal.div (∑ e : Fin 1024, z (ix2 s e)) dim) := by
  pointwise [k0_pay1]
theorem pay21_at (a : FVec Ideal S1x1024 .f32) (d : Fin 1024) :
    k0_pay21 (F := Ideal) h f g tg a (ix2 0 d)
      = a (ix2 0 d) + ∑ s : Fin 512, k0_pay20 (F := Ideal) h f g tg (ix2 s d) * k0_pay20 (F := Ideal) h f g tg (ix2 s d) := by
  pointwise [k0_pay21]
theorem pay23_at (a : FVec Ideal S1x1024 .f32) (d : Fin 1024) :
    k0_pay23 (F := Ideal) h f g tg a (ix2 0 d)
      = a (ix2 0 d) + ∑ s : Fin 512, k0_pay22 (F := Ideal) h f g tg (ix2 s d) * k0_pay18 (F := Ideal) h f (ix2 s d) := by
  pointwise [k0_pay23]
theorem pay2_at (d : Fin 1024) : k0_pay2 (F := Ideal) (ix2 0 d) = 0 := by
  pointwise [k0_pay2]
theorem pay3_at (d : Fin 1024) : k0_pay3 (F := Ideal) (ix2 0 d) = 0 := by
  pointwise [k0_pay3]

/-- The four results of one row or column, from the rows `x` the head starts from. -/
theorem head_row (s : Fin 512) (d : Fin 1024) (x : Fin 1024 → EReal) (hx : ∀ d, k0_pay16 (F := Ideal) h f (ix2 s d) = x d) :
    k0_pay1 (F := Ideal) (k0_pay17 h f) (k0_pay18 h f) (k0_pay24 h f g tg) (k0_pay25 h f g tg) (ix2 s d)
      = drow x (fun d => g (ix2 0 d)) (fun d => tg (ix2 s d)) d := by
  rw [pay1_at, pay17_at, pay18_at, pay24_at]
  simp only [pay25_at, pay24_at, pay18_at, hx]
  rfl
theorem lanes_row (a : FVec Ideal S1x1024 .f32) (d : Fin 1024) (x : Fin 512 → Fin 1024 → EReal)
    (hx : ∀ s d, k0_pay16 (F := Ideal) h f (ix2 s d) = x s d) :
    k0_pay21 (F := Ideal) h f g tg a (ix2 0 d)
      = a (ix2 0 d) + ∑ s : Fin 512, err (x s) (fun d => g (ix2 0 d)) (fun d => tg (ix2 s d)) d
          * err (x s) (fun d => g (ix2 0 d)) (fun d => tg (ix2 s d)) d := by
  rw [pay21_at]
  simp only [pay20_at, hx]
theorem dfinal_row (a : FVec Ideal S1x1024 .f32) (d : Fin 1024) (x : Fin 512 → Fin 1024 → EReal)
    (hx : ∀ s d, k0_pay16 (F := Ideal) h f (ix2 s d) = x s d) :
    k0_pay23 (F := Ideal) h f g tg a (ix2 0 d)
      = a (ix2 0 d) + ∑ s : Fin 512, dloss (x s) (fun d => g (ix2 0 d)) (fun d => tg (ix2 s d)) d * (x s d * rinv (x s)) := by
  rw [pay23_at]
  simp only [pay22_at, pay18_at, hx]

end Pay

/-! ## Blocks -/

variable (m : (ℓ : Loc nD τ sig) → Buf (Elt Ideal) ℓ)

abbrev hA (c : Dev nD) (s : Fin 16384) : Fin 1024 → EReal := fun d => m ((c.tc : Thread nD τ).loc main_arg0) (ix2 s d)
abbrev gA (c : Dev nD) : Fin 1024 → EReal := fun d => m ((c.tc : Thread nD τ).loc main_arg1) (ix1 d)
abbrev wA (c : Dev nD) : Fin 1024 → Fin 5632 → EReal := fun d k => m ((c.tc : Thread nD τ).loc main_arg2) (ix2 d k)
abbrev wdA (c : Dev nD) : Fin 2816 → Fin 1024 → EReal := fun k d => m ((c.tc : Thread nD τ).loc main_arg3) (ix2 k d)
abbrev gfA (c : Dev nD) : Fin 1024 → EReal := fun d => m ((c.tc : Thread nD τ).loc main_arg4) (ix1 d)
abbrev tgA (c : Dev nD) (s : Fin 16384) : Fin 1024 → EReal := fun d => m ((c.tc : Thread nD τ).loc main_arg5) (ix2 s d)
abbrev guA (c : Dev nD) (s : Fin 16384) : Fin 5632 → EReal := pre (hA m c s) (gA m c) (wA m c)
/-- The rows the head starts from. -/
abbrev xA (c : Dev nD) (s : Fin 16384) : Fin 1024 → EReal := skip (hA m c s) (guA m c s) (wdA m c)

theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

theorem N32 : cfg0.N = 32 := N_0
abbrev row (t : Fin cfg0.N) (s : Fin 512) : Fin 16384 := ⟨t.val * 512 + s.val, by have := t.isLt; have := N32; omega⟩

theorem h_blk (c : Dev nD) (t : Fin cfg0.N) (s : Fin 512) (d : Fin 1024) : iblk m c 0 t (ix2 s d) = hA m c (row t s) d := by
  show _ = m ((c.tc : Thread nD τ).loc main_arg0) (ix2 (row t s) d)
  blk_ext [iblk, V, idx t]
theorem g_blk (c : Dev nD) (t : Fin cfg0.N) (d : Fin 1024) : iblk m c 1 t (ix2 0 d) = gA m c d := by
  show _ = m ((c.tc : Thread nD τ).loc main_arg1) (ix1 d)
  blk_ext! [iblk, V, idx t]
theorem gf_blk (c : Dev nD) (t : Fin cfg0.N) (d : Fin 1024) : iblk m c 4 t (ix2 0 d) = gfA m c d := by
  show _ = m ((c.tc : Thread nD τ).loc main_arg4) (ix1 d)
  blk_ext! [iblk, V, idx t]
theorem tg_blk (c : Dev nD) (t : Fin cfg0.N) (s : Fin 512) (d : Fin 1024) : iblk m c 5 t (ix2 s d) = tgA m c (row t s) d := by
  show _ = m ((c.tc : Thread nD τ).loc main_arg5) (ix2 (row t s) d)
  blk_ext [iblk, V, idx t]
theorem wd_blk (c : Dev nD) (t : Fin cfg0.N) (k : Fin 2816) (d : Fin 1024) : iblk m c 3 t (ix2 k d) = wdA m c k d := by
  show _ = m ((c.tc : Thread nD τ).loc main_arg3) (ix2 k d)
  blk_ext! [iblk, V, idx t]
theorem w_blk (c : Dev nD) (t : Fin cfg0.N) (d : Fin 1024) (k : Fin 5632) :
    iblk m c 2 t (ix3 ⟨k.val / 1408, by omega⟩ d ⟨k.val % 1408, by omega⟩) = m ((c.tc : Thread nD τ).loc main_arg2) (ix2 d k) := by
  blk_ext! [iblk, V, idx t]

/-- One column of a shard of the weight's block. -/
theorem w_col (c : Dev nD) (t : Fin cfg0.N) (d : Fin 1024) (j : Fin 4) (k : Fin 1408) (k' : Fin 5632) (h : k'.val = j.val * 1408 + k.val) :
    iblk m c 2 t (ix3 j d k) = m ((c.tc : Thread nD τ).loc main_arg2) (ix2 d k') := by
  rw [← w_blk m c t]
  refine congrArg (iblk m c 2 t) (congrArg₂ (fun a b => ix3 a d b) (Fin.ext ?_) (Fin.ext ?_))
  · show j.val = k'.val / 1408; omega
  · show k.val = k'.val % 1408; omega
theorem w_ld0 (c : Dev nD) (t : Fin cfg0.N) (d : Fin 1024) (k : Fin 1408) :
    View.ld (iblk m c 2 t) (Rect.unit ![0, 0, 0] ![1, 1024, 1408] inb_S4x1024x1408_S1x1024x1408_0_0_0) (ix3 0 d k)
      = m ((c.tc : Thread nD τ).loc main_arg2) (ix2 d (fl (lo k))) :=
  (View.ld_unit_apply_of _ _ _ _ _ (ix3 0 d k) fun a => by fin_cases a <;> simp [ix3]).trans (w_col m c t d 0 k _ (by simp))
theorem w_ld1 (c : Dev nD) (t : Fin cfg0.N) (d : Fin 1024) (k : Fin 1408) :
    View.ld (iblk m c 2 t) (Rect.unit ![1, 0, 0] ![1, 1024, 1408] inb_S4x1024x1408_S1x1024x1408_1_0_0) (ix3 0 d k)
      = m ((c.tc : Thread nD τ).loc main_arg2) (ix2 d (fl (hi k))) :=
  (View.ld_unit_apply_of _ _ _ _ _ (ix3 1 d k) fun a => by fin_cases a <;> simp [ix3]).trans (w_col m c t d 1 k _ (by simp))
theorem w_ld2 (c : Dev nD) (t : Fin cfg0.N) (d : Fin 1024) (k : Fin 1408) :
    View.ld (iblk m c 2 t) (Rect.unit ![2, 0, 0] ![1, 1024, 1408] inb_S4x1024x1408_S1x1024x1408_2_0_0) (ix3 0 d k)
      = m ((c.tc : Thread nD τ).loc main_arg2) (ix2 d (fr (lo k))) :=
  (View.ld_unit_apply_of _ _ _ _ _ (ix3 2 d k) fun a => by fin_cases a <;> simp [ix3]).trans (w_col m c t d 2 k _ (by simp))
theorem w_ld3 (c : Dev nD) (t : Fin cfg0.N) (d : Fin 1024) (k : Fin 1408) :
    View.ld (iblk m c 2 t) (Rect.unit ![3, 0, 0] ![1, 1024, 1408] inb_S4x1024x1408_S1x1024x1408_3_0_0) (ix3 0 d k)
      = m ((c.tc : Thread nD τ).loc main_arg2) (ix2 d (fr (hi k))) :=
  (View.ld_unit_apply_of _ _ _ _ _ (ix3 3 d k) fun a => by fin_cases a <;> simp [ix3]).trans (w_col m c t d 3 k _ (by simp; omega))

theorem wd_ld0 (c : Dev nD) (t : Fin cfg0.N) (k : Fin 1408) (d : Fin 1024) :
    View.ld (iblk m c 3 t) (Rect.unit ![0, 0] ![1408, 1024] inb_S2816x1024_S1408x1024_0_0) (ix2 k d) = wdA m c (lo k) d :=
  (View.ld_unit_apply_of _ _ _ _ _ (ix2 (lo k) d) fun a => by fin_cases a <;> simp [ix2]).trans (wd_blk m c t _ d)
theorem wd_ld1 (c : Dev nD) (t : Fin cfg0.N) (k : Fin 1408) (d : Fin 1024) :
    View.ld (iblk m c 3 t) (Rect.unit ![1408, 0] ![1408, 1024] inb_S2816x1024_S1408x1024_1408_0) (ix2 k d) = wdA m c (hi k) d :=
  (View.ld_unit_apply_of _ _ _ _ _ (ix2 (hi k) d) fun a => by fin_cases a <;> simp [ix2]).trans (wd_blk m c t _ d)

/-- The normalised row of a block. -/
theorem n_blk (c : Dev nD) (t : Fin cfg0.N) (s : Fin 512) (d : Fin 1024) :
    k0_pay4 (F := Ideal) (iblk m c 0 t) (iblk m c 1 t) (ix2 s d) = FfnSpec.norm (hA m c (row t s)) (gA m c) d := by
  rw [pay4_at]
  simp only [h_blk, g_blk]

/-- The four quarters of the gate and the value. -/
theorem q0 (c : Dev nD) (t : Fin cfg0.N) (s : Fin 512) (k : Fin 1408) :
    k0_pay6 (F := Ideal) (iblk m c 0 t) (iblk m c 1 t) (View.ld (iblk m c 2 t) (Rect.unit ![0, 0, 0] ![1, 1024, 1408] inb_S4x1024x1408_S1x1024x1408_0_0_0)) (ix2 s k)
      = guA m c (row t s) (fl (lo k)) := by
  rw [pay6_at]
  simp only [n_blk, w_ld0]
  rfl
theorem q1 (c : Dev nD) (t : Fin cfg0.N) (s : Fin 512) (k : Fin 1408) :
    k0_pay11 (F := Ideal) (k0_pay4 (iblk m c 0 t) (iblk m c 1 t)) (View.ld (iblk m c 2 t) (Rect.unit ![1, 0, 0] ![1, 1024, 1408] inb_S4x1024x1408_S1x1024x1408_1_0_0)) (ix2 s k)
      = guA m c (row t s) (fl (hi k)) := by
  rw [pay11_at]
  simp only [n_blk, w_ld1]
  rfl
theorem q2 (c : Dev nD) (t : Fin cfg0.N) (s : Fin 512) (k : Fin 1408) :
    k0_pay7 (F := Ideal) (iblk m c 0 t) (iblk m c 1 t) (View.ld (iblk m c 2 t) (Rect.unit ![2, 0, 0] ![1, 1024, 1408] inb_S4x1024x1408_S1x1024x1408_2_0_0)) (ix2 s k)
      = guA m c (row t s) (fr (lo k)) := by
  rw [pay7_at]
  simp only [n_blk, w_ld2]
  rfl
theorem q3 (c : Dev nD) (t : Fin cfg0.N) (s : Fin 512) (k : Fin 1408) :
    k0_pay12 (F := Ideal) (k0_pay4 (iblk m c 0 t) (iblk m c 1 t)) (View.ld (iblk m c 2 t) (Rect.unit ![3, 0, 0] ![1, 1024, 1408] inb_S4x1024x1408_S1x1024x1408_3_0_0)) (ix2 s k)
      = guA m c (row t s) (fr (hi k)) := by
  rw [pay12_at]
  simp only [n_blk, w_ld3]
  rfl

/-- The hidden layer's image, the two halves of the hidden layer one after the other. -/
theorem ff_blk (c : Dev nD) (t : Fin cfg0.N) (s : Fin 512) (d : Fin 1024) :
    k0_pay15 (F := Ideal) (k0_pay4 (iblk m c 0 t) (iblk m c 1 t)) k0_pay5
        (k0_pay6 (iblk m c 0 t) (iblk m c 1 t) (View.ld (iblk m c 2 t) (Rect.unit ![0, 0, 0] ![1, 1024, 1408] inb_S4x1024x1408_S1x1024x1408_0_0_0)))
        (k0_pay7 (iblk m c 0 t) (iblk m c 1 t) (View.ld (iblk m c 2 t) (Rect.unit ![2, 0, 0] ![1, 1024, 1408] inb_S4x1024x1408_S1x1024x1408_2_0_0)))
        (k0_pay10 (iblk m c 0 t) (iblk m c 1 t) (View.ld (iblk m c 2 t) (Rect.unit ![0, 0, 0] ![1, 1024, 1408] inb_S4x1024x1408_S1x1024x1408_0_0_0)))
        (View.ld (iblk m c 3 t) (Rect.unit ![0, 0] ![1408, 1024] inb_S2816x1024_S1408x1024_0_0))
        (View.ld (iblk m c 2 t) (Rect.unit ![1, 0, 0] ![1, 1024, 1408] inb_S4x1024x1408_S1x1024x1408_1_0_0))
        (View.ld (iblk m c 2 t) (Rect.unit ![3, 0, 0] ![1, 1024, 1408] inb_S4x1024x1408_S1x1024x1408_3_0_0))
        (View.ld (iblk m c 3 t) (Rect.unit ![1408, 0] ![1408, 1024] inb_S2816x1024_S1408x1024_1408_0)) (ix2 s d)
      = ∑ k, act (guA m c (row t s)) k * wdA m c k d := by
  rw [pay15_at, pay5_at, zero_add, sum_lohi]
  simp only [pay10_at, q0, q1, q2, q3, wd_ld0, wd_ld1]
  rfl

/-- The rows the head starts from, of a block. -/
theorem x_blk (c : Dev nD) (t : Fin cfg0.N) (f : FVec Ideal S512x1024 .f32)
    (hf : ∀ s d, f (ix2 s d) = ∑ k, act (guA m c (row t s)) k * wdA m c k d) (s : Fin 512) (d : Fin 1024) :
    k0_pay16 (F := Ideal) (iblk m c 0 t) f (ix2 s d) = xA m c (row t s) d := by
  rw [pay16_at, hf, h_blk]
  rfl

/-- An index of a piece put at column `b` of a row. -/
theorem piece_ix {N p : Nat} (x : (⟨2, ![512, p]⟩ : Shape).Idx) (s : Fin 512) (d : Fin N) (b : Nat) (hb : b + p ≤ N)
    (h0 : s.val = (x 0).val) (h1 : d.val = b + (x 1).val) :
    ∃ k : Fin p, x = ix2 s k ∧ d = ⟨b + k.val, Nat.lt_of_lt_of_le (Nat.add_lt_add_left k.isLt b) hb⟩ :=
  ⟨x 1, funext fun a => by fin_cases a <;> apply Fin.ext <;> simp [ix2, h0], Fin.ext h1⟩

/-! ## The four arrays -/

theorem arr6 (c : Dev nD) : (dats m 0 c).arrAt 6 cfg0.N = fun y => drow (xA m c (y 0)) (gfA m c) (tgA m c (y 0)) (y 1) := by
  refine (dats m 0 c).arrAt_eq_of_covers 6 _ (by decide +kernel) fun t hf y => ?_
  blk_simp
  have ey : (((View.whole main_v6_0).slice (win0_6.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_6]
  show _ = drow (xA m c (row t s)) (gfA m c) (tgA m c (row t s)) d
  have key := fun f hf => head_row (iblk m c 0 t) (iblk m c 4 t) f (iblk m c 5 t) s d (xA m c (row t s)) (x_blk m c t f hf s)
  simp only [gf_blk, tg_blk] at key
  by_cases h : t.val % 32 = 0
  · rw [outsAt0_A m c t h]
    frame_out
    exact key _ (ff_blk m c t)
  · rw [outsAt0_B m c t h]
    frame_out
    exact key _ (ff_blk m c t)

theorem arr7 (c : Dev nD) : (dats m 0 c).arrAt 7 cfg0.N = fun y => guA m c (y 0) (y 1) := by
  refine (dats m 0 c).arrAt_eq_of_covers 7 _ (by decide +kernel) fun t hf y => ?_
  blk_simp
  have ey : (((View.whole main_v6_1).slice (win0_7.rect t)).emb y) = ix2 (row t (y 0)) (y 1) := by blk_ext [idx t]
  obtain ⟨s, d, rfl⟩ : ∃ (s : Fin 512) (d : Fin 5632), y = ix2 s d := ⟨y 0, y 1, by blk_ext [idx t]⟩
  rw [ey, after0_7]
  show _ = guA m c (row t s) d
  by_cases h : t.val % 32 = 0
  · rw [outsAt0_A m c t h]
    frame_out
    canon_tiles x h'
    · obtain ⟨k, rfl, rfl⟩ := piece_ix x s d 4224 (by decide) h'0 h'1
      exact (q3 m c t s k).trans (congrArg _ (Fin.ext (by show 2816 + (1408 + k.val) = 4224 + k.val; omega)))
    · obtain ⟨k, rfl, rfl⟩ := piece_ix x s d 1408 (by decide) h'0 h'1
      exact q1 m c t s k
    · obtain ⟨k, rfl, rfl⟩ := piece_ix x s d 2816 (by decide) h'0 h'1
      exact q2 m c t s k
    · obtain ⟨k, rfl, rfl⟩ := piece_ix x s d 0 (by decide) h'0 (by rw [Nat.zero_add]; exact h'1)
      exact (q0 m c t s k).trans (congrArg _ (Fin.ext (Nat.zero_add _).symm))
  · rw [outsAt0_B m c t h]
    frame_out
    canon_tiles x h'
    · obtain ⟨k, rfl, rfl⟩ := piece_ix x s d 4224 (by decide) h'0 h'1
      exact (q3 m c t s k).trans (congrArg _ (Fin.ext (by show 2816 + (1408 + k.val) = 4224 + k.val; omega)))
    · obtain ⟨k, rfl, rfl⟩ := piece_ix x s d 1408 (by decide) h'0 h'1
      exact q1 m c t s k
    · obtain ⟨k, rfl, rfl⟩ := piece_ix x s d 2816 (by decide) h'0 h'1
      exact q2 m c t s k
    · obtain ⟨k, rfl, rfl⟩ := piece_ix x s d 0 (by decide) h'0 (by rw [Nat.zero_add]; exact h'1)
      exact (q0 m c t s k).trans (congrArg _ (Fin.ext (Nat.zero_add _).symm))

/-- One row's share of the sums of squares, and of the gradient of the last scale. -/
abbrev sq (c : Dev nD) (s : Fin 16384) (d : Fin 1024) : EReal :=
  err (xA m c s) (gfA m c) (tgA m c s) d * err (xA m c s) (gfA m c) (tgA m c s) d
abbrev dfin (c : Dev nD) (s : Fin 16384) (d : Fin 1024) : EReal :=
  dloss (xA m c s) (gfA m c) (tgA m c s) d * (xA m c s d * rinv (xA m c s))

/-- The running sums over the grid. -/
theorem acc8 (c : Dev nD) (t : Fin cfg0.N) (ht : t.val + 1 = cfg0.N) (d : Fin 1024) :
    (outsAt0 m c t.val t.isLt).2.2.1 (ix2 0 d) = 0 + ∑ p : Fin cfg0.N, ∑ s : Fin 512, sq m c (row p s) d := by
  refine Pipeline.eq_sum_fin_of_reset_step_apply_last (fun n h d => (outsAt0 m c n h).2.2.1 (ix2 0 d)) 32 (fun _ => 0)
    (fun p d => ∑ s : Fin 512, sq m c (row p s) d) (fun t h d => ?_) (fun t h d => ?_) (by decide) t ht d
  · rw [outsAt0_A m c t h]
    frame_out
    refine (lanes_row (iblk m c 0 t) (iblk m c 4 t) _ (iblk m c 5 t) _ d _ (x_blk m c t _ (ff_blk m c t))).trans ?_
    simp only [gf_blk, tg_blk, pay2_at]
  · rw [outsAt0_B m c t h]
    frame_out
    refine (lanes_row (iblk m c 0 t) (iblk m c 4 t) _ (iblk m c 5 t) _ d _ (x_blk m c t _ (ff_blk m c t))).trans ?_
    simp only [gf_blk, tg_blk]
theorem acc9 (c : Dev nD) (t : Fin cfg0.N) (ht : t.val + 1 = cfg0.N) (d : Fin 1024) :
    (outsAt0 m c t.val t.isLt).2.2.2 (ix2 0 d) = 0 + ∑ p : Fin cfg0.N, ∑ s : Fin 512, dfin m c (row p s) d := by
  refine Pipeline.eq_sum_fin_of_reset_step_apply_last (fun n h d => (outsAt0 m c n h).2.2.2 (ix2 0 d)) 32 (fun _ => 0)
    (fun p d => ∑ s : Fin 512, dfin m c (row p s) d) (fun t h d => ?_) (fun t h d => ?_) (by decide) t ht d
  · rw [outsAt0_A m c t h]
    frame_out
    refine (dfinal_row (iblk m c 0 t) (iblk m c 4 t) _ (iblk m c 5 t) _ d _ (x_blk m c t _ (ff_blk m c t))).trans ?_
    simp only [gf_blk, tg_blk, pay3_at]
  · rw [outsAt0_B m c t h]
    frame_out
    refine (dfinal_row (iblk m c 0 t) (iblk m c 4 t) _ (iblk m c 5 t) _ d _ (x_blk m c t _ (ff_blk m c t))).trans ?_
    simp only [gf_blk, tg_blk]

theorem tile_sum (f : Fin 16384 → EReal) : 0 + ∑ p : Fin cfg0.N, ∑ s : Fin 512, f (row p s) = ∑ s, f s :=
  (zero_add _).trans (Fin.sum_mul_add_fin 32 512 f rfl)

theorem acc8_at (c : Dev nD) (t : Fin cfg0.N) (ht : t.val + 1 = cfg0.N) (y : S1x1024.Idx) :
    (outsAt0 m c t.val t.isLt).2.2.1 y = ∑ s : Fin 16384, sq m c s (y 1) := by
  obtain ⟨d, rfl⟩ : ∃ d : Fin 1024, y = ix2 0 d := ⟨y 1, by blk_ext [idx t]⟩
  exact (acc8 m c t ht d).trans (tile_sum fun s => sq m c s d)
theorem acc9_at (c : Dev nD) (t : Fin cfg0.N) (ht : t.val + 1 = cfg0.N) (y : S1x1024.Idx) :
    (outsAt0 m c t.val t.isLt).2.2.2 y = ∑ s : Fin 16384, dfin m c s (y 1) := by
  obtain ⟨d, rfl⟩ : ∃ d : Fin 1024, y = ix2 0 d := ⟨y 1, by blk_ext [idx t]⟩
  exact (acc9 m c t ht d).trans (tile_sum fun s => dfin m c s d)

abbrev tLast : Fin cfg0.N := ⟨31, by rw [N32]; decide⟩

theorem arr8 (c : Dev nD) : (dats m 0 c).arrAt 8 cfg0.N = fun y => ∑ s : Fin 16384, sq m c s (y 1) := by
  refine (dats m 0 c).arrAt_eq_of_after_last 8 tLast (by decide +kernel) _ fun j => ?_
  blk_simp
  rw [after0_8]
  exact acc8_at m c tLast rfl _
theorem arr9 (c : Dev nD) : (dats m 0 c).arrAt 9 cfg0.N = fun y => ∑ s : Fin 16384, dfin m c s (y 1) := by
  refine (dats m 0 c).arrAt_eq_of_after_last 9 tLast (by decide +kernel) _ fun j => ?_
  blk_simp
  rw [after0_9]
  exact acc9_at m c tLast rfl _

end Cert.Kernel7Ideal.Loss

end
-- ==== Proof.Loss7Claim.lean ====
/-
  The claims about the second feed-forward block's forward call with the loss's gradient: the frames, and the equality of its four
  results with the reference's.
-/
module

public import proofs.«01_k».proof.Proof.Loss7
public import proofs.«01_k».proof.Proof.FfnAlg
public import proofs.«01_k».proof.Proof.Finite
public import proofs.«01_k».proof.Proof.Gen.Kernel7.Frame
public import proofs.«01_k».proof.Proof.Gen.Reference7Ideal.Run
public import proofs.«01_k».proof.Proof.Gen.Reference7Ideal.Read
public import proofs.«01_k».proof.Proof.Gen.Pre_finite7

@[expose] public section

set_option maxRecDepth 16384

noncomputable section

namespace Cert.Proof.Loss7

open Idealize.ShloMosaic Idealize.ShloMosaic.TcCoe Idealize.SL.Sem RealVal FfnSpec
open Cert.Reference7Ideal Cert.Reference7Ideal.Read Cert.Kernel7Ideal.Loss

theorem lit_two : Ideal.ofBits .f32 0x40000000#32 = ((2 : ℝ) : EReal) := by
  simp [Ideal.ofBits, Ideal.ieee, -EReal.coe_mul]; norm_num
theorem lit_tick : Ideal.ofBits .f32 0x3A800000#32 = ((1 / 1024 : ℝ) : EReal) := by
  simp [Ideal.ofBits, Ideal.ieee, -EReal.coe_mul]; norm_num

section Ref

variable (x0 : FVec Ideal S16384x1024 .f32) (x1 : FVec Ideal S1024 .f32) (x2 : FVec Ideal S1024x5632 .f32)
  (x3 : FVec Ideal S2816x1024 .f32) (x4 : FVec Ideal S1024 .f32) (x5 : FVec Ideal S16384x1024 .f32)

abbrev vecR (x : FVec Ideal S1024 .f32) : Fin 1024 → EReal := fun d => x (ix1 d)
abbrev rowR (x : FVec Ideal S16384x1024 .f32) (s : Fin 16384) : Fin 1024 → EReal := fun d => x (ix2 s d)
abbrev gu (s : Fin 16384) : Fin 5632 → EReal := pre (rowR x0 s) (vecR x1) fun d k => x2 (ix2 d k)
/-- The rows the head starts from. -/
abbrev xR (s : Fin 16384) : Fin 1024 → EReal := skip (rowR x0 s) (gu x0 x1 x2 s) fun k d => x3 (ix2 k d)

theorem v12_at (s : Fin 16384) (d : Fin 1024) : val_main_v12 (F := Ideal) x0 x1 (ix2 s d) = FfnSpec.norm (rowR x0 s) (vecR x1) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, FfnSpec.norm, rinv]

theorem v13_at (s : Fin 16384) (k : Fin 5632) : val_main_v13 (F := Ideal) x0 x1 x2 (ix2 s k) = gu x0 x1 x2 s k := by
  pointwise [val_main_v13]
  simp only [v12_at]
  rfl

theorem v14_at (s : Fin 16384) (k : Fin 2816) : val_main_v14 (F := Ideal) x0 x1 x2 (ix2 s k) = gu x0 x1 x2 s (fl k) := by
  rw [← v13_at]
  pointwise [val_main_v14]
theorem v15_at (s : Fin 16384) (k : Fin 2816) : val_main_v15 (F := Ideal) x0 x1 x2 (ix2 s k) = gu x0 x1 x2 s (fr k) := by
  rw [← v13_at]
  pointwise [val_main_v15]
theorem call0_v5_at (s : Fin 16384) (k : Fin 2816) :
    val_main_call0_v5 (F := Ideal) x0 x1 x2 (ix2 s k) = lgs (gu x0 x1 x2 s (fl k)) := by
  pointwise [val_main_call0_v5, val_main_call0_v4, val_main_call0_v3, val_main_call0_v2, val_main_call0_v1, val_main_call0_v0,
    val_main_call0_cst, val_main_call0_cst_0, lgs]
  rw [v14_at, zero_sub]
theorem v17_at (s : Fin 16384) (k : Fin 2816) : val_main_v17 (F := Ideal) x0 x1 x2 (ix2 s k) = act (gu x0 x1 x2 s) k := by
  pointwise [val_main_v17, val_main_v16]
  rw [v14_at, v15_at, call0_v5_at, act]
theorem v21_at (s : Fin 16384) (d : Fin 1024) : val_main_v21 (F := Ideal) x0 x1 x2 x3 (ix2 s d) = xR x0 x1 x2 x3 s d := by
  pointwise [val_main_v21, val_main_v20, val_main_v19, val_main_v18, val_main_cst_2]
  simp only [v17_at]
  rfl

theorem v28_at (s : Fin 16384) :
    val_main_v28 (F := Ideal) x0 x1 x2 x3 (ix2 s 0) = Ideal.div (∑ d, xR x0 x1 x2 x3 s d * xR x0 x1 x2 x3 s d) dim + eps := by
  pointwise [val_main_v28, val_main_v27, val_main_v26, val_main_v25, val_main_v24, val_main_v23, val_main_v22, val_main_cst_3,
    val_main_cst_4, val_main_cst_5]
  simp only [v21_at]
theorem v29_at (s : Fin 16384) : val_main_v29 (F := Ideal) x0 x1 x2 x3 (ix2 s 0) = rinv (xR x0 x1 x2 x3 s) := by
  pointwise [val_main_v29]
  rw [v28_at, rinv]
theorem v34_at (s : Fin 16384) (d : Fin 1024) :
    val_main_v34 (F := Ideal) x0 x1 x2 x3 (ix2 s d) = xR x0 x1 x2 x3 s d * rinv (xR x0 x1 x2 x3 s) := by
  pointwise [val_main_v34, val_main_v33]
  rw [v29_at, v21_at]
theorem v38_at (s : Fin 16384) (d : Fin 1024) :
    val_main_v38 (F := Ideal) x0 x1 x2 x3 x4 x5 (ix2 s d) = err (xR x0 x1 x2 x3 s) (vecR x4) (rowR x5 s) d := by
  pointwise [val_main_v38, val_main_v37, val_main_v36, val_main_v35]
  rw [v34_at, err]

theorem v52_at (s : Fin 16384) (d : Fin 1024) : val_main_v52 (F := Ideal) (ix2 s d) = ((1 / 2048 : ℝ) : EReal) := by
  pointwise [val_main_v52, val_main_v51, val_main_v50, val_main_v49, val_main_v48, val_main_cst_13, val_main_cst_14, val_main_cst_15]
  simp only [lit_half, lit_1024, lit_one, mul_one]
  rw [div_coe_coe _ _ (by norm_num)]
  norm_num
theorem v53_at (s : Fin 16384) (d : Fin 1024) :
    val_main_v53 (F := Ideal) x0 x1 x2 x3 x4 x5 (ix2 s d) = dloss (xR x0 x1 x2 x3 s) (vecR x4) (rowR x5 s) d := by
  pointwise [val_main_v53, val_main_v41, val_main_v40, val_main_cst_7]
  rw [v52_at, v38_at, dloss, lit_two, lit_tick, ← mul_assoc, ← EReal.coe_mul, mul_comm (err _ _ _ _)]
  norm_num

theorem v59_at (d : Fin 1024) : val_main_v76 (F := Ideal) x0 x1 x2 x3 x4 x5 (ix2 0 d)
    = ∑ s : Fin 16384, dloss (xR x0 x1 x2 x3 s) (vecR x4) (rowR x5 s) d * (xR x0 x1 x2 x3 s d * rinv (xR x0 x1 x2 x3 s)) := by
  pointwise [val_main_v76, val_main_v59, val_main_v56, val_main_v55, val_main_v54, val_main_cst_16, val_main_cst_17]
  rw [Fin.sum_univ_one]
  exact Finset.sum_congr rfl fun s _ => by rw [v34_at, v53_at, mul_comm]

theorem v75_at (d : Fin 1024) : val_main_v75 (F := Ideal) x0 x1 x2 x3 x4 x5 (ix2 0 d)
    = ∑ s : Fin 16384, err (xR x0 x1 x2 x3 s) (vecR x4) (rowR x5 s) d * err (xR x0 x1 x2 x3 s) (vecR x4) (rowR x5 s) d := by
  pointwise [val_main_v75, val_main_v47, val_main_v39, val_main_cst_12]
  simp only [v38_at]

theorem v73_at (s : Fin 16384) (d : Fin 1024) :
    val_main_v73 (F := Ideal) x0 x1 x2 x3 x4 x5 (ix2 s d)
      = val_main_v53 (F := Ideal) x0 x1 x2 x3 x4 x5 (ix2 s d) * x4 (ix1 d) * val_main_v29 (F := Ideal) x0 x1 x2 x3 (ix2 s 0)
        + val_main_v21 (F := Ideal) x0 x1 x2 x3 (ix2 s d)
          * Ideal.div ((∑ e, val_main_v21 (F := Ideal) x0 x1 x2 x3 (ix2 s e) * (val_main_v53 (F := Ideal) x0 x1 x2 x3 x4 x5 (ix2 s e) * x4 (ix1 e)))
            * (Ideal.ofBits .f32 0xBF000000#32
              * Ideal.div (val_main_v29 (F := Ideal) x0 x1 x2 x3 (ix2 s 0)) (val_main_v28 (F := Ideal) x0 x1 x2 x3 (ix2 s 0)))) dim
        + Ideal.div ((∑ e, val_main_v21 (F := Ideal) x0 x1 x2 x3 (ix2 s e) * (val_main_v53 (F := Ideal) x0 x1 x2 x3 x4 x5 (ix2 s e) * x4 (ix1 e)))
            * (Ideal.ofBits .f32 0xBF000000#32
              * Ideal.div (val_main_v29 (F := Ideal) x0 x1 x2 x3 (ix2 s 0)) (val_main_v28 (F := Ideal) x0 x1 x2 x3 (ix2 s 0)))) dim
          * val_main_v21 (F := Ideal) x0 x1 x2 x3 (ix2 s d) := by
  pointwise [val_main_v73, val_main_v72, val_main_v71, val_main_v70, val_main_v69, val_main_v68, val_main_v67, val_main_v66,
    val_main_v65, val_main_v64, val_main_v63, val_main_v62, val_main_v61, val_main_v60, val_main_v58, val_main_v57, val_main_v35,
    val_main_v32, val_main_v31, val_main_v30, val_main_cst_6, val_main_cst_18, val_main_cst_19, val_main_cst_20]
  rw [Fin.sum_univ_one]

theorem ref74 : val_main_v74 (F := Ideal) x0 x1 x2 = fun y => gu x0 x1 x2 (y 0) (y 1) := by
  funext y
  obtain ⟨s, d, rfl⟩ := eta2 y
  refine Eq.trans ?_ (v13_at x0 x1 x2 s d)
  pointwise [val_main_v74]

theorem ref75 : val_main_v75 (F := Ideal) x0 x1 x2 x3 x4 x5 = fun y => ∑ s : Fin 16384,
    err (xR x0 x1 x2 x3 s) (vecR x4) (rowR x5 s) (y 1) * err (xR x0 x1 x2 x3 s) (vecR x4) (rowR x5 s) (y 1) := by
  funext y
  obtain ⟨o, d, rfl⟩ := eta2 y
  obtain rfl : o = 0 := Subsingleton.elim _ _
  exact v75_at x0 x1 x2 x3 x4 x5 d

theorem ref76 : val_main_v76 (F := Ideal) x0 x1 x2 x3 x4 x5 = fun y => ∑ s : Fin 16384,
    dloss (xR x0 x1 x2 x3 s) (vecR x4) (rowR x5 s) (y 1) * (xR x0 x1 x2 x3 s (y 1) * rinv (xR x0 x1 x2 x3 s)) := by
  funext y
  obtain ⟨o, d, rfl⟩ := eta2 y
  obtain rfl : o = 0 := Subsingleton.elim _ _
  exact v59_at x0 x1 x2 x3 x4 x5 d

theorem act_isR {g : Fin 5632 → EReal} (h : ∀ k, IsR (g k)) (k : Fin 2816) : IsR (act g k) :=
  ((h _).mul (lgs_isR (h _))).mul (h _)

theorem ref73 (h0 : ∀ i, IsR (x0 i)) (h1 : ∀ i, IsR (x1 i)) (h2 : ∀ i, IsR (x2 i)) (h3 : ∀ i, IsR (x3 i)) (h4 : ∀ i, IsR (x4 i))
    (h5 : ∀ i, IsR (x5 i)) :
    val_main_v73 (F := Ideal) x0 x1 x2 x3 x4 x5 = fun y => drow (xR x0 x1 x2 x3 (y 0)) (vecR x4) (rowR x5 (y 0)) (y 1) := by
  funext y
  obtain ⟨s, d, rfl⟩ := eta2 y
  show _ = drow (xR x0 x1 x2 x3 s) (vecR x4) (rowR x5 s) d
  have hx : ∀ d, IsR (xR x0 x1 x2 x3 s d) := fun d => (h0 _).add
    ((show IsR half from ⟨_, lit_half⟩).mul (IsR.sum _ _ fun k =>
      (act_isR (fun k => pre_isR _ _ _ (fun _ => h0 _) (fun _ => h1 _) (fun _ _ => h2 _) k) k).mul (h3 _)))
  have hD : ∀ d, IsR (dloss (xR x0 x1 x2 x3 s) (vecR x4) (rowR x5 s) d) := fun d =>
    ((((hx d).mul (rinv_isR _ hx)).mul (h4 _)).sub (h5 _)).mul ⟨_, lit_tick⟩
  have e := dx_eq (xR x0 x1 x2 x3 s) (fun _ => 0) (vecR x4) hx (fun _ => ⟨0, rfl⟩) (fun _ => h4 _)
    (dloss (xR x0 x1 x2 x3 s) (vecR x4) (rowR x5 s)) hD d
  rw [zero_add, zero_add] at e
  rw [v73_at]
  simp only [v53_at, v21_at, v29_at, v28_at]
  exact e

end Ref

theorem frame_r : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩)
    (Cert.Reference7Ideal.Value.run m ρ)

theorem value : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  pair_intro
  run_from Cert.Kernel7Ideal.Value.run_blocks m g
  refine (θ_run Cert.Reference7Ideal.defs _ _).mono (fun r h c => ?_) (Cert.Reference7Ideal.Value.run m' g')
  obtain ⟨r73, r74, r75, r76, k⟩ := h c
  obtain ⟨e0, e1, e2, e3, e4, e5⟩ := hagree c
  have h0 := real_of_cmp _ _ (hpre c).1
  have h1 := real_of_cmp _ _ (hpre c).2.1
  have h2 := real_of_cmp _ _ (hpre c).2.2.1
  have h3 := real_of_cmp _ _ (hpre c).2.2.2.1
  have h4 := real_of_cmp _ _ (hpre c).2.2.2.2.1
  have h5 := real_of_cmp _ _ (hpre c).2.2.2.2.2
  rw [val_main_v73_eq m' c, e0, e1, e2, e3, e4, e5] at r73
  rw [e0, e1, e2] at r74
  rw [val_main_v75_eq m' c, e0, e1, e2, e3, e4, e5] at r75
  rw [val_main_v76_eq m' c, e0, e1, e2, e3, e4, e5] at r76
  refine ⟨?_, ?_, ?_, ?_, k⟩
  · exact (r73.trans (ref73 _ _ _ _ _ _ h0 h1 h2 h3 h4 h5)).trans (arr6 m c).symm
  · exact ((r74.trans (val_main_v74_eq _ _ _)).trans (ref74 _ _ _)).trans (arr7 m c).symm
  · exact (r75.trans (ref75 _ _ _ _ _ _)).trans (arr8 m c).symm
  · exact (r76.trans (ref76 _ _ _ _ _ _)).trans (arr9 m c).symm

end Cert.Proof.Loss7

end
-- ==== Proof.Hidden8Claim.lean ====
/-
  The hidden layer of the first feed-forward block (norm, gate and value, activation): the call's results, and the reference's.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.FfnSpec
public import Idealize.ShloMosaic.Lib.Pipeline.ValueKit

@[expose] public section

set_option maxRecDepth 16384

noncomputable section

namespace Cert.Kernel8Ideal.Hidden

open Cert.Kernel8Ideal Cert.Kernel8Ideal.Gen Idealize.ShloMosaic Idealize.ShloMosaic.TcCoe Idealize.SL.Sem FfnSpec

/-! ## The body's values at one index -/

section Pay

variable (h : FVec Ideal S512x1024 .f32) (g : FVec Ideal S1x1024 .f32)

theorem pay7_at (s : Fin 512) (d : Fin 1024) :
    k0_pay7 (F := Ideal) h g (ix2 s d) = FfnSpec.norm (fun d => h (ix2 s d)) (fun d => g (ix2 0 d)) d := by
  pointwise [k0_pay7, FfnSpec.norm, rinv]

theorem pay2_at (n : FVec Ideal S512x1024 .bf16) (w : FVec Ideal S1x1024x1408 .bf16) (s : Fin 512) (k : Fin 1408) :
    k0_pay2 (F := Ideal) n w (ix2 s k) = ∑ d : Fin 1024, n (ix2 s d) * w (ix3 0 d k) := by
  pointwise [k0_pay2]
theorem pay3_at (n : FVec Ideal S512x1024 .bf16) (w : FVec Ideal S1x1024x1408 .bf16) (s : Fin 512) (k : Fin 1408) :
    k0_pay3 (F := Ideal) n w (ix2 s k) = ∑ d : Fin 1024, n (ix2 s d) * w (ix3 0 d k) := by
  pointwise [k0_pay3]
theorem pay8_at (w : FVec Ideal S1x1024x1408 .bf16) (s : Fin 512) (k : Fin 1408) :
    k0_pay8 (F := Ideal) h g w (ix2 s k) = ∑ d : Fin 1024, k0_pay7 (F := Ideal) h g (ix2 s d) * w (ix3 0 d k) := by
  pointwise [k0_pay8]
theorem pay9_at (w : FVec Ideal S1x1024x1408 .bf16) (s : Fin 512) (k : Fin 1408) :
    k0_pay9 (F := Ideal) h g w (ix2 s k) = ∑ d : Fin 1024, k0_pay7 (F := Ideal) h g (ix2 s d) * w (ix3 0 d k) := by
  pointwise [k0_pay9]
theorem pay6_at (n : FVec Ideal S512x1024 .bf16) (w w' : FVec Ideal S1x1024x1408 .bf16) (s : Fin 512) (k : Fin 1408) :
    k0_pay6 (F := Ideal) n w w' (ix2 s k)
      = k0_pay2 (F := Ideal) n w (ix2 s k) * lgs (k0_pay2 (F := Ideal) n w (ix2 s k)) * k0_pay3 (F := Ideal) n w' (ix2 s k) := by
  pointwise [k0_pay6, lgs]
theorem pay12_at (w w' : FVec Ideal S1x1024x1408 .bf16) (s : Fin 512) (k : Fin 1408) :
    k0_pay1 (F := Ideal) (k0_pay12 (F := Ideal) h g w w') (ix2 s k)
      = k0_pay8 (F := Ideal) h g w (ix2 s k) * lgs (k0_pay8 (F := Ideal) h g w (ix2 s k)) * k0_pay9 (F := Ideal) h g w' (ix2 s k) := by
  pointwise [k0_pay1, k0_pay12, lgs]

end Pay

/-! ## Blocks -/

variable (m : (ℓ : Loc nD τ sig) → Buf (Elt Ideal) ℓ)

/-- The gate and the value before the activation, of one row. -/
abbrev gu (h : FVec Ideal S16384x1024 .f32) (g : FVec Ideal S1024 .f32) (w : FVec Ideal S1024x5632 .f32) (s : Fin 16384) : Fin 5632 → EReal :=
  pre (fun d => h (ix2 s d)) (fun d => g (ix1 d)) (fun d k => w (ix2 d k))
abbrev guA (c : Dev nD) : Fin 16384 → Fin 5632 → EReal :=
  gu (m ((c.tc : Thread nD τ).loc main_arg0)) (m ((c.tc : Thread nD τ).loc main_arg1)) (m ((c.tc : Thread nD τ).loc main_arg2))

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem N32 : cfg0.N = 32 := N_0
abbrev row (t : Fin cfg0.N) (s : Fin 512) : Fin 16384 := ⟨t.val * 512 + s.val, by have := t.isLt; have := N32; omega⟩

theorem h_blk (c : Dev nD) (t : Fin cfg0.N) (s : Fin 512) (d : Fin 1024) :
    iblk m c 0 t (ix2 s d) = m ((c.tc : Thread nD τ).loc main_arg0) (ix2 (row t s) d) := by
  blk_ext [iblk, V, idx t]
theorem g_blk (c : Dev nD) (t : Fin cfg0.N) (d : Fin 1024) :
    iblk m c 1 t (ix2 0 d) = m ((c.tc : Thread nD τ).loc main_arg1) (ix1 d) := by
  blk_ext! [iblk, V, idx t]
theorem w_blk (c : Dev nD) (t : Fin cfg0.N) (d : Fin 1024) (k : Fin 5632) :
    iblk m c 2 t (ix3 ⟨k.val / 1408, by omega⟩ d ⟨k.val % 1408, by omega⟩) = m ((c.tc : Thread nD τ).loc main_arg2) (ix2 d k) := by
  blk_ext! [iblk, V, idx t]

/-- One column of a shard of the weight's block. -/
theorem w_col (c : Dev nD) (t : Fin cfg0.N) (d : Fin 1024) (j : Fin 4) (k : Fin 1408) (k' : Fin 5632) (h : k'.val = j.val * 1408 + k.val) :
    iblk m c 2 t (ix3 j d k) = m ((c.tc : Thread nD τ).loc main_arg2) (ix2 d k') := by
  rw [← w_blk m c t]
  refine congrArg (iblk m c 2 t) (congrArg₂ (fun a b => ix3 a d b) (Fin.ext ?_) (Fin.ext ?_))
  · show j.val = k'.val / 1408; omega
  · show k.val = k'.val % 1408; omega
theorem w_ld0 (c : Dev nD) (t : Fin cfg0.N) (d : Fin 1024) (k : Fin 1408) :
    View.ld (iblk m c 2 t) (Rect.unit ![0, 0, 0] ![1, 1024, 1408] inb_S4x1024x1408_S1x1024x1408_0_0_0) (ix3 0 d k)
      = m ((c.tc : Thread nD τ).loc main_arg2) (ix2 d (fl (lo k))) :=
  (View.ld_unit_apply_of _ _ _ _ _ (ix3 0 d k) fun a => by fin_cases a <;> simp [ix3]).trans (w_col m c t d 0 k _ (by simp))
theorem w_ld1 (c : Dev nD) (t : Fin cfg0.N) (d : Fin 1024) (k : Fin 1408) :
    View.ld (iblk m c 2 t) (Rect.unit ![1, 0, 0] ![1, 1024, 1408] inb_S4x1024x1408_S1x1024x1408_1_0_0) (ix3 0 d k)
      = m ((c.tc : Thread nD τ).loc main_arg2) (ix2 d (fl (hi k))) :=
  (View.ld_unit_apply_of _ _ _ _ _ (ix3 1 d k) fun a => by fin_cases a <;> simp [ix3]).trans (w_col m c t d 1 k _ (by simp))
theorem w_ld2 (c : Dev nD) (t : Fin cfg0.N) (d : Fin 1024) (k : Fin 1408) :
    View.ld (iblk m c 2 t) (Rect.unit ![2, 0, 0] ![1, 1024, 1408] inb_S4x1024x1408_S1x1024x1408_2_0_0) (ix3 0 d k)
      = m ((c.tc : Thread nD τ).loc main_arg2) (ix2 d (fr (lo k))) :=
  (View.ld_unit_apply_of _ _ _ _ _ (ix3 2 d k) fun a => by fin_cases a <;> simp [ix3]).trans (w_col m c t d 2 k _ (by simp))
theorem w_ld3 (c : Dev nD) (t : Fin cfg0.N) (d : Fin 1024) (k : Fin 1408) :
    View.ld (iblk m c 2 t) (Rect.unit ![3, 0, 0] ![1, 1024, 1408] inb_S4x1024x1408_S1x1024x1408_3_0_0) (ix3 0 d k)
      = m ((c.tc : Thread nD τ).loc main_arg2) (ix2 d (fr (hi k))) :=
  (View.ld_unit_apply_of _ _ _ _ _ (ix3 3 d k) fun a => by fin_cases a <;> simp [ix3]).trans (w_col m c t d 3 k _ (by simp; omega))

/-- The normalised row of a block. -/
theorem n_blk (c : Dev nD) (t : Fin cfg0.N) (s : Fin 512) (d : Fin 1024) :
    k0_pay7 (F := Ideal) (iblk m c 0 t) (iblk m c 1 t) (ix2 s d)
      = FfnSpec.norm (fun d => m ((c.tc : Thread nD τ).loc main_arg0) (ix2 (row t s) d)) (fun d => m ((c.tc : Thread nD τ).loc main_arg1) (ix1 d)) d := by
  rw [pay7_at]
  simp only [h_blk, g_blk]

/-- The four quarters of the gate and the value. -/
theorem q0 (c : Dev nD) (t : Fin cfg0.N) (s : Fin 512) (k : Fin 1408) :
    k0_pay8 (F := Ideal) (iblk m c 0 t) (iblk m c 1 t) (View.ld (iblk m c 2 t) (Rect.unit ![0, 0, 0] ![1, 1024, 1408] inb_S4x1024x1408_S1x1024x1408_0_0_0)) (ix2 s k) = guA m c (row t s) (fl (lo k)) := by
  rw [pay8_at]
  simp only [n_blk, w_ld0]
  rfl
theorem q1 (c : Dev nD) (t : Fin cfg0.N) (s : Fin 512) (k : Fin 1408) :
    k0_pay2 (F := Ideal) (k0_pay7 (iblk m c 0 t) (iblk m c 1 t)) (View.ld (iblk m c 2 t) (Rect.unit ![1, 0, 0] ![1, 1024, 1408] inb_S4x1024x1408_S1x1024x1408_1_0_0)) (ix2 s k) = guA m c (row t s) (fl (hi k)) := by
  rw [pay2_at]
  simp only [n_blk, w_ld1]
  rfl
theorem q2 (c : Dev nD) (t : Fin cfg0.N) (s : Fin 512) (k : Fin 1408) :
    k0_pay9 (F := Ideal) (iblk m c 0 t) (iblk m c 1 t) (View.ld (iblk m c 2 t) (Rect.unit ![2, 0, 0] ![1, 1024, 1408] inb_S4x1024x1408_S1x1024x1408_2_0_0)) (ix2 s k) = guA m c (row t s) (fr (lo k)) := by
  rw [pay9_at]
  simp only [n_blk, w_ld2]
  rfl
theorem q3 (c : Dev nD) (t : Fin cfg0.N) (s : Fin 512) (k : Fin 1408) :
    k0_pay3 (F := Ideal) (k0_pay7 (iblk m c 0 t) (iblk m c 1 t)) (View.ld (iblk m c 2 t) (Rect.unit ![3, 0, 0] ![1, 1024, 1408] inb_S4x1024x1408_S1x1024x1408_3_0_0)) (ix2 s k) = guA m c (row t s) (fr (hi k)) := by
  rw [pay3_at]
  simp only [n_blk, w_ld3]
  rfl

/-- The activation's two halves. -/
theorem act_lo (c : Dev nD) (t : Fin cfg0.N) (s : Fin 512) (k : Fin 1408) :
    k0_pay1 (F := Ideal) (k0_pay12 (iblk m c 0 t) (iblk m c 1 t) (View.ld (iblk m c 2 t) (Rect.unit ![0, 0, 0] ![1, 1024, 1408] inb_S4x1024x1408_S1x1024x1408_0_0_0))
      (View.ld (iblk m c 2 t) (Rect.unit ![2, 0, 0] ![1, 1024, 1408] inb_S4x1024x1408_S1x1024x1408_2_0_0))) (ix2 s k) = act (guA m c (row t s)) (lo k) := by
  rw [pay12_at, q0, q2, act]
theorem act_hi (c : Dev nD) (t : Fin cfg0.N) (s : Fin 512) (k : Fin 1408) :
    k0_pay6 (F := Ideal) (k0_pay7 (iblk m c 0 t) (iblk m c 1 t)) (View.ld (iblk m c 2 t) (Rect.unit ![1, 0, 0] ![1, 1024, 1408] inb_S4x1024x1408_S1x1024x1408_1_0_0))
      (View.ld (iblk m c 2 t) (Rect.unit ![3, 0, 0] ![1, 1024, 1408] inb_S4x1024x1408_S1x1024x1408_3_0_0)) (ix2 s k) = act (guA m c (row t s)) (hi k) := by
  rw [pay6_at, q1, q3, act]

/-- The normalised rows, as the second half of the body names them. -/
theorem n_again (x0 : FVec Ideal S512x1024 .f32) (x1 : FVec Ideal S1x1024 .f32) (x2 : FVec Ideal S4x1024x1408 .bf16) :
    k0_pay13 (F := Ideal) x0 x1 x2 = k0_pay7 x0 x1 :=
  congrArg₂ (k0_pay7 (F := Ideal)) (View.ld_unit_lit _ _ (by decide)) (View.ld_unit_lit _ _ (by decide))

/-- An index of a piece put at column `b` of a row. -/
theorem piece_ix {N p : Nat} (x : (⟨2, ![512, p]⟩ : Shape).Idx) (s : Fin 512) (d : Fin N) (b : Nat) (hb : b + p ≤ N)
    (h0 : s.val = (x 0).val) (h1 : d.val = b + (x 1).val) :
    ∃ k : Fin p, x = ix2 s k ∧ d = ⟨b + k.val, Nat.lt_of_lt_of_le (Nat.add_lt_add_left k.isLt b) hb⟩ :=
  ⟨x 1, funext fun a => by fin_cases a <;> apply Fin.ext <;> simp [ix2, h0], Fin.ext h1⟩

theorem arr3 (c : Dev nD) : (dats m 0 c).arrAt 3 cfg0.N = fun y => guA m c (y 0) (y 1) := by
  refine (dats m 0 c).arrAt_eq_of_covers 3 _ (by decide +kernel) fun t hf y => ?_
  blk_simp
  have ey : (((View.whole main_v4_0).slice (win0_3.rect t)).emb y) = ix2 (row t (y 0)) (y 1) := by blk_ext [idx t]
  obtain ⟨s, d, rfl⟩ : ∃ (s : Fin 512) (d : Fin 5632), y = ix2 s d := ⟨y 0, y 1, by blk_ext [idx t]⟩
  rw [ey, after0_3]
  show _ = guA m c (row t s) d
  frame_out
  rw [n_again]
  canon_tiles x h'
  · obtain ⟨k, rfl, rfl⟩ := piece_ix x s d 4224 (by decide) h'0 h'1
    exact (q3 m c t s k).trans (congrArg _ (Fin.ext (by show 2816 + (1408 + k.val) = 4224 + k.val; omega)))
  · obtain ⟨k, rfl, rfl⟩ := piece_ix x s d 1408 (by decide) h'0 h'1
    exact q1 m c t s k
  · obtain ⟨k, rfl, rfl⟩ := piece_ix x s d 2816 (by decide) h'0 h'1
    exact q2 m c t s k
  · obtain ⟨k, rfl, rfl⟩ := piece_ix x s d 0 (by decide) h'0 (by rw [Nat.zero_add]; exact h'1)
    exact (q0 m c t s k).trans (congrArg _ (Fin.ext (Nat.zero_add _).symm))

theorem arr4 (c : Dev nD) : (dats m 0 c).arrAt 4 cfg0.N = fun y => act (guA m c (y 0)) (y 1) := by
  refine (dats m 0 c).arrAt_eq_of_covers 4 _ (by decide +kernel) fun t hf y => ?_
  blk_simp
  have ey : (((View.whole main_v4_1).slice (win0_4.rect t)).emb y) = ix2 (row t (y 0)) (y 1) := by blk_ext [idx t]
  obtain ⟨s, d, rfl⟩ : ∃ (s : Fin 512) (d : Fin 2816), y = ix2 s d := ⟨y 0, y 1, by blk_ext [idx t]⟩
  rw [ey, after0_4]
  show _ = act (guA m c (row t s)) d
  frame_out
  rw [n_again]
  canon_tiles x h'
  · obtain ⟨k, rfl, rfl⟩ := piece_ix x s d 1408 (by decide) h'0 h'1
    exact act_hi m c t s k
  · obtain ⟨k, rfl, rfl⟩ := piece_ix x s d 0 (by decide) h'0 (by rw [Nat.zero_add]; exact h'1)
    exact (act_lo m c t s k).trans (congrArg _ (Fin.ext (Nat.zero_add _).symm))

end Cert.Kernel8Ideal.Hidden

namespace Cert.Proof.Hidden8

open Idealize.ShloMosaic Idealize.ShloMosaic.TcCoe Idealize.SL.Sem FfnSpec
open Cert.Reference8Ideal Cert.Reference8Ideal.Read Cert.Kernel8Ideal.Hidden

variable (x0 : FVec Ideal S16384x1024 .f32) (x1 : FVec Ideal S1024 .f32) (x2 : FVec Ideal S1024x5632 .f32)

theorem v12_at (s : Fin 16384) (d : Fin 1024) :
    val_main_v12 (F := Ideal) x0 x1 (ix2 s d) = FfnSpec.norm (fun d => x0 (ix2 s d)) (fun d => x1 (ix1 d)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, FfnSpec.norm, rinv]

theorem v13_at (s : Fin 16384) (k : Fin 5632) : val_main_v13 (F := Ideal) x0 x1 x2 (ix2 s k) = gu x0 x1 x2 s k := by
  pointwise [val_main_v13]
  simp only [v12_at]
  rfl

theorem ref14 : val_main_v14 (F := Ideal) x0 x1 x2 = fun y => gu x0 x1 x2 (y 0) (y 1) := by
  funext y
  obtain ⟨s, d, rfl⟩ : ∃ (s : Fin 16384) (d : Fin 5632), y = ix2 s d := ⟨y 0, y 1, by funext i; fin_cases i <;> rfl⟩
  refine Eq.trans ?_ (v13_at x0 x1 x2 s d)
  pointwise [val_main_v14]

theorem v15_at (s : Fin 16384) (k : Fin 2816) : val_main_v15 (F := Ideal) x0 x1 x2 (ix2 s k) = gu x0 x1 x2 s (fl k) := by
  rw [← v13_at]
  pointwise [val_main_v15]
theorem v16_at (s : Fin 16384) (k : Fin 2816) : val_main_v16 (F := Ideal) x0 x1 x2 (ix2 s k) = gu x0 x1 x2 s (fr k) := by
  rw [← v13_at]
  pointwise [val_main_v16]

theorem call0_v5_at (s : Fin 16384) (k : Fin 2816) :
    val_main_call0_v5 (F := Ideal) x0 x1 x2 (ix2 s k) = lgs (gu x0 x1 x2 s (fl k)) := by
  pointwise [val_main_call0_v5, val_main_call0_v4, val_main_call0_v3, val_main_call0_v2, val_main_call0_v1, val_main_call0_v0,
    val_main_call0_cst, val_main_call0_cst_0, lgs]
  rw [v15_at, zero_sub]

theorem ref19 : val_main_v19 (F := Ideal) x0 x1 x2 = fun y => act (gu x0 x1 x2 (y 0)) (y 1) := by
  funext y
  obtain ⟨s, k, rfl⟩ : ∃ (s : Fin 16384) (k : Fin 2816), y = ix2 s k := ⟨y 0, y 1, by funext i; fin_cases i <;> rfl⟩
  show _ = act (gu x0 x1 x2 s) k
  pointwise [val_main_v19, val_main_v18, val_main_v17]
  rw [v15_at, v16_at, call0_v5_at, act]

theorem frame_r : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run m ρ)

theorem value : Cert.algebraic_Kernel8Ideal_Reference8Ideal (hKernel8Ideal := Cert.Kernel8Ideal.Gen.facts)
    (hReference8Ideal := Cert.Reference8Ideal.Gen.facts) := by
  pair_intro
  run_from Cert.Kernel8Ideal.Value.run_blocks m g
  refine (θ_run Cert.Reference8Ideal.defs _ _).mono (fun r h c => ?_) (Cert.Reference8Ideal.Value.run m' g')
  obtain ⟨r1, r2, k⟩ := h c
  obtain ⟨e0, e1, e2⟩ := hagree c
  rw [e0, e1, e2] at r1 r2
  exact ⟨((r1.trans (val_main_v14_eq _ _ _)).trans (ref14 _ _ _)).trans (arr3 m c).symm,
    ((r2.trans (val_main_v19_eq _ _ _)).trans (ref19 _ _ _)).trans (arr4 m c).symm, k⟩

end Cert.Proof.Hidden8

end
-- ==== Proof.Down9Claim.lean ====
/-
  The down projection of the first feed-forward block with its skip connection: the call's result, and the reference's.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit

@[expose] public section

set_option maxRecDepth 16384

noncomputable section

namespace Cert.Kernel9Ideal.Down

open Cert.Kernel9Ideal Cert.Kernel9Ideal.Gen Idealize.ShloMosaic Idealize.ShloMosaic.TcCoe Idealize.SL.Sem

variable (m : (ℓ : Loc nD τ sig) → Buf (Elt Ideal) ℓ)

/-- The row plus half its activations' image. -/
def out (h : FVec Ideal S16384x1024 .f32) (a : FVec Ideal S16384x2816 .bf16) (w : FVec Ideal S2816x1024 .f32) (s : Fin 16384) (d : Fin 1024) : EReal :=
  h (ix2 s d) + Ideal.ofBits .f32 0x3F000000#32 * ∑ k : Fin 2816, a (ix2 s k) * w (ix2 k d)

theorem pay1_at (h : FVec Ideal S512x1024 .f32) (a : FVec Ideal S512x2816 .bf16) (w : FVec Ideal S2816x1024 .bf16) (s : Fin 512) (d : Fin 1024) :
    k0_pay1 (F := Ideal) h a w (ix2 s d) = h (ix2 s d) + Ideal.ofBits .f32 0x3F000000#32 * ∑ k : Fin 2816, a (ix2 s k) * w (ix2 k d) := by
  pointwise [k0_pay1]

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem N32 : cfg0.N = 32 := N_0
abbrev row (t : Fin cfg0.N) (s : Fin 512) : Fin 16384 := ⟨t.val * 512 + s.val, by have := t.isLt; have := N32; omega⟩

theorem h_blk (c : Dev nD) (t : Fin cfg0.N) (s : Fin 512) (d : Fin 1024) :
    iblk m c 0 t (ix2 s d) = m ((c.tc : Thread nD τ).loc main_arg0) (ix2 (row t s) d) := by
  blk_ext [iblk, V, idx t]
theorem a_blk (c : Dev nD) (t : Fin cfg0.N) (s : Fin 512) (k : Fin 2816) :
    iblk m c 1 t (ix2 s k) = m ((c.tc : Thread nD τ).loc main_arg1) (ix2 (row t s) k) := by
  blk_ext [iblk, V, idx t]
theorem w_blk (c : Dev nD) (t : Fin cfg0.N) (k : Fin 2816) (d : Fin 1024) :
    iblk m c 2 t (ix2 k d) = m ((c.tc : Thread nD τ).loc main_arg2) (ix2 k d) := by
  blk_ext! [iblk, V, idx t]

theorem arr3 (c : Dev nD) : (dats m 0 c).arrAt 3 cfg0.N
    = fun y => out (m ((c.tc : Thread nD τ).loc main_arg0)) (m ((c.tc : Thread nD τ).loc main_arg1)) (m ((c.tc : Thread nD τ).loc main_arg2)) (y 0) (y 1) := by
  refine (dats m 0 c).arrAt_eq_of_covers 3 _ (by decide +kernel) fun t hf y => ?_
  blk_simp
  have ey : (((View.whole main_v1).slice (win0_3.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_3]
  frame_out
  refine (pay1_at _ _ _ s d).trans ?_
  simp only [h_blk, a_blk, w_blk]
  rfl

end Cert.Kernel9Ideal.Down

namespace Cert.Proof.Down9

open Idealize.ShloMosaic Idealize.ShloMosaic.TcCoe Idealize.SL.Sem
open Cert.Reference9Ideal Cert.Reference9Ideal.Read Cert.Kernel9Ideal.Down

theorem ref4 (x0 : FVec Ideal S16384x1024 .f32) (x1 : FVec Ideal S16384x2816 .bf16) (x2 : FVec Ideal S2816x1024 .f32) :
    val_main_v4 (F := Ideal) x0 x1 x2 = fun y => out x0 x1 x2 (y 0) (y 1) := by
  funext y
  obtain ⟨s, d, rfl⟩ : ∃ (s : Fin 16384) (d : Fin 1024), y = ix2 s d := ⟨y 0, y 1, by funext i; fin_cases i <;> rfl⟩
  show _ = out x0 x1 x2 s d
  pointwise [val_main_v4, val_main_v3, val_main_v2, val_main_v1, val_main_v0, val_main_cst, out]

theorem frame_r : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

theorem value : Cert.algebraic_Kernel9Ideal_Reference9Ideal (hKernel9Ideal := Cert.Kernel9Ideal.Gen.facts)
    (hReference9Ideal := Cert.Reference9Ideal.Gen.facts) := by
  pair_intro
  run_from Cert.Kernel9Ideal.Value.run_blocks m g
  refine (θ_run Cert.Reference9Ideal.defs _ _).mono (fun r h c => ?_) (Cert.Reference9Ideal.Value.run m' g')
  obtain ⟨r4, k⟩ := h c
  obtain ⟨e0, e1, e2⟩ := hagree c
  rw [e0, e1, e2] at r4
  exact ⟨((r4.trans (val_main_v4_eq _ _ _)).trans (ref4 _ _ _)).trans (arr3 m c).symm, k⟩

end Cert.Proof.Down9

end
-- ==== Proof.Kv10Claim.lean ====
/-
  The backward pass of the memory's keys and values: the gradients of `w_kv` and of the memory's norm, and the reference's.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.FfnSpec
public import proofs.«01_k».proof.Proof.Finite
public import Idealize.ShloMosaic.Lib.Pipeline.ValueKit

@[expose] public section

set_option maxRecDepth 16384

noncomputable section

namespace Cert.Kernel10Ideal.Kv

open Cert.Kernel10Ideal Cert.Kernel10Ideal.Gen Idealize.ShloMosaic Idealize.ShloMosaic.TcCoe Idealize.SL.Sem FfnSpec

/-! ## The body's values at one index -/

section Pay

variable (n : FVec Ideal S256x1024 .bf16) (y : FVec Ideal S256x512 .f32)

/-- The product of the memory's rows with half the columns of a gradient. -/
def half (n : FVec Ideal S256x1024 .bf16) (y : FVec Ideal S256x512 .f32) (a : Fin 1024) (b : Fin 512) : EReal :=
  ∑ s : Fin 256, n (ix2 s a) * y (ix2 s b)

theorem pay7_at (a : Fin 1024) (b : Fin 512) : k0_pay7 (F := Ideal) n y (ix3 0 a b) = half n y a b := by
  pointwise [k0_pay7, k0_pay6, k0_pay4, half]
theorem pay8_at (a : Fin 1024) (b : Fin 512) : k0_pay8 (F := Ideal) n y (ix3 0 a b) = half n y a b := by
  pointwise [k0_pay8, k0_pay6, k0_pay4, half]
theorem pay10_at (a : Fin 1024) (b : Fin 512) : k0_pay10 (F := Ideal) n y (ix3 0 a b) = half n y a b := by
  pointwise [k0_pay10, k0_pay9, k0_pay5, half]
theorem pay12_at (a : Fin 1024) (b : Fin 512) : k0_pay12 (F := Ideal) (k0_pay11 n y) (ix3 0 a b) = half n y a b := by
  pointwise [k0_pay12, k0_pay11, k0_pay9, k0_pay5, half]
theorem pay17_at (a : Fin 1024) (b : Fin 512) : k0_pay17 (F := Ideal) n y (ix3 0 a b) = half n y a b := by
  pointwise [k0_pay17, k0_pay16, k0_pay14, half]
theorem pay18_at (a : Fin 1024) (b : Fin 512) : k0_pay18 (F := Ideal) n y (ix3 0 a b) = half n y a b := by
  pointwise [k0_pay18, k0_pay16, k0_pay14, half]
theorem pay20_at (a : Fin 1024) (b : Fin 512) : k0_pay20 (F := Ideal) n y (ix3 0 a b) = half n y a b := by
  pointwise [k0_pay20, k0_pay19, k0_pay15, half]
theorem pay21_at (a : Fin 1024) (b : Fin 512) : k0_pay21 (F := Ideal) n y (ix3 0 a b) = half n y a b := by
  pointwise [k0_pay21, k0_pay19, k0_pay15, half]

theorem pay2_at (h : FVec Ideal S256x1024 .f32) (s : Fin 256) (d : Fin 1024) :
    k0_pay2 (F := Ideal) h (ix2 s d) = h (ix2 s d) * rinv fun d => h (ix2 s d) := by
  pointwise [k0_pay2, rinv]
theorem pay13_at (y y' : FVec Ideal S256x512 .f32) (w w' : FVec Ideal S1x1024x512 .bf16) (s : Fin 256) (d : Fin 1024) :
    k0_pay13 (F := Ideal) k0_pay3 (k0_pay4 y) (k0_pay5 y') w w' (ix2 s d)
      = (0 + ∑ b : Fin 512, y (ix2 s b) * w (ix3 0 d b)) + ∑ b : Fin 512, y' (ix2 s b) * w' (ix3 0 d b) := by
  pointwise [k0_pay13, k0_pay3, k0_pay4, k0_pay5]
theorem pay1_at (x D : FVec Ideal S256x1024 .f32) (y y' : FVec Ideal S256x512 .f32) (w w' : FVec Ideal S1x1024x512 .bf16) (d : Fin 1024) :
    k0_pay1 (F := Ideal) x D (k0_pay14 y) (k0_pay15 y') w w' (ix2 0 d)
      = ∑ s : Fin 256, ((D (ix2 s d) + ∑ b : Fin 512, y (ix2 s b) * w (ix3 0 d b)) + ∑ b : Fin 512, y' (ix2 s b) * w' (ix3 0 d b)) * x (ix2 s d) := by
  pointwise [k0_pay1, k0_pay14, k0_pay15]

end Pay

/-! ## The arrays -/

variable (m : (ℓ : Loc nD τ sig) → Buf (Elt Ideal) ℓ)

/-- Column `b` of half `j` of the keys or of the values, and column `b` of quarter `j` of the weight. -/
abbrev hc (j : Fin 2) (b : Fin 512) : Fin 1024 := ⟨j.val * 512 + b.val, by omega⟩
abbrev wc (j : Fin 4) (b : Fin 512) : Fin 2048 := ⟨j.val * 512 + b.val, by omega⟩

abbrev hA (c : Dev nD) (s : Fin 256) : Fin 1024 → EReal := fun d => m ((c.tc : Thread nD τ).loc main_arg0) (ix2 s d)
abbrev nA (c : Dev nD) (s : Fin 256) : Fin 1024 → EReal := fun d => m ((c.tc : Thread nD τ).loc main_arg1) (ix2 s d)
abbrev wA (c : Dev nD) : Fin 1024 → Fin 2048 → EReal := fun d k => m ((c.tc : Thread nD τ).loc main_arg3) (ix2 d k)
/-- The gradients of the keys and of the values, side by side. -/
def kv (k v : Fin 256 → Fin 1024 → EReal) (s : Fin 256) (j : Fin 4) (b : Fin 512) : EReal :=
  if h : j.val < 2 then k s (hc ⟨j.val, h⟩ b) else v s (hc ⟨j.val - 2, by omega⟩ b)
abbrev kvA (c : Dev nD) : Fin 256 → Fin 4 → Fin 512 → EReal :=
  kv (fun s d => m ((c.tc : Thread nD τ).loc main_arg4) (ix2 s d)) (fun s d => m ((c.tc : Thread nD τ).loc main_arg5) (ix2 s d))

theorem idx : ∀ t : Fin cfg0.N, win0_0.index t = ![0, 0] ∧ win0_2.index t = ![0, 0] ∧ win0_3.index t = ![0, 0, 0] ∧ win0_4.index t = ![0, 0]
    ∧ win0_5.index t = ![0, 0] ∧ win0_6.index t = ![0, 0, 0] ∧ win0_7.index t = ![0, 0, 0] ∧ win0_8.index t = ![0, 0] :=
  (by decide +kernel : ∀ t : Fin grid0.N, _)

theorem h_blk (c : Dev nD) (t : Fin cfg0.N) (s : Fin 256) (d : Fin 1024) : iblk m c 0 t (ix2 s d) = hA m c s d := by
  show _ = m ((c.tc : Thread nD τ).loc main_arg0) (ix2 s d)
  blk_ext [iblk, V, idx t]
theorem n_blk (c : Dev nD) (t : Fin cfg0.N) (s : Fin 256) (d : Fin 1024) : iblk m c 2 t (ix2 s d) = nA m c s d := by
  show _ = m ((c.tc : Thread nD τ).loc main_arg1) (ix2 s d)
  blk_ext [iblk, V, idx t]
theorem k_blk (c : Dev nD) (t : Fin cfg0.N) (s : Fin 256) (d : Fin 1024) :
    iblk m c 4 t (ix2 s d) = m ((c.tc : Thread nD τ).loc main_arg4) (ix2 s d) := by
  blk_ext [iblk, V, idx t]
theorem v_blk (c : Dev nD) (t : Fin cfg0.N) (s : Fin 256) (d : Fin 1024) :
    iblk m c 5 t (ix2 s d) = m ((c.tc : Thread nD τ).loc main_arg5) (ix2 s d) := by
  blk_ext [iblk, V, idx t]
theorem w_blk (c : Dev nD) (t : Fin cfg0.N) (d : Fin 1024) (k : Fin 2048) :
    iblk m c 3 t (ix3 ⟨k.val / 512, by omega⟩ d ⟨k.val % 512, by omega⟩) = wA m c d k := by
  show _ = m ((c.tc : Thread nD τ).loc main_arg3) (ix2 d k)
  blk_ext! [iblk, V, idx t]

theorem w_col (c : Dev nD) (t : Fin cfg0.N) (d : Fin 1024) (j : Fin 4) (b : Fin 512) : iblk m c 3 t (ix3 j d b) = wA m c d (wc j b) := by
  rw [← w_blk m c t]
  refine congrArg (iblk m c 3 t) (congrArg₂ (fun a b => ix3 a d b) (Fin.ext ?_) (Fin.ext ?_))
  · show j.val = (j.val * 512 + b.val) / 512; omega
  · show b.val = (j.val * 512 + b.val) % 512; omega
theorem w_ld0 (c : Dev nD) (t : Fin cfg0.N) (d : Fin 1024) (b : Fin 512) :
    View.ld (iblk m c 3 t) (Rect.unit ![0, 0, 0] ![1, 1024, 512] inb_S4x1024x512_S1x1024x512_0_0_0) (ix3 0 d b) = wA m c d (wc 0 b) :=
  (View.ld_unit_apply_of _ _ _ _ _ (ix3 0 d b) fun a => by fin_cases a <;> simp [ix3]).trans (w_col m c t d 0 b)
theorem w_ld1 (c : Dev nD) (t : Fin cfg0.N) (d : Fin 1024) (b : Fin 512) :
    View.ld (iblk m c 3 t) (Rect.unit ![1, 0, 0] ![1, 1024, 512] inb_S4x1024x512_S1x1024x512_1_0_0) (ix3 0 d b) = wA m c d (wc 1 b) :=
  (View.ld_unit_apply_of _ _ _ _ _ (ix3 1 d b) fun a => by fin_cases a <;> simp [ix3]).trans (w_col m c t d 1 b)
theorem w_ld2 (c : Dev nD) (t : Fin cfg0.N) (d : Fin 1024) (b : Fin 512) :
    View.ld (iblk m c 3 t) (Rect.unit ![2, 0, 0] ![1, 1024, 512] inb_S4x1024x512_S1x1024x512_2_0_0) (ix3 0 d b) = wA m c d (wc 2 b) :=
  (View.ld_unit_apply_of _ _ _ _ _ (ix3 2 d b) fun a => by fin_cases a <;> simp [ix3]).trans (w_col m c t d 2 b)
theorem w_ld3 (c : Dev nD) (t : Fin cfg0.N) (d : Fin 1024) (b : Fin 512) :
    View.ld (iblk m c 3 t) (Rect.unit ![3, 0, 0] ![1, 1024, 512] inb_S4x1024x512_S1x1024x512_3_0_0) (ix3 0 d b) = wA m c d (wc 3 b) :=
  (View.ld_unit_apply_of _ _ _ _ _ (ix3 3 d b) fun a => by fin_cases a <;> simp [ix3]).trans (w_col m c t d 3 b)
theorem k_ld0 (c : Dev nD) (t : Fin cfg0.N) (s : Fin 256) (b : Fin 512) :
    View.ld (iblk m c 4 t) (Rect.unit ![0, 0] ![256, 512] inb_S256x1024_S256x512_0_0) (ix2 s b) = kvA m c s 0 b :=
  (View.ld_unit_apply_of _ _ _ _ _ (ix2 s (hc 0 b)) fun a => by fin_cases a <;> simp [ix2]).trans (k_blk m c t s _)
theorem k_ld1 (c : Dev nD) (t : Fin cfg0.N) (s : Fin 256) (b : Fin 512) :
    View.ld (iblk m c 4 t) (Rect.unit ![0, 512] ![256, 512] inb_S256x1024_S256x512_0_512) (ix2 s b) = kvA m c s 1 b :=
  (View.ld_unit_apply_of _ _ _ _ _ (ix2 s (hc 1 b)) fun a => by fin_cases a <;> simp [ix2]).trans (k_blk m c t s _)
theorem v_ld0 (c : Dev nD) (t : Fin cfg0.N) (s : Fin 256) (b : Fin 512) :
    View.ld (iblk m c 5 t) (Rect.unit ![0, 0] ![256, 512] inb_S256x1024_S256x512_0_0) (ix2 s b) = kvA m c s 2 b :=
  (View.ld_unit_apply_of _ _ _ _ _ (ix2 s (hc 0 b)) fun a => by fin_cases a <;> simp [ix2]).trans (v_blk m c t s _)
theorem v_ld1 (c : Dev nD) (t : Fin cfg0.N) (s : Fin 256) (b : Fin 512) :
    View.ld (iblk m c 5 t) (Rect.unit ![0, 512] ![256, 512] inb_S256x1024_S256x512_0_512) (ix2 s b) = kvA m c s 3 b :=
  (View.ld_unit_apply_of _ _ _ _ _ (ix2 s (hc 1 b)) fun a => by fin_cases a <;> simp [ix2]).trans (v_blk m c t s _)

/-- The weight's gradient, quarter by quarter. -/
def dw (n : Fin 256 → Fin 1024 → EReal) (y : Fin 256 → Fin 4 → Fin 512 → EReal) (j : Fin 4) (a : Fin 1024) (b : Fin 512) : EReal :=
  ∑ s, n s a * y s j b
/-- The gradient at the memory's normalised row. -/
def dn (y : Fin 4 → Fin 512 → EReal) (W : Fin 1024 → Fin 2048 → EReal) (d : Fin 1024) : EReal := ∑ j, ∑ b, y j b * W d (wc j b)

theorem half_eq (c : Dev nD) (t : Fin cfg0.N) (y : FVec Ideal S256x512 .f32) (j : Fin 4) (hy : ∀ s b, y (ix2 s b) = kvA m c s j b)
    (a : Fin 1024) (b : Fin 512) : half (iblk m c 2 t) y a b = dw (nA m c) (kvA m c) j a b :=
  Finset.sum_congr rfl fun s _ => by rw [n_blk, hy]

/-- An index of a piece which is one quarter of the weight's gradient. -/
theorem piece_ix (x : S1x1024x512.Idx) (j : Fin 4) (a : Fin 1024) (b : Fin 512) (n : Fin 4) (h0 : j.val = n.val + (x 0).val)
    (h1 : a.val = (x 1).val) (h2 : b.val = (x 2).val) : x = ix3 0 a b ∧ j = n := by
  have hx : (x 0).val < 1 := (x 0).isLt
  exact ⟨funext fun i => by fin_cases i <;> apply Fin.ext <;> simp [ix3, h1, h2], Fin.ext (by omega)⟩

theorem arr6 (c : Dev nD) : (dats m 0 c).arrAt 6 cfg0.N = fun y => dw (nA m c) (kvA m c) (y 0) (y 1) (y 2) := by
  refine (dats m 0 c).arrAt_eq_of_covers 6 _ (by decide +kernel) fun t hf y => ?_
  blk_simp
  obtain ⟨j, a, b, rfl⟩ : ∃ (j : Fin 4) (a : Fin 1024) (b : Fin 512), y = ix3 j a b := ⟨y 0, y 1, y 2, by blk_ext [idx t]⟩
  have ey : (((View.whole main_v4_0).slice (win0_6.rect t)).emb (ix3 j a b)) = ix3 j a b := by blk_ext [idx t]
  rw [ey, after0_6]
  show _ = dw (nA m c) (kvA m c) j a b
  frame_out
  canon_tiles x h'
  · obtain ⟨rfl, rfl⟩ := piece_ix x j a b 3 h'0 h'1 h'2
    exact (pay20_at _ _ a b).trans (half_eq m c t _ 3 (v_ld1 m c t) a b)
  · obtain ⟨rfl, rfl⟩ := piece_ix x j a b 1 h'0 h'1 h'2
    exact (pay17_at _ _ a b).trans (half_eq m c t _ 1 (k_ld1 m c t) a b)
  · obtain ⟨rfl, rfl⟩ := piece_ix x j a b 2 h'0 h'1 h'2
    exact (pay10_at _ _ a b).trans (half_eq m c t _ 2 (v_ld0 m c t) a b)
  · obtain ⟨rfl, rfl⟩ := piece_ix x j a b 0 (by simpa using h'0) h'1 h'2
    exact (pay7_at _ _ a b).trans (half_eq m c t _ 0 (k_ld0 m c t) a b)

theorem arr7 (c : Dev nD) : (dats m 0 c).arrAt 7 cfg0.N = fun y => dw (nA m c) (kvA m c) (y 0) (y 1) (y 2) := by
  refine (dats m 0 c).arrAt_eq_of_covers 7 _ (by decide +kernel) fun t hf y => ?_
  blk_simp
  obtain ⟨j, a, b, rfl⟩ : ∃ (j : Fin 4) (a : Fin 1024) (b : Fin 512), y = ix3 j a b := ⟨y 0, y 1, y 2, by blk_ext [idx t]⟩
  have ey : (((View.whole main_v4_1).slice (win0_7.rect t)).emb (ix3 j a b)) = ix3 j a b := by blk_ext [idx t]
  rw [ey, after0_7]
  show _ = dw (nA m c) (kvA m c) j a b
  frame_out
  canon_tiles x h'
  · obtain ⟨rfl, rfl⟩ := piece_ix x j a b 3 h'0 h'1 h'2
    exact (pay21_at _ _ a b).trans (half_eq m c t _ 3 (v_ld1 m c t) a b)
  · obtain ⟨rfl, rfl⟩ := piece_ix x j a b 1 h'0 h'1 h'2
    exact (pay18_at _ _ a b).trans (half_eq m c t _ 1 (k_ld1 m c t) a b)
  · obtain ⟨rfl, rfl⟩ := piece_ix x j a b 2 h'0 h'1 h'2
    exact (pay12_at _ _ a b).trans (half_eq m c t _ 2 (v_ld0 m c t) a b)
  · obtain ⟨rfl, rfl⟩ := piece_ix x j a b 0 (by simpa using h'0) h'1 h'2
    exact (pay8_at _ _ a b).trans (half_eq m c t _ 0 (k_ld0 m c t) a b)

theorem dn_quarters (y : Fin 4 → Fin 512 → EReal) (W : Fin 1024 → Fin 2048 → EReal) (d : Fin 1024) :
    (((0 + ∑ b, y 0 b * W d (wc 0 b)) + ∑ b, y 2 b * W d (wc 2 b)) + ∑ b, y 1 b * W d (wc 1 b)) + ∑ b, y 3 b * W d (wc 3 b) = dn y W d := by
  rw [dn, Fin.sum_univ_four, zero_add]
  abel

theorem gain_eq (h : FVec Ideal S256x1024 .f32) (y0 y1 y2 y3 : FVec Ideal S256x512 .f32) (w0 w1 w2 w3 : FVec Ideal S1x1024x512 .bf16)
    (H : Fin 256 → Fin 1024 → EReal) (Y : Fin 256 → Fin 4 → Fin 512 → EReal) (W : Fin 1024 → Fin 2048 → EReal)
    (eh : ∀ s d, h (ix2 s d) = H s d) (ey0 : ∀ s b, y0 (ix2 s b) = Y s 0 b) (ey1 : ∀ s b, y1 (ix2 s b) = Y s 1 b)
    (ey2 : ∀ s b, y2 (ix2 s b) = Y s 2 b) (ey3 : ∀ s b, y3 (ix2 s b) = Y s 3 b) (ew0 : ∀ d b, w0 (ix3 0 d b) = W d (wc 0 b))
    (ew1 : ∀ d b, w1 (ix3 0 d b) = W d (wc 1 b)) (ew2 : ∀ d b, w2 (ix3 0 d b) = W d (wc 2 b)) (ew3 : ∀ d b, w3 (ix3 0 d b) = W d (wc 3 b))
    (d : Fin 1024) :
    k0_pay1 (F := Ideal) (k0_pay2 h) (k0_pay13 k0_pay3 (k0_pay4 y0) (k0_pay5 y2) w0 w2) (k0_pay14 y1) (k0_pay15 y3) w1 w3 (ix2 0 d)
      = ∑ s, dn (Y s) W d * (H s d * rinv (H s)) := by
  refine (pay1_at _ _ _ _ _ _ d).trans (Finset.sum_congr rfl fun s _ => ?_)
  rw [pay13_at, pay2_at]
  simp only [eh, ey0, ey1, ey2, ey3, ew0, ew1, ew2, ew3]
  exact congrArg (· * _) (dn_quarters _ _ _)

theorem arr8 (c : Dev nD) : (dats m 0 c).arrAt 8 cfg0.N
    = fun y => ∑ s, dn (kvA m c s) (wA m c) (y 1) * (hA m c s (y 1) * rinv (hA m c s)) := by
  refine (dats m 0 c).arrAt_eq_of_covers 8 _ (by decide +kernel) fun t hf y => ?_
  blk_simp
  obtain ⟨d, rfl⟩ : ∃ d : Fin 1024, y = ix2 0 d := ⟨y 1, by blk_ext [idx t]⟩
  have ey : (((View.whole main_v4_2).slice (win0_8.rect t)).emb (ix2 0 d)) = ix2 0 d := by blk_ext [idx t]
  rw [ey, after0_8]
  show _ = ∑ s, dn (kvA m c s) (wA m c) d * (hA m c s d * rinv (hA m c s))
  frame_out
  exact gain_eq _ _ _ _ _ _ _ _ _ _ _ _ (h_blk m c t) (k_ld0 m c t) (k_ld1 m c t) (v_ld0 m c t) (v_ld1 m c t) (w_ld0 m c t)
    (w_ld1 m c t) (w_ld2 m c t) (w_ld3 m c t) d

end Cert.Kernel10Ideal.Kv

namespace Cert.Proof.Kv10

open Idealize.ShloMosaic Idealize.ShloMosaic.TcCoe Idealize.SL.Sem FfnSpec RealVal
open Cert.Reference10Ideal Cert.Reference10Ideal.Read Cert.Kernel10Ideal.Kv

section Ref

variable (x0 : FVec Ideal S256x1024 .f32) (x1 : FVec Ideal S256x1024 .bf16) (x3 : FVec Ideal S1024x2048 .f32)
  (x4 x5 : FVec Ideal S256x1024 .f32)

abbrev rowR (s : Fin 256) : Fin 1024 → EReal := fun d => x0 (ix2 s d)
abbrev nR (s : Fin 256) : Fin 1024 → EReal := fun d => x1 (ix2 s d)
abbrev wR : Fin 1024 → Fin 2048 → EReal := fun d k => x3 (ix2 d k)
abbrev kvR : Fin 256 → Fin 4 → Fin 512 → EReal := kv (fun s d => x4 (ix2 s d)) (fun s d => x5 (ix2 s d))

theorem v4_left (s : Fin 256) (k : Fin 1024) : val_main_v4 (F := Ideal) x4 x5 (ix2 s (⟨k.val, by omega⟩ : Fin 2048)) = x4 (ix2 s k) := by
  pointwise [val_main_v4]
theorem v4_right (s : Fin 256) (k : Fin 1024) : val_main_v4 (F := Ideal) x4 x5 (ix2 s (⟨1024 + k.val, by omega⟩ : Fin 2048)) = x5 (ix2 s k) := by
  pointwise [val_main_v4]

theorem v4_at (s : Fin 256) (j : Fin 4) (b : Fin 512) : val_main_v4 (F := Ideal) x4 x5 (ix2 s (wc j b)) = kvR x4 x5 s j b := by
  by_cases h : j.val < 2
  · rw [kvR, kv, dif_pos h]
    exact v4_left x4 x5 s (hc ⟨j.val, h⟩ b)
  · rw [kvR, kv, dif_neg h]
    refine Eq.trans (congrArg (fun k => val_main_v4 (F := Ideal) x4 x5 (ix2 s k)) (Fin.ext ?_)) (v4_right x4 x5 s (hc ⟨j.val - 2, by omega⟩ b))
    show j.val * 512 + b.val = 1024 + ((j.val - 2) * 512 + b.val)
    omega

theorem v45_at (j : Fin 4) (a : Fin 1024) (b : Fin 512) :
    val_main_v45 (F := Ideal) x1 x4 x5 (ix3 j a b) = dw (nR x1) (kvR x4 x5) j a b := by
  have e : val_main_v45 (F := Ideal) x1 x4 x5 (ix3 j a b) = ∑ s : Fin 256, val_main_v4 (F := Ideal) x4 x5 (ix2 s (wc j b)) * x1 (ix2 s a) := by
    pointwise [val_main_v45, val_main_v44, val_main_v6, val_main_v5, val_main_v0]
  rw [e]
  exact Finset.sum_congr rfl fun s _ => by rw [v4_at, mul_comm]

theorem v7_at (s : Fin 256) (d : Fin 1024) : val_main_v7 (F := Ideal) x3 x4 x5 (ix2 s d) = dn (kvR x4 x5 s) (wR x3) d := by
  have e : val_main_v7 (F := Ideal) x3 x4 x5 (ix2 s d) = ∑ k : Fin 2048, val_main_v4 (F := Ideal) x4 x5 (ix2 s k) * x3 (ix2 d k) := by
    pointwise [val_main_v7]
  rw [e, ← Fin.sum_mul_add_fin 4 512 (fun k : Fin 2048 => val_main_v4 (F := Ideal) x4 x5 (ix2 s k) * x3 (ix2 d k)) rfl, dn]
  exact Finset.sum_congr rfl fun j _ => Finset.sum_congr rfl fun b _ => congrArg (· * _) (v4_at x4 x5 s j b)

theorem v15_at (s : Fin 256) : val_main_v15 (F := Ideal) x0 (ix2 s 0) = rinv (rowR x0 s) := by
  pointwise [val_main_v15, val_main_v14, val_main_v13, val_main_v12, val_main_v11, val_main_v10, val_main_v9, val_main_v8, val_main_cst,
    val_main_cst_0, val_main_cst_1, rinv]

theorem v47_at (d : Fin 1024) :
    val_main_v47 (F := Ideal) x0 x3 x4 x5 (ix2 0 d) = ∑ s : Fin 256, dn (kvR x4 x5 s) (wR x3) d * (rowR x0 s d * rinv (rowR x0 s)) := by
  pointwise [val_main_v47, val_main_v29, val_main_v26, val_main_v25, val_main_v24, val_main_v20, val_main_v19, val_main_cst_3,
    val_main_cst_4]
  rw [Fin.sum_univ_one]
  exact Finset.sum_congr rfl fun s _ => by rw [v15_at, v7_at, mul_comm]

theorem ref45 : val_main_v45 (F := Ideal) x1 x4 x5 = fun y => dw (nR x1) (kvR x4 x5) (y 0) (y 1) (y 2) := by
  funext y
  obtain ⟨j, a, b, rfl⟩ : ∃ (j : Fin 4) (a : Fin 1024) (b : Fin 512), y = ix3 j a b := ⟨y 0, y 1, y 2, by funext i; fin_cases i <;> rfl⟩
  exact v45_at x1 x4 x5 j a b
theorem ref46 : val_main_v46 (F := Ideal) x1 x4 x5 = fun y => dw (nR x1) (kvR x4 x5) (y 0) (y 1) (y 2) := by
  refine Eq.trans ?_ (ref45 x1 x4 x5)
  funext y
  pointwise [val_main_v46]
theorem ref47 : val_main_v47 (F := Ideal) x0 x3 x4 x5
    = fun y => ∑ s, dn (kvR x4 x5 s) (wR x3) (y 1) * (rowR x0 s (y 1) * rinv (rowR x0 s)) := by
  funext y
  obtain ⟨o, d, rfl⟩ := eta2 y
  obtain rfl : o = 0 := Subsingleton.elim _ _
  exact v47_at x0 x3 x4 x5 d

end Ref

theorem frame_r : Cert.quiescent_Reference10Ideal (hReference10Ideal := Cert.Reference10Ideal.Gen.facts) := fun m ρ _ =>
  (θ_run Cert.Reference10Ideal.defs _ _).mono (fun r h => ⟨fun c => (h c).2.2.2, sem_eq_zero_of_no_sems (by decide) r.2⟩)
    (Cert.Reference10Ideal.Value.run m ρ)

theorem value : Cert.algebraic_Kernel10Ideal_Reference10Ideal (hKernel10Ideal := Cert.Kernel10Ideal.Gen.facts)
    (hReference10Ideal := Cert.Reference10Ideal.Gen.facts) := by
  pair_intro
  run_from Cert.Kernel10Ideal.Value.run_blocks m g
  refine (θ_run Cert.Reference10Ideal.defs _ _).mono (fun r h c => ?_) (Cert.Reference10Ideal.Value.run m' g')
  obtain ⟨r45, r46, r47, k⟩ := h c
  obtain ⟨e0, e1, e2, e3, e4, e5⟩ := hagree c
  rw [e1, e4, e5] at r45 r46
  rw [e0, e3, e4, e5] at r47
  exact ⟨((r45.trans (val_main_v45_eq _ _ _)).trans (ref45 _ _ _)).trans (arr6 m c).symm,
    ((r46.trans (val_main_v46_eq _ _ _)).trans (ref46 _ _ _)).trans (arr7 m c).symm,
    ((r47.trans (val_main_v47_eq _ _ _ _)).trans (ref47 _ _ _ _)).trans (arr8 m c).symm, k⟩

end Cert.Proof.Kv10

end
-- ==== Proof.Kv11Claim.lean ====
/-
  The keys and the values of the memory: the call's results and the reference's, entry by entry, and the claims about them.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.FfnSpec
public import Idealize.ShloMosaic.Lib.Pipeline.ValueKit

@[expose] public section

set_option maxRecDepth 16384

noncomputable section

namespace Cert.Kernel11Ideal.Kv

open Cert.Kernel11Ideal Cert.Kernel11Ideal.Gen Idealize.ShloMosaic Idealize.ShloMosaic.TcCoe Idealize.SL.Sem FfnSpec

/-! ## The body's values at one index -/

section Pay

variable (h : FVec Ideal S256x1024 .f32) (g : FVec Ideal S1x1024 .f32) (n : FVec Ideal S256x1024 .bf16) (w : FVec Ideal S1x1024x512 .bf16)
  (s : Fin 256) (d : Fin 1024) (b : Fin 512)

theorem pay2_at : k0_pay2 (F := Ideal) h g (ix2 s d) = FfnSpec.norm (fun d => h (ix2 s d)) (fun d => g (ix2 0 d)) d := by
  pointwise [k0_pay2, FfnSpec.norm, rinv]
theorem pay1_at : k0_pay1 (F := Ideal) n w (ix2 s b) = ∑ d : Fin 1024, n (ix2 s d) * w (ix3 0 d b) := by
  pointwise [k0_pay1]
theorem pay3_at : k0_pay3 (F := Ideal) h g w (ix2 s b) = ∑ d : Fin 1024, k0_pay2 (F := Ideal) h g (ix2 s d) * w (ix3 0 d b) := by
  pointwise [k0_pay3]
theorem pay4_at : k0_pay4 (F := Ideal) h g w (ix2 s b) = ∑ d : Fin 1024, k0_pay2 (F := Ideal) h g (ix2 s d) * w (ix3 0 d b) := by
  pointwise [k0_pay4]
theorem pay5_at : k0_pay5 (F := Ideal) h g w (ix2 s b) = ∑ d : Fin 1024, k0_pay2 (F := Ideal) h g (ix2 s d) * w (ix3 0 d b) := by
  pointwise [k0_pay5]

end Pay

/-! ## The arrays -/

variable (m : (ℓ : Loc nD τ sig) → Buf (Elt Ideal) ℓ)

/-- Column `b` of half `j` of the keys or of the values, and column `b` of quarter `j` of the weight. -/
abbrev hc (j : Fin 2) (b : Fin 512) : Fin 1024 := ⟨j.val * 512 + b.val, by omega⟩
abbrev wc (j : Fin 4) (b : Fin 512) : Fin 2048 := ⟨j.val * 512 + b.val, by omega⟩
/-- Column `k` of the weight's keys and of its values. -/
abbrev kc (k : Fin 1024) : Fin 2048 := ⟨k.val, by omega⟩
abbrev vc (k : Fin 1024) : Fin 2048 := ⟨1024 + k.val, by omega⟩

/-- One column of the product of a normalised row with the weight. -/
def kv (x g : Fin 1024 → EReal) (W : Fin 1024 → Fin 2048 → EReal) (k : Fin 2048) : EReal := ∑ d, FfnSpec.norm x g d * W d k

abbrev hA (c : Dev nD) (s : Fin 256) : Fin 1024 → EReal := fun d => m ((c.tc : Thread nD τ).loc main_arg0) (ix2 s d)
abbrev gA (c : Dev nD) : Fin 1024 → EReal := fun d => m ((c.tc : Thread nD τ).loc main_arg1) (ix1 d)
abbrev wA (c : Dev nD) : Fin 1024 → Fin 2048 → EReal := fun d k => m ((c.tc : Thread nD τ).loc main_arg2) (ix2 d k)
abbrev kvA (c : Dev nD) (s : Fin 256) : Fin 2048 → EReal := kv (hA m c s) (gA m c) (wA m c)

theorem idx : ∀ t : Fin cfg0.N, win0_0.index t = ![0, 0] ∧ win0_1.index t = ![0, 0] ∧ win0_2.index t = ![0, 0, 0] ∧ win0_3.index t = ![0, 0]
    ∧ win0_4.index t = ![0, 0] ∧ win0_5.index t = ![0, 0] :=
  (by decide +kernel : ∀ t : Fin grid0.N, _)

section Blk

variable (c : Dev nD) (t : Fin cfg0.N) (s : Fin 256) (d : Fin 1024) (b : Fin 512)

theorem h_blk : iblk m c 0 t (ix2 s d) = hA m c s d := by
  show _ = m ((c.tc : Thread nD τ).loc main_arg0) (ix2 s d)
  blk_ext [iblk, V, idx t]
theorem g_blk : iblk m c 1 t (ix2 0 d) = gA m c d := by
  show _ = m ((c.tc : Thread nD τ).loc main_arg1) (ix1 d)
  blk_ext! [iblk, V, idx t]
theorem w_blk (k : Fin 2048) : iblk m c 2 t (ix3 ⟨k.val / 512, by omega⟩ d ⟨k.val % 512, by omega⟩) = wA m c d k := by
  show _ = m ((c.tc : Thread nD τ).loc main_arg2) (ix2 d k)
  blk_ext! [iblk, V, idx t]
theorem w_col (j : Fin 4) : iblk m c 2 t (ix3 j d b) = wA m c d (wc j b) := by
  rw [← w_blk m c t]
  refine congrArg (iblk m c 2 t) (congrArg₂ (fun a b => ix3 a d b) (Fin.ext ?_) (Fin.ext ?_))
  · show j.val = (j.val * 512 + b.val) / 512; omega
  · show b.val = (j.val * 512 + b.val) % 512; omega
theorem w_ld0 : View.ld (iblk m c 2 t) (Rect.unit ![0, 0, 0] ![1, 1024, 512] inb_S4x1024x512_S1x1024x512_0_0_0) (ix3 0 d b) = wA m c d (wc 0 b) :=
  (View.ld_unit_apply_of _ _ _ _ _ (ix3 0 d b) fun a => by fin_cases a <;> simp [ix3]).trans (w_col m c t d b 0)
theorem w_ld1 : View.ld (iblk m c 2 t) (Rect.unit ![1, 0, 0] ![1, 1024, 512] inb_S4x1024x512_S1x1024x512_1_0_0) (ix3 0 d b) = wA m c d (wc 1 b) :=
  (View.ld_unit_apply_of _ _ _ _ _ (ix3 1 d b) fun a => by fin_cases a <;> simp [ix3]).trans (w_col m c t d b 1)
theorem w_ld2 : View.ld (iblk m c 2 t) (Rect.unit ![2, 0, 0] ![1, 1024, 512] inb_S4x1024x512_S1x1024x512_2_0_0) (ix3 0 d b) = wA m c d (wc 2 b) :=
  (View.ld_unit_apply_of _ _ _ _ _ (ix3 2 d b) fun a => by fin_cases a <;> simp [ix3]).trans (w_col m c t d b 2)
theorem w_ld3 : View.ld (iblk m c 2 t) (Rect.unit ![3, 0, 0] ![1, 1024, 512] inb_S4x1024x512_S1x1024x512_3_0_0) (ix3 0 d b) = wA m c d (wc 3 b) :=
  (View.ld_unit_apply_of _ _ _ _ _ (ix3 3 d b) fun a => by fin_cases a <;> simp [ix3]).trans (w_col m c t d b 3)

theorem n_pay : k0_pay2 (F := Ideal) (iblk m c 0 t) (iblk m c 1 t) (ix2 s d) = FfnSpec.norm (hA m c s) (gA m c) d := by
  rw [pay2_at]
  simp only [h_blk, g_blk]

theorem y0 : k0_pay3 (F := Ideal) (iblk m c 0 t) (iblk m c 1 t) (View.ld (iblk m c 2 t) (Rect.unit ![0, 0, 0] ![1, 1024, 512] inb_S4x1024x512_S1x1024x512_0_0_0)) (ix2 s b) = kvA m c s (wc 0 b) := by
  rw [pay3_at]
  simp only [n_pay, w_ld0]
  rfl
theorem y1 : k0_pay5 (F := Ideal) (iblk m c 0 t) (iblk m c 1 t) (View.ld (iblk m c 2 t) (Rect.unit ![1, 0, 0] ![1, 1024, 512] inb_S4x1024x512_S1x1024x512_1_0_0)) (ix2 s b) = kvA m c s (wc 1 b) := by
  rw [pay5_at]
  simp only [n_pay, w_ld1]
  rfl
theorem y2 : k0_pay4 (F := Ideal) (iblk m c 0 t) (iblk m c 1 t) (View.ld (iblk m c 2 t) (Rect.unit ![2, 0, 0] ![1, 1024, 512] inb_S4x1024x512_S1x1024x512_2_0_0)) (ix2 s b) = kvA m c s (wc 2 b) := by
  rw [pay4_at]
  simp only [n_pay, w_ld2]
  rfl
theorem y3 : k0_pay1 (F := Ideal) (k0_pay2 (iblk m c 0 t) (iblk m c 1 t)) (View.ld (iblk m c 2 t) (Rect.unit ![3, 0, 0] ![1, 1024, 512] inb_S4x1024x512_S1x1024x512_3_0_0)) (ix2 s b) = kvA m c s (wc 3 b) := by
  rw [pay1_at]
  simp only [n_pay, w_ld3]
  rfl

end Blk

/-- An index of a piece which is one half of the columns. -/
theorem piece_ix (x : S256x512.Idx) (s : Fin 256) (k : Fin 1024) (j : Fin 2) (h0 : s.val = (x 0).val)
    (h1 : k.val = j.val * 512 + (x 1).val) : ∃ b : Fin 512, x = ix2 s b ∧ k = hc j b :=
  ⟨x 1, funext fun a => by fin_cases a <;> apply Fin.ext <;> simp [ix2, h0], Fin.ext h1⟩

theorem arr3 (c : Dev nD) : (dats m 0 c).arrAt 3 cfg0.N = fun y => kvA m c (y 0) (kc (y 1)) := by
  refine (dats m 0 c).arrAt_eq_of_covers 3 _ (by decide +kernel) fun t hf y => ?_
  blk_simp
  obtain ⟨s, k, rfl⟩ : ∃ (s : Fin 256) (k : Fin 1024), y = ix2 s k := ⟨y 0, y 1, by blk_ext [idx t]⟩
  have ey : (((View.whole main_v4_0).slice (win0_3.rect t)).emb (ix2 s k)) = ix2 s k := by blk_ext [idx t]
  rw [ey, after0_3]
  show _ = kvA m c s (kc k)
  frame_out
  canon_tiles x h'
  · obtain ⟨b, rfl, rfl⟩ := piece_ix x s k 1 h'0 (h'1.trans (by simp))
    exact y1 m c t s b
  · obtain ⟨b, rfl, rfl⟩ := piece_ix x s k 0 h'0 (h'1.trans (by simp))
    exact y0 m c t s b

theorem arr4 (c : Dev nD) : (dats m 0 c).arrAt 4 cfg0.N = fun y => kvA m c (y 0) (vc (y 1)) := by
  refine (dats m 0 c).arrAt_eq_of_covers 4 _ (by decide +kernel) fun t hf y => ?_
  blk_simp
  obtain ⟨s, k, rfl⟩ : ∃ (s : Fin 256) (k : Fin 1024), y = ix2 s k := ⟨y 0, y 1, by blk_ext [idx t]⟩
  have ey : (((View.whole main_v4_1).slice (win0_4.rect t)).emb (ix2 s k)) = ix2 s k := by blk_ext [idx t]
  rw [ey, after0_4]
  show _ = kvA m c s (vc k)
  frame_out
  canon_tiles x h'
  · obtain ⟨b, rfl, rfl⟩ := piece_ix x s k 1 h'0 (h'1.trans (by simp))
    exact (y3 m c t s b).trans (congrArg _ (Fin.ext (by show 3 * 512 + b.val = 1024 + (1 * 512 + b.val); omega)))
  · obtain ⟨b, rfl, rfl⟩ := piece_ix x s k 0 h'0 (h'1.trans (by simp))
    exact (y2 m c t s b).trans (congrArg _ (Fin.ext (by show 2 * 512 + b.val = 1024 + (0 * 512 + b.val); omega)))

theorem arr5 (c : Dev nD) : (dats m 0 c).arrAt 5 cfg0.N = fun y => FfnSpec.norm (hA m c (y 0)) (gA m c) (y 1) := by
  refine (dats m 0 c).arrAt_eq_of_covers 5 _ (by decide +kernel) fun t hf y => ?_
  blk_simp
  obtain ⟨s, d, rfl⟩ : ∃ (s : Fin 256) (d : Fin 1024), y = ix2 s d := ⟨y 0, y 1, by blk_ext [idx t]⟩
  have ey : (((View.whole main_v4_2).slice (win0_5.rect t)).emb (ix2 s d)) = ix2 s d := by blk_ext [idx t]
  rw [ey, after0_5]
  show _ = FfnSpec.norm (hA m c s) (gA m c) d
  frame_out
  exact n_pay m c t s d

end Cert.Kernel11Ideal.Kv

namespace Cert.Proof.Kv11

open Idealize.ShloMosaic Idealize.ShloMosaic.TcCoe Idealize.SL.Sem FfnSpec
open Cert.Reference11Ideal Cert.Reference11Ideal.Read Cert.Kernel11Ideal.Kv

section Ref

variable (x0 : FVec Ideal S256x1024 .f32) (x1 : FVec Ideal S1024 .f32) (x2 : FVec Ideal S1024x2048 .f32) (s : Fin 256)

abbrev rowR : Fin 1024 → EReal := fun d => x0 (ix2 s d)
abbrev gR : Fin 1024 → EReal := fun d => x1 (ix1 d)
abbrev wR : Fin 1024 → Fin 2048 → EReal := fun d k => x2 (ix2 d k)

theorem v12_at (d : Fin 1024) : val_main_v12 (F := Ideal) x0 x1 (ix2 s d) = FfnSpec.norm (rowR x0 s) (gR x1) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, FfnSpec.norm, rinv]
theorem v13_at (k : Fin 2048) : val_main_v13 (F := Ideal) x0 x1 x2 (ix2 s k) = kv (rowR x0 s) (gR x1) (wR x2) k := by
  pointwise [val_main_v13, kv]
  simp only [v12_at]

theorem ref16 : val_main_v16 (F := Ideal) x0 x1 x2 = fun y => kv (rowR x0 (y 0)) (gR x1) (wR x2) (kc (y 1)) := by
  funext y
  obtain ⟨s, k, rfl⟩ : ∃ (s : Fin 256) (k : Fin 1024), y = ix2 s k := ⟨y 0, y 1, by funext i; fin_cases i <;> rfl⟩
  refine Eq.trans ?_ (v13_at x0 x1 x2 s (kc k))
  pointwise [val_main_v16, val_main_v14]
theorem ref17 : val_main_v17 (F := Ideal) x0 x1 x2 = fun y => kv (rowR x0 (y 0)) (gR x1) (wR x2) (vc (y 1)) := by
  funext y
  obtain ⟨s, k, rfl⟩ : ∃ (s : Fin 256) (k : Fin 1024), y = ix2 s k := ⟨y 0, y 1, by funext i; fin_cases i <;> rfl⟩
  refine Eq.trans ?_ (v13_at x0 x1 x2 s (vc k))
  pointwise [val_main_v17, val_main_v15]
theorem ref18 : val_main_v18 (F := Ideal) x0 x1 = fun y => FfnSpec.norm (rowR x0 (y 0)) (gR x1) (y 1) := by
  funext y
  obtain ⟨s, d, rfl⟩ : ∃ (s : Fin 256) (d : Fin 1024), y = ix2 s d := ⟨y 0, y 1, by funext i; fin_cases i <;> rfl⟩
  refine Eq.trans ?_ (v12_at x0 x1 s d)
  pointwise [val_main_v18]

end Ref

theorem frame_r : Cert.quiescent_Reference11Ideal (hReference11Ideal := Cert.Reference11Ideal.Gen.facts) := fun m ρ _ =>
  (θ_run Cert.Reference11Ideal.defs _ _).mono (fun r h => ⟨fun c => (h c).2.2.2, sem_eq_zero_of_no_sems (by decide) r.2⟩)
    (Cert.Reference11Ideal.Value.run m ρ)

theorem value : Cert.algebraic_Kernel11Ideal_Reference11Ideal (hKernel11Ideal := Cert.Kernel11Ideal.Gen.facts)
    (hReference11Ideal := Cert.Reference11Ideal.Gen.facts) := by
  pair_intro
  run_from Cert.Kernel11Ideal.Value.run_blocks m g
  refine (θ_run Cert.Reference11Ideal.defs _ _).mono (fun r h c => ?_) (Cert.Reference11Ideal.Value.run m' g')
  obtain ⟨r0, r1, r2, k⟩ := h c
  obtain ⟨e0, e1, e2⟩ := hagree c
  rw [e0, e1, e2] at r0 r1
  rw [e0, e1] at r2
  exact ⟨((r0.trans (val_main_v16_eq _ _ _)).trans (ref16 _ _ _)).trans (arr3 m c).symm,
    ((r1.trans (val_main_v17_eq _ _ _)).trans (ref17 _ _ _)).trans (arr4 m c).symm,
    ((r2.trans (val_main_v18_eq _ _)).trans (ref18 _ _)).trans (arr5 m c).symm, k⟩

end Cert.Proof.Kv11

end
-- ==== Proof.AttSpec.lean ====
/-
  The attention to the memory of one row, in plain words: scores, weights, the weighted mean of the values, and the gradients.
-/
module

public import proofs.«01_k».proof.Proof.FfnSpec

@[expose] public section

noncomputable section

namespace AttSpec

open Idealize.ShloMosaic FfnSpec

/-- The literal 1/16 a score is scaled by. -/
abbrev sixteenth : EReal := Ideal.ofBits .f32 0x3D800000#32
/-- The value a maximum starts from. -/
abbrev lowest : EReal := Ideal.ofBits .f32 0xFF800000#32

/-- Column `j` of head `n`. -/
abbrev hc (n : Fin 4) (j : Fin 256) : Fin 1024 := ⟨n.val * 256 + j.val, by omega⟩
/-- The head of a column. -/
abbrev hd (k : Fin 1024) : Fin 4 := ⟨k.val / 256, by omega⟩

theorem hd_hc (n : Fin 4) (j : Fin 256) : hd (hc n j) = n := Fin.ext (by show (n.val * 256 + j.val) / 256 = n.val; omega)
theorem hc_eta (k : Fin 1024) : ∃ (n : Fin 4) (j : Fin 256), k = hc n j :=
  ⟨hd k, ⟨k.val % 256, by omega⟩, Fin.ext (by show k.val = k.val / 256 * 256 + k.val % 256; omega)⟩

theorem hc0 (j : Fin 256) : hc 0 j = ⟨j.val, by omega⟩ := Fin.ext (by show 0 * 256 + j.val = j.val; omega)
theorem hc1 (j : Fin 256) : hc 1 j = ⟨256 + j.val, by omega⟩ := rfl
theorem hc2 (j : Fin 256) : hc 2 j = ⟨512 + j.val, by omega⟩ := rfl
theorem hc3 (j : Fin 256) : hc 3 j = ⟨768 + j.val, by omega⟩ := rfl

/-- The scores of one head. -/
def score (q : Fin 256 → EReal) (K : Fin 256 → Fin 256 → EReal) (i : Fin 256) : EReal := (∑ j, q j * K i j) * sixteenth
/-- The largest score. -/
def top (s : Fin 256 → EReal) : EReal := Finset.univ.fold max lowest s
/-- The exponential of a score relative to the largest. -/
def ex (s : Fin 256 → EReal) (i : Fin 256) : EReal := Ideal.exp (s i - top s)
/-- The attention's weights. -/
def prob (s : Fin 256 → EReal) (i : Fin 256) : EReal := Ideal.div (ex s i) (∑ j, ex s j)
/-- The gradient at a score from the weights `p` and the gradient `dp` at them. -/
def dscore (p dp : Fin 256 → EReal) (i : Fin 256) : EReal := p i * (dp i - ∑ j, dp j * p j) * sixteenth

variable (x g ct : Fin 1024 → EReal) (Wq Wo : Fin 1024 → Fin 1024 → EReal) (K V : Fin 256 → Fin 1024 → EReal)

/-- The query. -/
def query (k : Fin 1024) : EReal := ∑ d, norm x g d * Wq d k
/-- The gradient at the attention's result. -/
def dout (k : Fin 1024) : EReal := ∑ d, ct d * Wo k d
/-- The weights of head `n` for the query `q`. -/
def wt (q : Fin 1024 → EReal) (n : Fin 4) : Fin 256 → EReal := prob (score (fun j => q (hc n j)) fun i j => K i (hc n j))
/-- The attention's result. -/
def att (q : Fin 1024 → EReal) (k : Fin 1024) : EReal := ∑ i, wt K q (hd k) i * V i k
/-- The gradient at the weights of head `n`. -/
def dwt (o : Fin 1024 → EReal) (n : Fin 4) (i : Fin 256) : EReal := ∑ j, o (hc n j) * V i (hc n j)
/-- The gradient at the scores of head `n`. -/
def dsc (q o : Fin 1024 → EReal) (n : Fin 4) : Fin 256 → EReal := dscore (wt K q n) (dwt V o n)
/-- The gradient at the query. -/
def dquery (q o : Fin 1024 → EReal) (k : Fin 1024) : EReal := ∑ i, dsc K V q o (hd k) i * K i k
/-- The gradient at the normalised row. -/
def dnrow (y : Fin 1024 → EReal) (d : Fin 1024) : EReal := ∑ k, y k * Wq d k

theorem att_hc (q : Fin 1024 → EReal) (n : Fin 4) (j : Fin 256) : att K V q (hc n j) = ∑ i, wt K q n i * V i (hc n j) := by
  rw [att, hd_hc]
theorem dquery_hc (q o : Fin 1024 → EReal) (n : Fin 4) (j : Fin 256) : dquery K V q o (hc n j) = ∑ i, dsc K V q o n i * K i (hc n j) := by
  rw [dquery, hd_hc]

end AttSpec

end
-- ==== Proof.AttAlg.lean ====
/-
  The attention's backward pass on real numbers: the chain rule through the quotient of the softmax and the fused spelling agree.
-/
module

public import proofs.«01_k».proof.Proof.AttSpec
public import proofs.«01_k».proof.Proof.FfnAlg
public import Idealize.ShloMosaic.Lib.KernelVsHost

@[expose] public section

noncomputable section

namespace AttSpec

open Idealize.ShloMosaic FfnSpec RealVal

theorem lowest_eq : lowest = ⊥ := by
  simp [lowest, Ideal.ofBits, Ideal.ieee]
theorem lit_sixteenth : sixteenth = ((1 / 16 : ℝ) : EReal) := by
  simp [sixteenth, Ideal.ofBits, Ideal.ieee, -EReal.coe_mul]; norm_num

theorem lowest_max (x : EReal) : max lowest x = x := by rw [lowest_eq]; exact max_eq_right bot_le

/-- The largest element along the last axis. -/
theorem reduce_max {a b n : Nat} (x : FVec Ideal ⟨3, ![a, b, n]⟩ .f32) (h : (⟨3, ![a, b, n]⟩ : Shape).ReducesTo [2] ⟨2, ![a, b]⟩)
    (hu : 0 < Shape.numel ⟨0, ![]⟩) (i : Fin a) (j : Fin b) :
    Host.reduce FloatOps.maximumf x (constant (F := Ideal) ⟨0, ![]⟩ .f32 0xFF800000#32) h hu (ix2 i j)
      = Finset.univ.fold Max.max lowest fun k => x (ix3 i j k) := by
  refine (congrFun (hostReduce_maximumf_eq_multiReduction x 0xFF800000#32 h hu ⟨rfl, Nat.succ_pos 1, h.2⟩ (.inl rfl) rfl) (ix2 i j)).trans ?_
  pointwise [lowest]

theorem IsR.max {x y : EReal} (hx : IsR x) (hy : IsR y) : IsR (Max.max x y) := by
  rcases max_choice x y with h | h <;> rw [h] <;> assumption

/-- The largest of real scores is real. -/
theorem top_isR (s : Fin 256 → EReal) (hs : ∀ i, IsR (s i)) : IsR (top s) := by
  classical
  have key : ∀ S : Finset (Fin 256), S = ∅ ∨ IsR (S.fold Max.max lowest s) := fun S => by
    induction S using Finset.induction_on with
    | empty => exact .inl rfl
    | insert a S ha ih =>
      refine .inr ?_
      rw [Finset.fold_insert ha]
      rcases ih with rfl | h
      · rw [Finset.fold_empty, max_comm, lowest_max]; exact hs a
      · exact IsR.max (hs a) h
  exact (key Finset.univ).resolve_left (Finset.univ_nonempty.ne_empty)

theorem ex_pos (s : Fin 256 → EReal) (hs : ∀ i, IsR (s i)) (i : Fin 256) : ∃ r : ℝ, 0 < r ∧ ex s i = (r : EReal) := by
  obtain ⟨a, ha⟩ := (hs i).sub (top_isR s hs)
  exact ⟨Real.exp a, Real.exp_pos a, by rw [ex, ha, Ideal.exp_coe]⟩

theorem sum_ex_pos (s : Fin 256 → EReal) (hs : ∀ i, IsR (s i)) : ∃ r : ℝ, 0 < r ∧ ∑ j, ex s j = (r : EReal) := by
  choose e he hE using ex_pos s hs
  exact ⟨∑ j, e j, Finset.sum_pos (fun j _ => he j) Finset.univ_nonempty, by rw [← coe_sum]; exact Finset.sum_congr rfl fun j _ => hE j⟩

theorem prob_isR (s : Fin 256 → EReal) (hs : ∀ i, IsR (s i)) (i : Fin 256) : IsR (prob s i) := by
  obtain ⟨S, hS, eS⟩ := sum_ex_pos s hs
  obtain ⟨e, _, eE⟩ := ex_pos s hs i
  exact ⟨e / S, by rw [prob, eS, eE, div_coe_coe _ _ hS.ne']⟩

/-- The gradient at a score, as the chain rule through the quotient gives it. -/
theorem dscore_eq (s dp : Fin 256 → EReal) (hs : ∀ i, IsR (s i)) (hd : ∀ i, IsR (dp i)) (i : Fin 256) :
    (Ideal.div (dp i) (∑ j, ex s j) + -(∑ j, dp j * Ideal.div one ((∑ j, ex s j) * ∑ j, ex s j) * ex s j)) * ex s i * sixteenth
      = dscore (prob s) dp i := by
  obtain ⟨S, hS, eS⟩ := sum_ex_pos s hs
  choose e he hE using ex_pos s hs
  choose q hq using hd
  have hSS : S * S ≠ 0 := (mul_pos hS hS).ne'
  have s1 : ∑ j, dp j * Ideal.div one ((S : EReal) * S) * ex s j = ((∑ j, q j * (1 / (S * S)) * e j : ℝ) : EReal) := by
    rw [← coe_sum]
    exact Finset.sum_congr rfl fun j _ => by rw [hq, hE, one, lit_one, ← EReal.coe_mul, div_coe_coe _ _ hSS]; norm_cast
  have s2 : ∑ j, dp j * prob s j = ((∑ j, q j * (e j / S) : ℝ) : EReal) := by
    rw [← coe_sum]
    exact Finset.sum_congr rfl fun j _ => by rw [hq, prob, eS, hE, div_coe_coe _ _ hS.ne']; norm_cast
  rw [dscore, s2, prob, eS, s1, hq, hE, lit_sixteenth, div_coe_coe _ _ hS.ne', div_coe_coe _ _ hS.ne']
  have h1 : ∑ j, q j * (1 / (S * S)) * e j = (∑ j, q j * e j) * (1 / (S * S)) := by
    rw [Finset.sum_mul]; exact Finset.sum_congr rfl fun j _ => by ring
  have h2 : ∑ j, q j * (e j / S) = (∑ j, q j * e j) * (1 / S) := by
    rw [Finset.sum_mul]; exact Finset.sum_congr rfl fun j _ => by ring
  rw [h1, h2]
  generalize ∑ j, q j * e j = A
  norm_cast
  field_simp
  ring

variable {x g ct : Fin 1024 → EReal} {Wq Wo : Fin 1024 → Fin 1024 → EReal} {K V : Fin 256 → Fin 1024 → EReal} {q o : Fin 1024 → EReal}

theorem query_isR (hx : ∀ d, IsR (x d)) (hg : ∀ d, IsR (g d)) (hW : ∀ d k, IsR (Wq d k)) (k : Fin 1024) : IsR (query x g Wq k) :=
  .sum _ _ fun d => (((hx d).mul (rinv_isR x hx)).mul (hg d)).mul (hW d k)
theorem dout_isR (hc : ∀ d, IsR (ct d)) (hW : ∀ k d, IsR (Wo k d)) (k : Fin 1024) : IsR (dout ct Wo k) :=
  .sum _ _ fun d => (hc d).mul (hW k d)
theorem score_isR (hq : ∀ k, IsR (q k)) (hK : ∀ i k, IsR (K i k)) (n : Fin 4) (i : Fin 256) :
    IsR (score (fun j => q (hc n j)) (fun i j => K i (hc n j)) i) :=
  (IsR.sum _ _ fun j => (hq _).mul (hK _ _)).mul ⟨_, lit_sixteenth⟩
theorem dwt_isR (ho : ∀ k, IsR (o k)) (hV : ∀ i k, IsR (V i k)) (n : Fin 4) (i : Fin 256) : IsR (dwt V o n i) :=
  .sum _ _ fun j => (ho _).mul (hV _ _)
theorem dsc_isR (hq : ∀ k, IsR (q k)) (ho : ∀ k, IsR (o k)) (hK : ∀ i k, IsR (K i k)) (hV : ∀ i k, IsR (V i k)) (n : Fin 4) (i : Fin 256) :
    IsR (dsc K V q o n i) :=
  ((prob_isR _ (score_isR hq hK n) i).mul ((dwt_isR ho hV n i).sub (.sum _ _ fun j => (dwt_isR ho hV n j).mul (prob_isR _ (score_isR hq hK n) j)))).mul
    ⟨_, lit_sixteenth⟩
theorem dquery_isR (hq : ∀ k, IsR (q k)) (ho : ∀ k, IsR (o k)) (hK : ∀ i k, IsR (K i k)) (hV : ∀ i k, IsR (V i k)) (k : Fin 1024) :
    IsR (dquery K V q o k) :=
  .sum _ _ fun i => (dsc_isR hq ho hK hV _ i).mul (hK _ _)
theorem dnrow_isR {y : Fin 1024 → EReal} (hy : ∀ k, IsR (y k)) (hW : ∀ d k, IsR (Wq d k)) (d : Fin 1024) : IsR (dnrow Wq y d) :=
  .sum _ _ fun k => (hy k).mul (hW d k)

end AttSpec

end
-- ==== Proof.Fwd12Claim.lean ====
/-
  The attention to the memory: the call's result and the reference's, entry by entry, and the claims about them.
-/
module

public import proofs.«01_k».proof.Defs
public import proofs.«01_k».proof.Proof.AttAlg
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack

@[expose] public section

set_option maxRecDepth 16384

noncomputable section

namespace Cert.Kernel12Ideal.Fwd

open Cert.Kernel12Ideal Cert.Kernel12Ideal.Gen Idealize.ShloMosaic Idealize.ShloMosaic.TcCoe Idealize.SL.Sem FfnSpec AttSpec

/-- The block's result from the attention's result `a` of a row. -/
def out (x : Fin 1024 → EReal) (Wo : Fin 1024 → Fin 1024 → EReal) (a : Fin 1024 → EReal) (d : Fin 1024) : EReal := x d + ∑ k, a k * Wo k d

/-! ## The body's values at one index -/

section Pay

variable (h : FVec Ideal S1024x1024 .f32) (g : FVec Ideal S1x1024 .f32) (wq wo : FVec Ideal S1024x1024 .bf16)
  (Q : FVec Ideal S1024x1024 .bf16) (k v : FVec Ideal S256x256 .bf16) (s : Fin 1024) (i j : Fin 256) (d : Fin 1024)

theorem pay4_at : k0_pay4 (F := Ideal) h g wq (ix2 s d)
    = query (fun d => h (ix2 s d)) (fun d => g (ix2 0 d)) (fun e d => wq (ix2 e d)) d := by
  pointwise [k0_pay4, query, FfnSpec.norm, rinv]
theorem pay5_at : k0_pay6 (F := Ideal) (k0_pay5 h g wq k v) (ix2 s j)
    = ∑ i, prob (score (fun j => k0_pay4 (F := Ideal) h g wq (ix2 s (hc 0 j))) fun i j => k (ix2 i j)) i * v (ix2 i j) := by
  pointwise [k0_pay6, k0_pay5, prob, ex, top, score, hc0]
theorem pay7_at : k0_pay7 (F := Ideal) Q k v (ix2 s j)
    = ∑ i, prob (score (fun j => Q (ix2 s (hc 1 j))) fun i j => k (ix2 i j)) i * v (ix2 i j) := by
  pointwise [k0_pay7, prob, ex, top, score, hc1]
theorem pay8_at : k0_pay1 (F := Ideal) (k0_pay8 Q k) v (ix2 s j)
    = ∑ i, prob (score (fun j => Q (ix2 s (hc 2 j))) fun i j => k (ix2 i j)) i * v (ix2 i j) := by
  pointwise [k0_pay1, k0_pay8, prob, ex, top, score, hc2]
theorem pay2_at : k0_pay2 (F := Ideal) Q k v (ix2 s j)
    = ∑ i, prob (score (fun j => Q (ix2 s (hc 3 j))) fun i j => k (ix2 i j)) i * v (ix2 i j) := by
  pointwise [k0_pay2, prob, ex, top, score, hc3]
theorem pay3_at : k0_pay3 (F := Ideal) h Q wo (ix2 s d)
    = out (fun d => h (ix2 s d)) (fun k d => wo (ix2 k d)) (fun k => Q (ix2 s k)) d := by
  pointwise [k0_pay3, out]
/-- The same from the attention's result known entry by entry. -/
theorem pay3_row (A : Fin 1024 → Fin 1024 → EReal) (hA : ∀ s k, Q (ix2 s k) = A s k) : k0_pay3 (F := Ideal) h Q wo (ix2 s d)
    = out (fun d => h (ix2 s d)) (fun k d => wo (ix2 k d)) (A s) d :=
  (pay3_at h wo Q s d).trans (congrArg (fun a => out _ _ a d) (funext (hA s)))

end Pay

/-! ## Blocks -/

variable (m : (ℓ : Loc nD τ sig) → Buf (Elt Ideal) ℓ)

abbrev hA (c : Dev nD) (s : Fin 16384) : Fin 1024 → EReal := fun d => m ((c.tc : Thread nD τ).loc main_arg0) (ix2 s d)
abbrev gA (c : Dev nD) : Fin 1024 → EReal := fun d => m ((c.tc : Thread nD τ).loc main_arg1) (ix1 d)
abbrev wqA (c : Dev nD) : Fin 1024 → Fin 1024 → EReal := fun d k => m ((c.tc : Thread nD τ).loc main_arg2) (ix2 d k)
abbrev kA (c : Dev nD) : Fin 256 → Fin 1024 → EReal := fun i k => m ((c.tc : Thread nD τ).loc main_arg3) (ix2 i k)
abbrev vA (c : Dev nD) : Fin 256 → Fin 1024 → EReal := fun i k => m ((c.tc : Thread nD τ).loc main_arg4) (ix2 i k)
abbrev woA (c : Dev nD) : Fin 1024 → Fin 1024 → EReal := fun k d => m ((c.tc : Thread nD τ).loc main_arg5) (ix2 k d)
/-- A row's query and its attention's result. -/
def qA (c : Dev nD) (s : Fin 16384) : Fin 1024 → EReal := query (hA m c s) (gA m c) (wqA m c)
def aA (c : Dev nD) (s : Fin 16384) : Fin 1024 → EReal := att (kA m c) (vA m c) (qA m c s)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem N16 : cfg0.N = 16 := N_0
abbrev row (t : Fin cfg0.N) (s : Fin 1024) : Fin 16384 := ⟨t.val * 1024 + s.val, by have := t.isLt; have := N16; omega⟩

section Blk

variable (c : Dev nD) (t : Fin cfg0.N) (s : Fin 1024) (i j : Fin 256) (d k : Fin 1024)

theorem h_blk : iblk m c 0 t (ix2 s d) = hA m c (row t s) d := by
  show _ = m ((c.tc : Thread nD τ).loc main_arg0) (ix2 (row t s) d)
  blk_ext [iblk, V, idx t]
theorem g_blk : iblk m c 1 t (ix2 0 d) = gA m c d := by
  show _ = m ((c.tc : Thread nD τ).loc main_arg1) (ix1 d)
  blk_ext! [iblk, V, idx t]
theorem wq_blk : iblk m c 2 t (ix2 d k) = wqA m c d k := by
  show _ = m ((c.tc : Thread nD τ).loc main_arg2) (ix2 d k)
  blk_ext! [iblk, V, idx t]
theorem k_blk : iblk m c 3 t (ix2 i k) = kA m c i k := by
  show _ = m ((c.tc : Thread nD τ).loc main_arg3) (ix2 i k)
  blk_ext [iblk, V, idx t]
theorem v_blk : iblk m c 4 t (ix2 i k) = vA m c i k := by
  show _ = m ((c.tc : Thread nD τ).loc main_arg4) (ix2 i k)
  blk_ext [iblk, V, idx t]
theorem wo_blk : iblk m c 5 t (ix2 k d) = woA m c k d := by
  show _ = m ((c.tc : Thread nD τ).loc main_arg5) (ix2 k d)
  blk_ext! [iblk, V, idx t]

/-- The block's queries, as the body forms them. -/
abbrev Qb : FVec Ideal S1024x1024 .bf16 := k0_pay4 (F := Ideal) (iblk m c 0 t) (iblk m c 1 t) (iblk m c 2 t)

theorem q_pay : Qb m c t (ix2 s k) = qA m c (row t s) k := by
  refine (pay4_at _ _ _ s k).trans ?_
  simp only [h_blk, g_blk, wq_blk]
  rfl

theorem k_ld0 : View.ld (iblk m c 3 t) (Rect.unit ![0, 0] ![256, 256] inb_S256x1024_S256x256_0_0) (ix2 i j) = kA m c i (hc 0 j) :=
  (View.ld_unit_apply_of _ _ _ _ _ (ix2 i (hc 0 j)) fun a => by fin_cases a <;> simp [ix2]).trans (k_blk m c t i _)
theorem v_ld0 : View.ld (iblk m c 4 t) (Rect.unit ![0, 0] ![256, 256] inb_S256x1024_S256x256_0_0) (ix2 i j) = vA m c i (hc 0 j) :=
  (View.ld_unit_apply_of _ _ _ _ _ (ix2 i (hc 0 j)) fun a => by fin_cases a <;> simp [ix2]).trans (v_blk m c t i _)
theorem k_ld1 : View.ld (iblk m c 3 t) (Rect.unit ![0, 256] ![256, 256] inb_S256x1024_S256x256_0_256) (ix2 i j) = kA m c i (hc 1 j) :=
  (View.ld_unit_apply_of _ _ _ _ _ (ix2 i (hc 1 j)) fun a => by fin_cases a <;> simp [ix2]).trans (k_blk m c t i _)
theorem v_ld1 : View.ld (iblk m c 4 t) (Rect.unit ![0, 256] ![256, 256] inb_S256x1024_S256x256_0_256) (ix2 i j) = vA m c i (hc 1 j) :=
  (View.ld_unit_apply_of _ _ _ _ _ (ix2 i (hc 1 j)) fun a => by fin_cases a <;> simp [ix2]).trans (v_blk m c t i _)
theorem k_ld2 : View.ld (iblk m c 3 t) (Rect.unit ![0, 512] ![256, 256] inb_S256x1024_S256x256_0_512) (ix2 i j) = kA m c i (hc 2 j) :=
  (View.ld_unit_apply_of _ _ _ _ _ (ix2 i (hc 2 j)) fun a => by fin_cases a <;> simp [ix2]).trans (k_blk m c t i _)
theorem v_ld2 : View.ld (iblk m c 4 t) (Rect.unit ![0, 512] ![256, 256] inb_S256x1024_S256x256_0_512) (ix2 i j) = vA m c i (hc 2 j) :=
  (View.ld_unit_apply_of _ _ _ _ _ (ix2 i (hc 2 j)) fun a => by fin_cases a <;> simp [ix2]).trans (v_blk m c t i _)
theorem k_ld3 : View.ld (iblk m c 3 t) (Rect.unit ![0, 768] ![256, 256] inb_S256x1024_S256x256_0_768) (ix2 i j) = kA m c i (hc 3 j) :=
  (View.ld_unit_apply_of _ _ _ _ _ (ix2 i (hc 3 j)) fun a => by fin_cases a <;> simp [ix2]).trans (k_blk m c t i _)
theorem v_ld3 : View.ld (iblk m c 4 t) (Rect.unit ![0, 768] ![256, 256] inb_S256x1024_S256x256_0_768) (ix2 i j) = vA m c i (hc 3 j) :=
  (View.ld_unit_apply_of _ _ _ _ _ (ix2 i (hc 3 j)) fun a => by fin_cases a <;> simp [ix2]).trans (v_blk m c t i _)

theorem at0 : k0_pay6 (F := Ideal) (k0_pay5 (iblk m c 0 t) (iblk m c 1 t) (iblk m c 2 t) (View.ld (iblk m c 3 t) (Rect.unit ![0, 0] ![256, 256] inb_S256x1024_S256x256_0_0)) (View.ld (iblk m c 4 t) (Rect.unit ![0, 0] ![256, 256] inb_S256x1024_S256x256_0_0))) (ix2 s j)
    = aA m c (row t s) (hc 0 j) := by
  rw [pay5_at]
  simp only [q_pay, k_ld0, v_ld0]
  exact (att_hc _ _ _ 0 j).symm
theorem at1 : k0_pay7 (F := Ideal) (Qb m c t) (View.ld (iblk m c 3 t) (Rect.unit ![0, 256] ![256, 256] inb_S256x1024_S256x256_0_256)) (View.ld (iblk m c 4 t) (Rect.unit ![0, 256] ![256, 256] inb_S256x1024_S256x256_0_256)) (ix2 s j)
    = aA m c (row t s) (hc 1 j) := by
  rw [pay7_at]
  simp only [q_pay, k_ld1, v_ld1]
  exact (att_hc _ _ _ 1 j).symm
theorem at2 : k0_pay1 (F := Ideal) (k0_pay8 (Qb m c t) (View.ld (iblk m c 3 t) (Rect.unit ![0, 512] ![256, 256] inb_S256x1024_S256x256_0_512))) (View.ld (iblk m c 4 t) (Rect.unit ![0, 512] ![256, 256] inb_S256x1024_S256x256_0_512)) (ix2 s j)
    = aA m c (row t s) (hc 2 j) := by
  rw [pay8_at]
  simp only [q_pay, k_ld2, v_ld2]
  exact (att_hc _ _ _ 2 j).symm
theorem at3 : k0_pay2 (F := Ideal) (Qb m c t) (View.ld (iblk m c 3 t) (Rect.unit ![0, 768] ![256, 256] inb_S256x1024_S256x256_0_768)) (View.ld (iblk m c 4 t) (Rect.unit ![0, 768] ![256, 256] inb_S256x1024_S256x256_0_768)) (ix2 s j)
    = aA m c (row t s) (hc 3 j) := by
  rw [pay2_at]
  simp only [q_pay, k_ld3, v_ld3]
  exact (att_hc _ _ _ 3 j).symm

end Blk

/-- An index of a piece put at head `n` of an array of rows. -/
theorem piece_hc {R : Nat} (x : (⟨2, ![R, 256]⟩ : Shape).Idx) (s : Fin R) (k : Fin 1024) (n : Fin 4)
    (h0 : s.val = (x 0).val) (h1 : k.val = n.val * 256 + (x 1).val) : ∃ j : Fin 256, x = ix2 s j ∧ k = hc n j :=
  ⟨x 1, funext fun a => by fin_cases a <;> apply Fin.ext <;> simp [ix2, h0], Fin.ext h1⟩

/-- The four heads' pieces together. -/
theorem canon_rows (F : Fin 1024 → Fin 1024 → EReal) (p0 p1 p2 p3 : FVec Ideal S1024x256 .bf16)
    (h0 : ∀ s j, p0 (ix2 s j) = F s (hc 0 j)) (h1 : ∀ s j, p1 (ix2 s j) = F s (hc 1 j))
    (h2 : ∀ s j, p2 (ix2 s j) = F s (hc 2 j)) (h3 : ∀ s j, p3 (ix2 s j) = F s (hc 3 j)) (s : Fin 1024) (k : Fin 1024) :
    View.canon (Val := Elt Ideal) (s := S1024x1024) (e := .bf16) [⟨Rect.unit ![0, 768] ![1024, 256] inb_S1024x1024_S1024x256_0_768, p3⟩,
      ⟨Rect.unit ![0, 512] ![1024, 256] inb_S1024x1024_S1024x256_0_512, p2⟩, ⟨Rect.unit ![0, 256] ![1024, 256] inb_S1024x1024_S1024x256_0_256, p1⟩,
      ⟨Rect.unit ![0, 0] ![1024, 256] inb_S1024x1024_S1024x256_0_0, p0⟩] (ix2 s k) = F s k := by
  canon_tiles x h'
  · obtain ⟨j, rfl, rfl⟩ := piece_hc x s k 3 h'0 h'1
    exact h3 s j
  · obtain ⟨j, rfl, rfl⟩ := piece_hc x s k 2 h'0 h'1
    exact h2 s j
  · obtain ⟨j, rfl, rfl⟩ := piece_hc x s k 1 h'0 (h'1.trans (by simp))
    exact h1 s j
  · obtain ⟨j, rfl, rfl⟩ := piece_hc x s k 0 h'0 (h'1.trans (by simp))
    exact h0 s j

/-- The four heads' pieces, read back as one array. -/
theorem back_rows {κ : Kind} {sp : Space} (v : View sig κ sp S1024x1024 .bf16) (F : Fin 1024 → Fin 1024 → EReal) (p0 p1 p2 p3 : FVec Ideal S1024x256 .bf16)
    (h0 : ∀ s j, p0 (ix2 s j) = F s (hc 0 j)) (h1 : ∀ s j, p1 (ix2 s j) = F s (hc 1 j))
    (h2 : ∀ s j, p2 (ix2 s j) = F s (hc 2 j)) (h3 : ∀ s j, p3 (ix2 s j) = F s (hc 3 j)) (s : Fin 1024) (k : Fin 1024) :
    v.readCov (Val := Elt Ideal) [⟨Rect.unit ![0, 768] ![1024, 256] inb_S1024x1024_S1024x256_0_768, p3⟩,
      ⟨Rect.unit ![0, 512] ![1024, 256] inb_S1024x1024_S1024x256_0_512, p2⟩, ⟨Rect.unit ![0, 256] ![1024, 256] inb_S1024x1024_S1024x256_0_256, p1⟩,
      ⟨Rect.unit ![0, 0] ![1024, 256] inb_S1024x1024_S1024x256_0_0, p0⟩]
      (Rect.unit (s := S1024x1024) ![0, 0] ![1024, 1024] inb_S1024x1024_S1024x1024_0_0).toLoadRect (ix2 s k) = F s k := by
  rw [View.readCov_eq_canon']
  refine Eq.trans (congrArg _ ?_) (canon_rows F p0 p1 p2 p3 h0 h1 h2 h3 s k)
  funext a; fin_cases a <;> apply Fin.ext <;> simp [ix2]

theorem arr6 (c : Dev nD) : (dats m 0 c).arrAt 6 cfg0.N = fun y => out (hA m c (y 0)) (woA m c) (aA m c (y 0)) (y 1) := by
  refine (dats m 0 c).arrAt_eq_of_covers 6 _ (by decide +kernel) fun t hf y => ?_
  blk_simp
  have ey : (((View.whole main_v3).slice (win0_6.rect t)).emb y) = ix2 (row t (y 0)) (y 1) := by blk_ext [idx t]
  obtain ⟨s, d, rfl⟩ : ∃ (s : Fin 1024) (d : Fin 1024), y = ix2 s d := ⟨y 0, y 1, by blk_ext [idx t]⟩
  rw [ey, after0_6]
  show _ = out (hA m c (row t s)) (woA m c) ((fun s => aA m c (row t s)) s) d
  have key := fun y hy => pay3_row (iblk m c 0 t) (iblk m c 5 t) y s d (fun s => aA m c (row t s)) hy
  simp only [h_blk, wo_blk] at key
  unfold outsAt0
  frame_out
  exact key _ (back_rows _ _ _ _ _ _ (at0 m c t) (at1 m c t) (at2 m c t) (at3 m c t))

end Cert.Kernel12Ideal.Fwd

namespace Cert.Proof.Fwd12

open Idealize.ShloMosaic Idealize.ShloMosaic.TcCoe Idealize.SL.Sem FfnSpec AttSpec
open Cert.Reference12Ideal Cert.Reference12Ideal.Read Cert.Kernel12Ideal.Fwd

section Ref

variable (x0 : FVec Ideal S16384x1024 .f32) (x1 : FVec Ideal S1024 .f32) (x2 : FVec Ideal S1024x1024 .f32)
  (x3 x4 : FVec Ideal S256x1024 .bf16) (x5 : FVec Ideal S1024x1024 .f32)
  (s : Fin 16384) (n : Fin 4) (i j : Fin 256) (d k : Fin 1024)

abbrev rowR (s : Fin 16384) : Fin 1024 → EReal := fun d => x0 (ix2 s d)
abbrev gR : Fin 1024 → EReal := fun d => x1 (ix1 d)
abbrev wR (x : FVec Ideal S1024x1024 .f32) : Fin 1024 → Fin 1024 → EReal := fun d k => x (ix2 d k)
abbrev kR (x : FVec Ideal S256x1024 .bf16) : Fin 256 → Fin 1024 → EReal := fun i k => x (ix2 i k)
abbrev qR : Fin 1024 → EReal := query (rowR x0 s) (gR x1) (wR x2)
/-- The scores of a row's head. -/
abbrev sR : Fin 256 → EReal := score (fun j => qR x0 x1 x2 s (hc n j)) fun i j => kR x3 i (hc n j)

theorem v12_at : val_main_v12 (F := Ideal) x0 x1 (ix2 s d) = FfnSpec.norm (rowR x0 s) (gR x1) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, FfnSpec.norm, rinv]
theorem v13_at : val_main_v13 (F := Ideal) x0 x1 x2 (ix2 s k) = qR x0 x1 x2 s k := by
  pointwise [val_main_v13, query]
  simp only [v12_at]
theorem v16_at : val_main_v16 (F := Ideal) x0 x1 x2 (ix3 s n j) = qR x0 x1 x2 s (hc n j) := by
  refine Eq.trans ?_ (v13_at x0 x1 x2 s (hc n j))
  pointwise [val_main_v16]
theorem v17_at : val_main_v17 (F := Ideal) x3 (ix3 i n j) = kR x3 i (hc n j) := by
  pointwise [val_main_v17, val_main_v14]
theorem v18_at : val_main_v18 (F := Ideal) x4 (ix3 i n j) = kR x4 i (hc n j) := by
  pointwise [val_main_v18, val_main_v15]
theorem v21_at : val_main_v21 (F := Ideal) x0 x1 x2 x3 (ix3 n s i) = sR x0 x1 x2 x3 s n i := by
  pointwise [val_main_v21, val_main_v20, val_main_v19, val_main_cst_2, score]
  simp only [v16_at, v17_at]
theorem v22_at : val_main_v22 (F := Ideal) x0 x1 x2 x3 (ix2 n s) = top (sR x0 x1 x2 x3 s n) := by
  unfold val_main_v22 val_main_cst_3
  refine (reduce_max _ _ _ n s).trans ?_
  simp only [v21_at, top]
theorem v23_at : val_main_v23 (F := Ideal) (ix2 n s) = lowest := by
  rw [val_main_v23_apply, val_main_cst_4_apply]; rfl
theorem v26_at : val_main_v26 (F := Ideal) x0 x1 x2 x3 (ix3 n s i) = top (sR x0 x1 x2 x3 s n) := by
  rw [val_main_v26_apply, val_main_v25_apply]
  have e : idx_main_v25 (idx_main_v26 (ix3 n s i)) = ix2 n s := funext fun a => match a with
    | ⟨0, _⟩ => rfl
    | ⟨1, _⟩ => rfl
  rw [e, val_main_v24_apply, v23_at, v22_at]
  exact lowest_max _
theorem v28_at : val_main_v28 (F := Ideal) x0 x1 x2 x3 (ix3 n s i) = ex (sR x0 x1 x2 x3 s n) i := by
  rw [val_main_v28_apply, val_main_v27_apply, v26_at, v21_at]
  rfl
theorem v30_at : val_main_v30 (F := Ideal) x0 x1 x2 x3 (ix3 n s 0) = ∑ i, ex (sR x0 x1 x2 x3 s n) i := by
  pointwise [val_main_v30, val_main_v29, val_main_cst_5]
  simp only [v28_at]
theorem v32_at : val_main_v32 (F := Ideal) x0 x1 x2 x3 (ix3 n s i) = wt (kR x3) (qR x0 x1 x2 s) n i := by
  pointwise [val_main_v32, val_main_v31, wt, prob]
  rw [v28_at, v30_at]
theorem v35_at : val_main_v35 (F := Ideal) x0 x1 x2 x3 x4 (ix2 s k) = att (kR x3) (kR x4) (qR x0 x1 x2 s) k := by
  obtain ⟨n, j, rfl⟩ := hc_eta k
  rw [att_hc]
  pointwise [val_main_v35, val_main_v34, val_main_v33]
  have h0 : (⟨(n.val * 256 + j.val) / 256, by omega⟩ : Fin 4) = n := Fin.ext (by show (n.val * 256 + j.val) / 256 = n.val; omega)
  have h1 : (⟨(n.val * 256 + j.val) % 256, by omega⟩ : Fin 256) = j := Fin.ext (by show (n.val * 256 + j.val) % 256 = j.val; omega)
  simp only [v32_at, v18_at, h0, h1]
  exact Finset.sum_congr rfl fun _ _ => mul_comm _ _

theorem ref37 : val_main_v37 (F := Ideal) x0 x1 x2 x3 x4 x5
    = fun y => out (rowR x0 (y 0)) (wR x5) (att (kR x3) (kR x4) (qR x0 x1 x2 (y 0))) (y 1) := by
  funext y
  obtain ⟨s, d, rfl⟩ : ∃ (s : Fin 16384) (d : Fin 1024), y = ix2 s d := ⟨y 0, y 1, by funext i; fin_cases i <;> rfl⟩
  show _ = out (rowR x0 s) (wR x5) (att (kR x3) (kR x4) (qR x0 x1 x2 s)) d
  pointwise [val_main_v37, val_main_v36, out]
  simp only [v35_at]

end Ref

theorem frame_r : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run m ρ)

theorem value : Cert.algebraic_Kernel12Ideal_Reference12Ideal (hKernel12Ideal := Cert.Kernel12Ideal.Gen.facts)
    (hReference12Ideal := Cert.Reference12Ideal.Gen.facts) := by
  pair_intro
  run_from Cert.Kernel12Ideal.Value.run_blocks m g
  refine (θ_run Cert.Reference12Ideal.defs _ _).mono (fun r h c => ?_) (Cert.Reference12Ideal.Value.run m' g')
  obtain ⟨r0, k⟩ := h c
  obtain ⟨e0, e1, e2, e3, e4, e5⟩ := hagree c
  rw [val_main_v37_eq m' c, e0, e1, e2, e3, e4, e5] at r0
  exact ⟨(r0.trans (ref37 _ _ _ _ _ _)).trans (arr6 m c).symm, k⟩

end Cert.Proof.Fwd12

end
-- ==== Proof.Att13.lean ====
/-
  The backward pass of the attention to the memory: the call's values at one index and over the whole arrays.
-/
module

public import proofs.«01_k».proof.Proof.Gen.Kernel13Ideal.Value
public import proofs.«01_k».proof.Proof.AttSpec
public import Idealize.ShloMosaic.Lib.Pipeline.ValueKit
public import Idealize.ShloMosaic.Lib.Pipeline.ReadBack

@[expose] public section

set_option maxRecDepth 16384

noncomputable section

namespace Cert.Kernel13Ideal.Att

open Cert.Kernel13Ideal Cert.Kernel13Ideal.Gen Idealize.ShloMosaic Idealize.ShloMosaic.TcCoe Idealize.SL.Sem FfnSpec AttSpec

/-! ## The body's values at one index -/

section Pay

variable (h ct : FVec Ideal S512x1024 .f32) (g : FVec Ideal S1x1024 .f32) (wq wo : FVec Ideal S1024x1024 .bf16)
  (Q O : FVec Ideal S512x1024 .bf16) (k v : FVec Ideal S256x256 .bf16) (a : FVec Ideal S256x256 .f32)
  (p dp : FVec Ideal S512x256 .f32) (s : Fin 512) (i j : Fin 256) (d : Fin 1024)

theorem pay5_at : k0_pay5 (F := Ideal) g (ix2 0 d) = g (ix2 0 d) := by
  pointwise [k0_pay5]
theorem pay6_at : k0_pay6 (F := Ideal) h (ix2 s 0) = rinv fun d => h (ix2 s d) := by
  pointwise [k0_pay6, rinv]
theorem pay7_at : k0_pay7 (F := Ideal) h (ix2 s d) = h (ix2 s d) * rinv fun d => h (ix2 s d) := by
  pointwise [k0_pay7]
  rw [pay6_at]
theorem pay8_at : k0_pay8 (F := Ideal) h g (ix2 s d) = FfnSpec.norm (fun d => h (ix2 s d)) (fun d => g (ix2 0 d)) d := by
  pointwise [k0_pay8, FfnSpec.norm]
  rw [pay7_at, pay5_at]
theorem pay9_at : k0_pay9 (F := Ideal) h g wq (ix2 s d)
    = query (fun d => h (ix2 s d)) (fun d => g (ix2 0 d)) (fun e d => wq (ix2 e d)) d := by
  pointwise [k0_pay9, query]
  simp only [pay8_at]
theorem pay10_at : k0_pay10 (F := Ideal) ct (ix2 s d) = ct (ix2 s d) := by
  pointwise [k0_pay10]
theorem pay11_at : k0_pay11 (F := Ideal) ct wo (ix2 s d) = dout (fun d => ct (ix2 s d)) (fun k d => wo (ix2 k d)) d := by
  pointwise [k0_pay11, dout]
  simp only [pay10_at]

/-! The weights of each head. -/

theorem pay13_at : k0_pay13 (F := Ideal) (k0_pay12 h g wq) k (ix2 s i)
    = prob (score (fun j => k0_pay9 (F := Ideal) h g wq (ix2 s (hc 0 j))) fun i j => k (ix2 i j)) i := by
  pointwise [k0_pay13, k0_pay12, prob, ex, top, score, hc0]
theorem pay20_at : k0_pay20 (F := Ideal) Q k (ix2 s i) = prob (score (fun j => Q (ix2 s (hc 1 j))) fun i j => k (ix2 i j)) i := by
  pointwise [k0_pay20, prob, ex, top, score, hc1]
theorem pay30_at : k0_pay30 (F := Ideal) Q k (ix2 s i) = prob (score (fun j => Q (ix2 s (hc 2 j))) fun i j => k (ix2 i j)) i := by
  pointwise [k0_pay30, prob, ex, top, score, hc2]
theorem pay37_at : k0_pay37 (F := Ideal) Q k (ix2 s i) = prob (score (fun j => Q (ix2 s (hc 3 j))) fun i j => k (ix2 i j)) i := by
  pointwise [k0_pay37, prob, ex, top, score, hc3]

/-! The attention's result of each head. -/

theorem pay14_at (q : FVec Ideal S512x256 .bf16) :
    k0_pay14 (F := Ideal) q k v (ix2 s j) = ∑ i, k0_pay13 (F := Ideal) q k (ix2 s i) * v (ix2 i j) := by
  pointwise [k0_pay14]
theorem pay21_at : k0_pay21 (F := Ideal) Q k v (ix2 s j) = ∑ i, k0_pay20 (F := Ideal) Q k (ix2 s i) * v (ix2 i j) := by
  pointwise [k0_pay21]
theorem pay31_at : k0_pay31 (F := Ideal) p v (ix2 s j) = ∑ i, p (ix2 s i) * v (ix2 i j) := by
  pointwise [k0_pay31]
theorem pay38_at : k0_pay38 (F := Ideal) Q k v (ix2 s j) = ∑ i, k0_pay37 (F := Ideal) Q k (ix2 s i) * v (ix2 i j) := by
  pointwise [k0_pay38]

/-! The running sum of the values' gradient of each head. -/

theorem pay16_at (q : FVec Ideal S512x256 .bf16) :
    k0_pay16 (F := Ideal) O q k a (ix2 i j) = a (ix2 i j) + ∑ s, k0_pay13 (F := Ideal) q k (ix2 s i) * O (ix2 s (hc 0 j)) := by
  pointwise [k0_pay16, k0_pay15, hc0]
theorem pay26_at : k0_pay26 (F := Ideal) (k0_pay22 O) (k0_pay24 a) (k0_pay25 Q k) (ix2 i j)
    = a (ix2 i j) + ∑ s, k0_pay20 (F := Ideal) Q k (ix2 s i) * O (ix2 s (hc 1 j)) := by
  pointwise [k0_pay26, k0_pay22, k0_pay24, k0_pay25, hc1]
theorem pay33_at : k0_pay33 (F := Ideal) O p a (ix2 i j) = a (ix2 i j) + ∑ s, p (ix2 s i) * O (ix2 s (hc 2 j)) := by
  pointwise [k0_pay33, k0_pay32, hc2]
theorem pay40_at : k0_pay40 (F := Ideal) Q O k a (ix2 i j)
    = a (ix2 i j) + ∑ s, k0_pay37 (F := Ideal) Q k (ix2 s i) * O (ix2 s (hc 3 j)) := by
  pointwise [k0_pay40, k0_pay39, hc3]

/-! The gradient at the scores of each head. -/

theorem pay17_at (q : FVec Ideal S512x256 .bf16) : k0_pay17 (F := Ideal) O q k v (ix2 s i)
    = dscore (fun i => k0_pay13 (F := Ideal) q k (ix2 s i)) (fun i => ∑ j, O (ix2 s (hc 0 j)) * v (ix2 i j)) i := by
  pointwise [k0_pay17, k0_pay15, dscore, hc0]
theorem pay27_at : k0_pay27 (F := Ideal) p (k0_pay23 O v) (ix2 s i)
    = dscore (fun i => p (ix2 s i)) (fun i => ∑ j, O (ix2 s (hc 1 j)) * v (ix2 i j)) i := by
  pointwise [k0_pay27, k0_pay23, k0_pay22, dscore, hc1]
theorem pay34_at : k0_pay34 (F := Ideal) O p v (ix2 s i)
    = dscore (fun i => p (ix2 s i)) (fun i => ∑ j, O (ix2 s (hc 2 j)) * v (ix2 i j)) i := by
  pointwise [k0_pay34, k0_pay32, dscore, hc2]
theorem pay43_at : k0_pay43 (F := Ideal) (k0_pay41 Q O k v) k0_pay42 (ix2 s i)
    = dscore (fun i => k0_pay37 (F := Ideal) Q k (ix2 s i)) (fun i => ∑ j, O (ix2 s (hc 3 j)) * v (ix2 i j)) i := by
  pointwise [k0_pay43, k0_pay41, k0_pay42, k0_pay39, dscore, hc3]

/-! The gradient at the query of each head. -/

theorem pay18_at (D : FVec Ideal S512x256 .bf16) :
    k0_pay18 (F := Ideal) D k (constant S512x256 .f32 0x00000000#32) (ix2 s j) = ∑ i, D (ix2 s i) * k (ix2 i j) := by
  pointwise [k0_pay18]
theorem pay28_at : k0_pay28 (F := Ideal) p dp k (ix2 s j) = ∑ i, k0_pay27 (F := Ideal) p dp (ix2 s i) * k (ix2 i j) := by
  pointwise [k0_pay28]
theorem pay35_at : k0_pay35 (F := Ideal) O p v k (ix2 s j) = ∑ i, k0_pay34 (F := Ideal) O p v (ix2 s i) * k (ix2 i j) := by
  pointwise [k0_pay35]
theorem pay44_at : k0_pay44 (F := Ideal) p dp k (ix2 s j) = ∑ i, k0_pay43 (F := Ideal) p dp (ix2 s i) * k (ix2 i j) := by
  pointwise [k0_pay44]

/-! The running sum of the keys' gradient of each head. -/

theorem pay19_at (D : FVec Ideal S512x256 .bf16) :
    k0_pay19 (F := Ideal) Q D a (ix2 i j) = a (ix2 i j) + ∑ s, D (ix2 s i) * Q (ix2 s (hc 0 j)) := by
  pointwise [k0_pay19, hc0]
theorem pay29_at : k0_pay29 (F := Ideal) Q p dp a (ix2 i j)
    = a (ix2 i j) + ∑ s, k0_pay27 (F := Ideal) p dp (ix2 s i) * Q (ix2 s (hc 1 j)) := by
  pointwise [k0_pay29, hc1]
theorem pay36_at : k0_pay36 (F := Ideal) Q O p v a (ix2 i j)
    = a (ix2 i j) + ∑ s, k0_pay34 (F := Ideal) O p v (ix2 s i) * Q (ix2 s (hc 2 j)) := by
  pointwise [k0_pay36, hc2]
theorem pay45_at : k0_pay45 (F := Ideal) Q p dp a (ix2 i j)
    = a (ix2 i j) + ∑ s, k0_pay43 (F := Ideal) p dp (ix2 s i) * Q (ix2 s (hc 3 j)) := by
  pointwise [k0_pay45, hc3]

/-! Through the projection and the normalisation. -/

theorem pay46_at (y : FVec Ideal S512x1024 .bf16) :
    k0_pay46 (F := Ideal) y wq (ix2 s d) = dnrow (fun e d => wq (ix2 e d)) (fun k => y (ix2 s k)) d := by
  pointwise [k0_pay46, dnrow]
theorem pay47_at (y : FVec Ideal S512x1024 .bf16) (b : FVec Ideal S1x1024 .f32) : k0_pay47 (F := Ideal) (k0_pay7 h) y wq b (ix2 0 d)
    = b (ix2 0 d) + ∑ s, dnrow (fun e d => wq (ix2 e d)) (fun k => y (ix2 s k)) d * (h (ix2 s d) * rinv fun d => h (ix2 s d)) := by
  pointwise [k0_pay47]
  simp only [pay46_at, pay7_at]
theorem pay1_at (y : FVec Ideal S512x1024 .bf16) :
    k0_pay1 (F := Ideal) ct (k0_pay48 (k0_pay5 g) (k0_pay7 h) y wq) (k0_pay49 (k0_pay6 h)) (ix2 s d)
      = rowGrad (fun d => h (ix2 s d)) (fun d => ct (ix2 s d)) (fun d => g (ix2 0 d))
          (dnrow (fun e d => wq (ix2 e d)) fun k => y (ix2 s k)) d := by
  pointwise [k0_pay1, k0_pay48, k0_pay49, rowGrad]
  simp only [pay46_at, pay7_at, pay5_at, pay6_at]
theorem pay2_at (i : Fin 256) : k0_pay2 (F := Ideal) (ix2 i d) = 0 := by
  pointwise [k0_pay2]
theorem pay3_at (i : Fin 256) : k0_pay3 (F := Ideal) (ix2 i d) = 0 := by
  pointwise [k0_pay3]
theorem pay4_at : k0_pay4 (F := Ideal) (ix2 0 d) = 0 := by
  pointwise [k0_pay4]

end Pay

/-! ## Blocks -/

variable (m : (ℓ : Loc nD τ sig) → Buf (Elt Ideal) ℓ)

abbrev hA (c : Dev nD) (s : Fin 16384) : Fin 1024 → EReal := fun d => m ((c.tc : Thread nD τ).loc main_arg0) (ix2 s d)
abbrev ctA (c : Dev nD) (s : Fin 16384) : Fin 1024 → EReal := fun d => m ((c.tc : Thread nD τ).loc main_arg1) (ix2 s d)
abbrev gA (c : Dev nD) : Fin 1024 → EReal := fun d => m ((c.tc : Thread nD τ).loc main_arg2) (ix1 d)
abbrev wqA (c : Dev nD) : Fin 1024 → Fin 1024 → EReal := fun d k => m ((c.tc : Thread nD τ).loc main_arg3) (ix2 d k)
abbrev kA (c : Dev nD) : Fin 256 → Fin 1024 → EReal := fun i k => m ((c.tc : Thread nD τ).loc main_arg4) (ix2 i k)
abbrev vA (c : Dev nD) : Fin 256 → Fin 1024 → EReal := fun i k => m ((c.tc : Thread nD τ).loc main_arg5) (ix2 i k)
abbrev woA (c : Dev nD) : Fin 1024 → Fin 1024 → EReal := fun k d => m ((c.tc : Thread nD τ).loc main_arg6) (ix2 k d)
/-- A row's query. -/
def qA (c : Dev nD) (s : Fin 16384) : Fin 1024 → EReal := query (hA m c s) (gA m c) (wqA m c)
/-- A row's gradient at the attention's result. -/
def oA (c : Dev nD) (s : Fin 16384) : Fin 1024 → EReal := dout (ctA m c s) (woA m c)
/-- A row's gradient at the query. -/
def yA (c : Dev nD) (s : Fin 16384) : Fin 1024 → EReal := dquery (kA m c) (vA m c) (qA m c s) (oA m c s)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] ∧ win0_14.index t = ![0, 0] :=
  (by decide +kernel : ∀ t : Fin grid0.N, _)

theorem N32 : cfg0.N = 32 := N_0
abbrev row (t : Fin cfg0.N) (s : Fin 512) : Fin 16384 := ⟨t.val * 512 + s.val, by have := t.isLt; have := N32; omega⟩

section Blk

variable (c : Dev nD) (t : Fin cfg0.N) (s : Fin 512) (i j : Fin 256) (d k : Fin 1024)

theorem h_blk : iblk m c 0 t (ix2 s d) = hA m c (row t s) d := by
  show _ = m ((c.tc : Thread nD τ).loc main_arg0) (ix2 (row t s) d)
  blk_ext [iblk, V, idx t]
theorem ct_blk : iblk m c 1 t (ix2 s d) = ctA m c (row t s) d := by
  show _ = m ((c.tc : Thread nD τ).loc main_arg1) (ix2 (row t s) d)
  blk_ext [iblk, V, idx t]
theorem g_blk : iblk m c 2 t (ix2 0 d) = gA m c d := by
  show _ = m ((c.tc : Thread nD τ).loc main_arg2) (ix1 d)
  blk_ext! [iblk, V, idx t]
theorem wq_blk : iblk m c 3 t (ix2 d k) = wqA m c d k := by
  show _ = m ((c.tc : Thread nD τ).loc main_arg3) (ix2 d k)
  blk_ext! [iblk, V, idx t]
theorem k_blk : iblk m c 4 t (ix2 i k) = kA m c i k := by
  show _ = m ((c.tc : Thread nD τ).loc main_arg4) (ix2 i k)
  blk_ext [iblk, V, idx t]
theorem v_blk : iblk m c 5 t (ix2 i k) = vA m c i k := by
  show _ = m ((c.tc : Thread nD τ).loc main_arg5) (ix2 i k)
  blk_ext [iblk, V, idx t]
theorem wo_blk : iblk m c 6 t (ix2 k d) = woA m c k d := by
  show _ = m ((c.tc : Thread nD τ).loc main_arg6) (ix2 k d)
  blk_ext! [iblk, V, idx t]

/-- The block's queries and its gradients at the attention's result, as the body forms them. -/
abbrev Qb : FVec Ideal S512x1024 .bf16 := k0_pay9 (F := Ideal) (iblk m c 0 t) (iblk m c 2 t) (iblk m c 3 t)
abbrev Ob : FVec Ideal S512x1024 .bf16 := k0_pay11 (F := Ideal) (iblk m c 1 t) (iblk m c 6 t)

theorem q_pay : Qb m c t (ix2 s k) = qA m c (row t s) k := by
  refine (pay9_at _ _ _ s k).trans ?_
  simp only [h_blk, g_blk, wq_blk]
  rfl
theorem o_pay : Ob m c t (ix2 s k) = oA m c (row t s) k := by
  refine (pay11_at _ _ s k).trans ?_
  simp only [ct_blk, wo_blk]
  rfl

theorem k_ld0 : View.ld (iblk m c 4 t) (Rect.unit ![0, 0] ![256, 256] inb_S256x1024_S256x256_0_0) (ix2 i j) = kA m c i (hc 0 j) :=
  (View.ld_unit_apply_of _ _ _ _ _ (ix2 i (hc 0 j)) fun a => by fin_cases a <;> simp [ix2]).trans (k_blk m c t i _)
theorem v_ld0 : View.ld (iblk m c 5 t) (Rect.unit ![0, 0] ![256, 256] inb_S256x1024_S256x256_0_0) (ix2 i j) = vA m c i (hc 0 j) :=
  (View.ld_unit_apply_of _ _ _ _ _ (ix2 i (hc 0 j)) fun a => by fin_cases a <;> simp [ix2]).trans (v_blk m c t i _)
theorem a_ld0 (a : FVec Ideal S256x1024 .f32) : View.ld (Val := Elt Ideal) (S := S256x1024) (e' := .f32) a
    (Rect.unit ![0, 0] ![256, 256] inb_S256x1024_S256x256_0_0) (ix2 i j) = a (ix2 i (hc 0 j)) :=
  View.ld_unit_apply_of _ _ _ _ _ _ fun a => by fin_cases a <;> simp [ix2]
theorem k_ld1 : View.ld (iblk m c 4 t) (Rect.unit ![0, 256] ![256, 256] inb_S256x1024_S256x256_0_256) (ix2 i j) = kA m c i (hc 1 j) :=
  (View.ld_unit_apply_of _ _ _ _ _ (ix2 i (hc 1 j)) fun a => by fin_cases a <;> simp [ix2]).trans (k_blk m c t i _)
theorem v_ld1 : View.ld (iblk m c 5 t) (Rect.unit ![0, 256] ![256, 256] inb_S256x1024_S256x256_0_256) (ix2 i j) = vA m c i (hc 1 j) :=
  (View.ld_unit_apply_of _ _ _ _ _ (ix2 i (hc 1 j)) fun a => by fin_cases a <;> simp [ix2]).trans (v_blk m c t i _)
theorem a_ld1 (a : FVec Ideal S256x1024 .f32) : View.ld (Val := Elt Ideal) (S := S256x1024) (e' := .f32) a
    (Rect.unit ![0, 256] ![256, 256] inb_S256x1024_S256x256_0_256) (ix2 i j) = a (ix2 i (hc 1 j)) :=
  View.ld_unit_apply_of _ _ _ _ _ _ fun a => by fin_cases a <;> simp [ix2]
theorem k_ld2 : View.ld (iblk m c 4 t) (Rect.unit ![0, 512] ![256, 256] inb_S256x1024_S256x256_0_512) (ix2 i j) = kA m c i (hc 2 j) :=
  (View.ld_unit_apply_of _ _ _ _ _ (ix2 i (hc 2 j)) fun a => by fin_cases a <;> simp [ix2]).trans (k_blk m c t i _)
theorem v_ld2 : View.ld (iblk m c 5 t) (Rect.unit ![0, 512] ![256, 256] inb_S256x1024_S256x256_0_512) (ix2 i j) = vA m c i (hc 2 j) :=
  (View.ld_unit_apply_of _ _ _ _ _ (ix2 i (hc 2 j)) fun a => by fin_cases a <;> simp [ix2]).trans (v_blk m c t i _)
theorem a_ld2 (a : FVec Ideal S256x1024 .f32) : View.ld (Val := Elt Ideal) (S := S256x1024) (e' := .f32) a
    (Rect.unit ![0, 512] ![256, 256] inb_S256x1024_S256x256_0_512) (ix2 i j) = a (ix2 i (hc 2 j)) :=
  View.ld_unit_apply_of _ _ _ _ _ _ fun a => by fin_cases a <;> simp [ix2]
theorem k_ld3 : View.ld (iblk m c 4 t) (Rect.unit ![0, 768] ![256, 256] inb_S256x1024_S256x256_0_768) (ix2 i j) = kA m c i (hc 3 j) :=
  (View.ld_unit_apply_of _ _ _ _ _ (ix2 i (hc 3 j)) fun a => by fin_cases a <;> simp [ix2]).trans (k_blk m c t i _)
theorem v_ld3 : View.ld (iblk m c 5 t) (Rect.unit ![0, 768] ![256, 256] inb_S256x1024_S256x256_0_768) (ix2 i j) = vA m c i (hc 3 j) :=
  (View.ld_unit_apply_of _ _ _ _ _ (ix2 i (hc 3 j)) fun a => by fin_cases a <;> simp [ix2]).trans (v_blk m c t i _)
theorem a_ld3 (a : FVec Ideal S256x1024 .f32) : View.ld (Val := Elt Ideal) (S := S256x1024) (e' := .f32) a
    (Rect.unit ![0, 768] ![256, 256] inb_S256x1024_S256x256_0_768) (ix2 i j) = a (ix2 i (hc 3 j)) :=
  View.ld_unit_apply_of _ _ _ _ _ _ fun a => by fin_cases a <;> simp [ix2]

/-- A block's part of the keys' gradient and of the values'. -/
def dkT : EReal := ∑ s, dsc (kA m c) (vA m c) (qA m c (row t s)) (oA m c (row t s)) (hd k) i * qA m c (row t s) k
def dvT : EReal := ∑ s, wt (kA m c) (qA m c (row t s)) (hd k) i * oA m c (row t s) k
theorem dkT_hc (n : Fin 4) : dkT m c t i (hc n j)
    = ∑ s, dsc (kA m c) (vA m c) (qA m c (row t s)) (oA m c (row t s)) n i * qA m c (row t s) (hc n j) := by rw [dkT, hd_hc]
theorem dvT_hc (n : Fin 4) : dvT m c t i (hc n j)
    = ∑ s, wt (kA m c) (qA m c (row t s)) n i * oA m c (row t s) (hc n j) := by rw [dvT, hd_hc]

/-! The weights, the gradient at the scores, the result and the gradients of each head, from the call's arguments. -/

theorem w0 : k0_pay13 (F := Ideal) (k0_pay12 (iblk m c 0 t) (iblk m c 2 t) (iblk m c 3 t)) (View.ld (iblk m c 4 t) (Rect.unit ![0, 0] ![256, 256] inb_S256x1024_S256x256_0_0)) (ix2 s i) = wt (kA m c) (qA m c (row t s)) 0 i := by
  rw [pay13_at]
  simp only [q_pay, k_ld0]
  rfl
theorem w1 : k0_pay20 (F := Ideal) (Qb m c t) (View.ld (iblk m c 4 t) (Rect.unit ![0, 256] ![256, 256] inb_S256x1024_S256x256_0_256)) (ix2 s i) = wt (kA m c) (qA m c (row t s)) 1 i := by
  rw [pay20_at]
  simp only [q_pay, k_ld1]
  rfl
theorem w2 : k0_pay30 (F := Ideal) (Qb m c t) (View.ld (iblk m c 4 t) (Rect.unit ![0, 512] ![256, 256] inb_S256x1024_S256x256_0_512)) (ix2 s i) = wt (kA m c) (qA m c (row t s)) 2 i := by
  rw [pay30_at]
  simp only [q_pay, k_ld2]
  rfl
theorem w3 : k0_pay37 (F := Ideal) (Qb m c t) (View.ld (iblk m c 4 t) (Rect.unit ![0, 768] ![256, 256] inb_S256x1024_S256x256_0_768)) (ix2 s i) = wt (kA m c) (qA m c (row t s)) 3 i := by
  rw [pay37_at]
  simp only [q_pay, k_ld3]
  rfl
theorem ds0 : k0_pay17 (F := Ideal) (Ob m c t) (k0_pay12 (iblk m c 0 t) (iblk m c 2 t) (iblk m c 3 t)) (View.ld (iblk m c 4 t) (Rect.unit ![0, 0] ![256, 256] inb_S256x1024_S256x256_0_0)) (View.ld (iblk m c 5 t) (Rect.unit ![0, 0] ![256, 256] inb_S256x1024_S256x256_0_0)) (ix2 s i) = dsc (kA m c) (vA m c) (qA m c (row t s)) (oA m c (row t s)) 0 i := by
  rw [pay17_at]
  simp only [w0, o_pay, v_ld0]
  rfl
theorem ds1 : k0_pay27 (F := Ideal) (k0_pay20 (F := Ideal) (Qb m c t) (View.ld (iblk m c 4 t) (Rect.unit ![0, 256] ![256, 256] inb_S256x1024_S256x256_0_256))) (k0_pay23 (Ob m c t) (View.ld (iblk m c 5 t) (Rect.unit ![0, 256] ![256, 256] inb_S256x1024_S256x256_0_256))) (ix2 s i) = dsc (kA m c) (vA m c) (qA m c (row t s)) (oA m c (row t s)) 1 i := by
  rw [pay27_at]
  simp only [w1, o_pay, v_ld1]
  rfl
theorem ds2 : k0_pay34 (F := Ideal) (Ob m c t) (k0_pay30 (F := Ideal) (Qb m c t) (View.ld (iblk m c 4 t) (Rect.unit ![0, 512] ![256, 256] inb_S256x1024_S256x256_0_512))) (View.ld (iblk m c 5 t) (Rect.unit ![0, 512] ![256, 256] inb_S256x1024_S256x256_0_512)) (ix2 s i) = dsc (kA m c) (vA m c) (qA m c (row t s)) (oA m c (row t s)) 2 i := by
  rw [pay34_at]
  simp only [w2, o_pay, v_ld2]
  rfl
theorem ds3 : k0_pay43 (F := Ideal) (k0_pay41 (Qb m c t) (Ob m c t) (View.ld (iblk m c 4 t) (Rect.unit ![0, 768] ![256, 256] inb_S256x1024_S256x256_0_768)) (View.ld (iblk m c 5 t) (Rect.unit ![0, 768] ![256, 256] inb_S256x1024_S256x256_0_768))) k0_pay42 (ix2 s i) = dsc (kA m c) (vA m c) (qA m c (row t s)) (oA m c (row t s)) 3 i := by
  rw [pay43_at]
  simp only [w3, o_pay, v_ld3]
  rfl
theorem at0 : k0_pay14 (F := Ideal) (k0_pay12 (iblk m c 0 t) (iblk m c 2 t) (iblk m c 3 t)) (View.ld (iblk m c 4 t) (Rect.unit ![0, 0] ![256, 256] inb_S256x1024_S256x256_0_0)) (View.ld (iblk m c 5 t) (Rect.unit ![0, 0] ![256, 256] inb_S256x1024_S256x256_0_0)) (ix2 s j) = att (kA m c) (vA m c) (qA m c (row t s)) (hc 0 j) := by
  rw [pay14_at]
  simp only [w0, v_ld0]
  exact (att_hc _ _ _ 0 j).symm
theorem at1 : k0_pay21 (F := Ideal) (Qb m c t) (View.ld (iblk m c 4 t) (Rect.unit ![0, 256] ![256, 256] inb_S256x1024_S256x256_0_256)) (View.ld (iblk m c 5 t) (Rect.unit ![0, 256] ![256, 256] inb_S256x1024_S256x256_0_256)) (ix2 s j) = att (kA m c) (vA m c) (qA m c (row t s)) (hc 1 j) := by
  rw [pay21_at]
  simp only [w1, v_ld1]
  exact (att_hc _ _ _ 1 j).symm
theorem at2 : k0_pay31 (F := Ideal) (k0_pay30 (F := Ideal) (Qb m c t) (View.ld (iblk m c 4 t) (Rect.unit ![0, 512] ![256, 256] inb_S256x1024_S256x256_0_512))) (View.ld (iblk m c 5 t) (Rect.unit ![0, 512] ![256, 256] inb_S256x1024_S256x256_0_512)) (ix2 s j) = att (kA m c) (vA m c) (qA m c (row t s)) (hc 2 j) := by
  rw [pay31_at]
  simp only [w2, v_ld2]
  exact (att_hc _ _ _ 2 j).symm
theorem at3 : k0_pay38 (F := Ideal) (Qb m c t) (View.ld (iblk m c 4 t) (Rect.unit ![0, 768] ![256, 256] inb_S256x1024_S256x256_0_768)) (View.ld (iblk m c 5 t) (Rect.unit ![0, 768] ![256, 256] inb_S256x1024_S256x256_0_768)) (ix2 s j) = att (kA m c) (vA m c) (qA m c (row t s)) (hc 3 j) := by
  rw [pay38_at]
  simp only [w3, v_ld3]
  exact (att_hc _ _ _ 3 j).symm
theorem dq0 : k0_pay18 (F := Ideal) (k0_pay17 (F := Ideal) (Ob m c t) (k0_pay12 (iblk m c 0 t) (iblk m c 2 t) (iblk m c 3 t)) (View.ld (iblk m c 4 t) (Rect.unit ![0, 0] ![256, 256] inb_S256x1024_S256x256_0_0)) (View.ld (iblk m c 5 t) (Rect.unit ![0, 0] ![256, 256] inb_S256x1024_S256x256_0_0))) (View.ld (iblk m c 4 t) (Rect.unit ![0, 0] ![256, 256] inb_S256x1024_S256x256_0_0)) (constant S512x256 .f32 0x00000000#32) (ix2 s j) = dquery (kA m c) (vA m c) (qA m c (row t s)) (oA m c (row t s)) (hc 0 j) := by
  rw [pay18_at]
  simp only [ds0, k_ld0]
  exact (dquery_hc _ _ _ _ 0 j).symm
theorem dq1 : k0_pay28 (F := Ideal) (k0_pay20 (F := Ideal) (Qb m c t) (View.ld (iblk m c 4 t) (Rect.unit ![0, 256] ![256, 256] inb_S256x1024_S256x256_0_256))) (k0_pay23 (Ob m c t) (View.ld (iblk m c 5 t) (Rect.unit ![0, 256] ![256, 256] inb_S256x1024_S256x256_0_256))) (View.ld (iblk m c 4 t) (Rect.unit ![0, 256] ![256, 256] inb_S256x1024_S256x256_0_256)) (ix2 s j) = dquery (kA m c) (vA m c) (qA m c (row t s)) (oA m c (row t s)) (hc 1 j) := by
  rw [pay28_at]
  simp only [ds1, k_ld1]
  exact (dquery_hc _ _ _ _ 1 j).symm
theorem dq2 : k0_pay35 (F := Ideal) (Ob m c t) (k0_pay30 (F := Ideal) (Qb m c t) (View.ld (iblk m c 4 t) (Rect.unit ![0, 512] ![256, 256] inb_S256x1024_S256x256_0_512))) (View.ld (iblk m c 5 t) (Rect.unit ![0, 512] ![256, 256] inb_S256x1024_S256x256_0_512)) (View.ld (iblk m c 4 t) (Rect.unit ![0, 512] ![256, 256] inb_S256x1024_S256x256_0_512)) (ix2 s j) = dquery (kA m c) (vA m c) (qA m c (row t s)) (oA m c (row t s)) (hc 2 j) := by
  rw [pay35_at]
  simp only [ds2, k_ld2]
  exact (dquery_hc _ _ _ _ 2 j).symm
theorem dq3 : k0_pay44 (F := Ideal) (k0_pay41 (Qb m c t) (Ob m c t) (View.ld (iblk m c 4 t) (Rect.unit ![0, 768] ![256, 256] inb_S256x1024_S256x256_0_768)) (View.ld (iblk m c 5 t) (Rect.unit ![0, 768] ![256, 256] inb_S256x1024_S256x256_0_768))) k0_pay42 (View.ld (iblk m c 4 t) (Rect.unit ![0, 768] ![256, 256] inb_S256x1024_S256x256_0_768)) (ix2 s j) = dquery (kA m c) (vA m c) (qA m c (row t s)) (oA m c (row t s)) (hc 3 j) := by
  rw [pay44_at]
  simp only [ds3, k_ld3]
  exact (dquery_hc _ _ _ _ 3 j).symm
theorem dk0 (a : FVec Ideal S256x1024 .f32) : k0_pay19 (F := Ideal) (Qb m c t) (k0_pay17 (F := Ideal) (Ob m c t) (k0_pay12 (iblk m c 0 t) (iblk m c 2 t) (iblk m c 3 t)) (View.ld (iblk m c 4 t) (Rect.unit ![0, 0] ![256, 256] inb_S256x1024_S256x256_0_0)) (View.ld (iblk m c 5 t) (Rect.unit ![0, 0] ![256, 256] inb_S256x1024_S256x256_0_0))) (View.ld (Val := Elt Ideal) (S := S256x1024) (e' := .f32) a (Rect.unit ![0, 0] ![256, 256] inb_S256x1024_S256x256_0_0)) (ix2 i j) = a (ix2 i (hc 0 j)) + dkT m c t i (hc 0 j) := by
  rw [pay19_at]
  simp only [ds0, q_pay]
  rw [dkT_hc]
  exact congrArg₂ (· + ·) (a_ld0 i j a) rfl
theorem dk1 (a : FVec Ideal S256x1024 .f32) : k0_pay29 (F := Ideal) (Qb m c t) (k0_pay20 (F := Ideal) (Qb m c t) (View.ld (iblk m c 4 t) (Rect.unit ![0, 256] ![256, 256] inb_S256x1024_S256x256_0_256))) (k0_pay23 (Ob m c t) (View.ld (iblk m c 5 t) (Rect.unit ![0, 256] ![256, 256] inb_S256x1024_S256x256_0_256))) (View.ld (Val := Elt Ideal) (S := S256x1024) (e' := .f32) a (Rect.unit ![0, 256] ![256, 256] inb_S256x1024_S256x256_0_256)) (ix2 i j) = a (ix2 i (hc 1 j)) + dkT m c t i (hc 1 j) := by
  rw [pay29_at]
  simp only [ds1, q_pay]
  rw [dkT_hc]
  exact congrArg₂ (· + ·) (a_ld1 i j a) rfl
theorem dk2 (a : FVec Ideal S256x1024 .f32) : k0_pay36 (F := Ideal) (Qb m c t) (Ob m c t) (k0_pay30 (F := Ideal) (Qb m c t) (View.ld (iblk m c 4 t) (Rect.unit ![0, 512] ![256, 256] inb_S256x1024_S256x256_0_512))) (View.ld (iblk m c 5 t) (Rect.unit ![0, 512] ![256, 256] inb_S256x1024_S256x256_0_512)) (View.ld (Val := Elt Ideal) (S := S256x1024) (e' := .f32) a (Rect.unit ![0, 512] ![256, 256] inb_S256x1024_S256x256_0_512)) (ix2 i j) = a (ix2 i (hc 2 j)) + dkT m c t i (hc 2 j) := by
  rw [pay36_at]
  simp only [ds2, q_pay]
  rw [dkT_hc]
  exact congrArg₂ (· + ·) (a_ld2 i j a) rfl
theorem dk3 (a : FVec Ideal S256x1024 .f32) : k0_pay45 (F := Ideal) (Qb m c t) (k0_pay41 (Qb m c t) (Ob m c t) (View.ld (iblk m c 4 t) (Rect.unit ![0, 768] ![256, 256] inb_S256x1024_S256x256_0_768)) (View.ld (iblk m c 5 t) (Rect.unit ![0, 768] ![256, 256] inb_S256x1024_S256x256_0_768))) k0_pay42 (View.ld (Val := Elt Ideal) (S := S256x1024) (e' := .f32) a (Rect.unit ![0, 768] ![256, 256] inb_S256x1024_S256x256_0_768)) (ix2 i j) = a (ix2 i (hc 3 j)) + dkT m c t i (hc 3 j) := by
  rw [pay45_at]
  simp only [ds3, q_pay]
  rw [dkT_hc]
  exact congrArg₂ (· + ·) (a_ld3 i j a) rfl
theorem dv0 (a : FVec Ideal S256x1024 .f32) : k0_pay16 (F := Ideal) (Ob m c t) (k0_pay12 (iblk m c 0 t) (iblk m c 2 t) (iblk m c 3 t)) (View.ld (iblk m c 4 t) (Rect.unit ![0, 0] ![256, 256] inb_S256x1024_S256x256_0_0)) (View.ld (Val := Elt Ideal) (S := S256x1024) (e' := .f32) a (Rect.unit ![0, 0] ![256, 256] inb_S256x1024_S256x256_0_0)) (ix2 i j) = a (ix2 i (hc 0 j)) + dvT m c t i (hc 0 j) := by
  rw [pay16_at]
  simp only [w0, o_pay]
  rw [dvT_hc]
  exact congrArg₂ (· + ·) (a_ld0 i j a) rfl
theorem dv1 (a : FVec Ideal S256x1024 .f32) : k0_pay26 (F := Ideal) (k0_pay22 (Ob m c t)) (k0_pay24 (View.ld (Val := Elt Ideal) (S := S256x1024) (e' := .f32) a (Rect.unit ![0, 256] ![256, 256] inb_S256x1024_S256x256_0_256))) (k0_pay25 (Qb m c t) (View.ld (iblk m c 4 t) (Rect.unit ![0, 256] ![256, 256] inb_S256x1024_S256x256_0_256))) (ix2 i j) = a (ix2 i (hc 1 j)) + dvT m c t i (hc 1 j) := by
  rw [pay26_at]
  simp only [w1, o_pay]
  rw [dvT_hc]
  exact congrArg₂ (· + ·) (a_ld1 i j a) rfl
theorem dv2 (a : FVec Ideal S256x1024 .f32) : k0_pay33 (F := Ideal) (Ob m c t) (k0_pay30 (F := Ideal) (Qb m c t) (View.ld (iblk m c 4 t) (Rect.unit ![0, 512] ![256, 256] inb_S256x1024_S256x256_0_512))) (View.ld (Val := Elt Ideal) (S := S256x1024) (e' := .f32) a (Rect.unit ![0, 512] ![256, 256] inb_S256x1024_S256x256_0_512)) (ix2 i j) = a (ix2 i (hc 2 j)) + dvT m c t i (hc 2 j) := by
  rw [pay33_at]
  simp only [w2, o_pay]
  rw [dvT_hc]
  exact congrArg₂ (· + ·) (a_ld2 i j a) rfl
theorem dv3 (a : FVec Ideal S256x1024 .f32) : k0_pay40 (F := Ideal) (Qb m c t) (Ob m c t) (View.ld (iblk m c 4 t) (Rect.unit ![0, 768] ![256, 256] inb_S256x1024_S256x256_0_768)) (View.ld (Val := Elt Ideal) (S := S256x1024) (e' := .f32) a (Rect.unit ![0, 768] ![256, 256] inb_S256x1024_S256x256_0_768)) (ix2 i j) = a (ix2 i (hc 3 j)) + dvT m c t i (hc 3 j) := by
  rw [pay40_at]
  simp only [w3, o_pay]
  rw [dvT_hc]
  exact congrArg₂ (· + ·) (a_ld3 i j a) rfl

end Blk

/-! ## What the pieces of the four heads make together -/

/-- An index of a piece put at head `n` of an array of rows. -/
theorem piece_hc {R : Nat} (x : (⟨2, ![R, 256]⟩ : Shape).Idx) (s : Fin R) (k : Fin 1024) (n : Fin 4)
    (h0 : s.val = (x 0).val) (h1 : k.val = n.val * 256 + (x 1).val) : ∃ j : Fin 256, x = ix2 s j ∧ k = hc n j :=
  ⟨x 1, funext fun a => by fin_cases a <;> apply Fin.ext <;> simp [ix2, h0], Fin.ext h1⟩

theorem canon_rows (e : EltTy) (F : Fin 512 → Fin 1024 → Elt Ideal e) (p0 p1 p2 p3 : S512x256.Idx → Elt Ideal e)
    (h0 : ∀ s j, p0 (ix2 s j) = F s (hc 0 j)) (h1 : ∀ s j, p1 (ix2 s j) = F s (hc 1 j))
    (h2 : ∀ s j, p2 (ix2 s j) = F s (hc 2 j)) (h3 : ∀ s j, p3 (ix2 s j) = F s (hc 3 j)) (s : Fin 512) (k : Fin 1024) :
    View.canon (Val := Elt Ideal) (s := S512x1024) (e := e) [⟨Rect.unit ![0, 768] ![512, 256] inb_S512x1024_S512x256_0_768, p3⟩,
      ⟨Rect.unit ![0, 512] ![512, 256] inb_S512x1024_S512x256_0_512, p2⟩, ⟨Rect.unit ![0, 256] ![512, 256] inb_S512x1024_S512x256_0_256, p1⟩,
      ⟨Rect.unit ![0, 0] ![512, 256] inb_S512x1024_S512x256_0_0, p0⟩] (ix2 s k) = F s k := by
  canon_tiles x h'
  · obtain ⟨j, rfl, rfl⟩ := piece_hc x s k 3 h'0 h'1
    exact h3 s j
  · obtain ⟨j, rfl, rfl⟩ := piece_hc x s k 2 h'0 h'1
    exact h2 s j
  · obtain ⟨j, rfl, rfl⟩ := piece_hc x s k 1 h'0 (h'1.trans (by simp))
    exact h1 s j
  · obtain ⟨j, rfl, rfl⟩ := piece_hc x s k 0 h'0 (h'1.trans (by simp))
    exact h0 s j

theorem canon_keys (F : Fin 256 → Fin 1024 → EReal) (p0 p1 p2 p3 : FVec Ideal S256x256 .f32)
    (h0 : ∀ i j, p0 (ix2 i j) = F i (hc 0 j)) (h1 : ∀ i j, p1 (ix2 i j) = F i (hc 1 j))
    (h2 : ∀ i j, p2 (ix2 i j) = F i (hc 2 j)) (h3 : ∀ i j, p3 (ix2 i j) = F i (hc 3 j)) (i : Fin 256) (k : Fin 1024) :
    View.canon (Val := Elt Ideal) (s := S256x1024) (e := .f32) [⟨Rect.unit ![0, 768] ![256, 256] inb_S256x1024_S256x256_0_768, p3⟩,
      ⟨Rect.unit ![0, 512] ![256, 256] inb_S256x1024_S256x256_0_512, p2⟩, ⟨Rect.unit ![0, 256] ![256, 256] inb_S256x1024_S256x256_0_256, p1⟩,
      ⟨Rect.unit ![0, 0] ![256, 256] inb_S256x1024_S256x256_0_0, p0⟩] (ix2 i k) = F i k := by
  canon_tiles x h'
  · obtain ⟨j, rfl, rfl⟩ := piece_hc x i k 3 h'0 h'1
    exact h3 i j
  · obtain ⟨j, rfl, rfl⟩ := piece_hc x i k 2 h'0 h'1
    exact h2 i j
  · obtain ⟨j, rfl, rfl⟩ := piece_hc x i k 1 h'0 (h'1.trans (by simp))
    exact h1 i j
  · obtain ⟨j, rfl, rfl⟩ := piece_hc x i k 0 h'0 (h'1.trans (by simp))
    exact h0 i j

/-- The four heads' pieces, read back as one array. -/
theorem back_rows {κ : Kind} {sp : Space} (v : View sig κ sp S512x1024 .bf16) (F : Fin 512 → Fin 1024 → EReal) (p0 p1 p2 p3 : FVec Ideal S512x256 .bf16)
    (h0 : ∀ s j, p0 (ix2 s j) = F s (hc 0 j)) (h1 : ∀ s j, p1 (ix2 s j) = F s (hc 1 j))
    (h2 : ∀ s j, p2 (ix2 s j) = F s (hc 2 j)) (h3 : ∀ s j, p3 (ix2 s j) = F s (hc 3 j)) (s : Fin 512) (k : Fin 1024) :
    v.readCov (Val := Elt Ideal) [⟨Rect.unit ![0, 768] ![512, 256] inb_S512x1024_S512x256_0_768, p3⟩,
      ⟨Rect.unit ![0, 512] ![512, 256] inb_S512x1024_S512x256_0_512, p2⟩, ⟨Rect.unit ![0, 256] ![512, 256] inb_S512x1024_S512x256_0_256, p1⟩,
      ⟨Rect.unit ![0, 0] ![512, 256] inb_S512x1024_S512x256_0_0, p0⟩]
      (Rect.unit (s := S512x1024) ![0, 0] ![512, 1024] inb_S512x1024_S512x1024_0_0).toLoadRect (ix2 s k) = F s k := by
  rw [View.readCov_eq_canon']
  refine Eq.trans (congrArg _ ?_) (canon_rows .bf16 F p0 p1 p2 p3 h0 h1 h2 h3 s k)
  funext a; fin_cases a <;> apply Fin.ext <;> simp [ix2]

/-- The row's gradient from the query's gradient known entry by entry. -/
theorem pay1_row (h ct : FVec Ideal S512x1024 .f32) (g : FVec Ideal S1x1024 .f32) (wq : FVec Ideal S1024x1024 .bf16)
    (y : FVec Ideal S512x1024 .bf16) (s : Fin 512) (d : Fin 1024) (Y : Fin 512 → Fin 1024 → EReal) (hy : ∀ s k, y (ix2 s k) = Y s k) :
    k0_pay1 (F := Ideal) ct (k0_pay48 (k0_pay5 g) (k0_pay7 h) y wq) (k0_pay49 (k0_pay6 h)) (ix2 s d)
      = rowGrad (fun d => h (ix2 s d)) (fun d => ct (ix2 s d)) (fun d => g (ix2 0 d)) (dnrow (fun e d => wq (ix2 e d)) (Y s)) d :=
  (pay1_at h ct g wq s d y).trans (congrArg (fun f => rowGrad _ _ _ (dnrow _ f) d) (funext (hy s)))
theorem pay47_row (h : FVec Ideal S512x1024 .f32) (wq : FVec Ideal S1024x1024 .bf16) (y : FVec Ideal S512x1024 .bf16)
    (b : FVec Ideal S1x1024 .f32) (d : Fin 1024) (Y : Fin 512 → Fin 1024 → EReal) (hy : ∀ s k, y (ix2 s k) = Y s k) :
    k0_pay47 (F := Ideal) (k0_pay7 h) y wq b (ix2 0 d) = b (ix2 0 d)
      + ∑ s, dnrow (fun e d => wq (ix2 e d)) (Y s) d * (h (ix2 s d) * rinv fun d => h (ix2 s d)) :=
  (pay47_at h wq d y b).trans (congrArg _ (Finset.sum_congr rfl fun s _ => by rw [show (fun k => y (ix2 s k)) = Y s from funext (hy s)]))

/-- The block's gradient at the queries. -/
abbrev yB (c : Dev nD) (t : Fin cfg0.N) (s : Fin 512) (k : Fin 1024) : EReal := yA m c (row t s) k

/-! ## The arrays -/

theorem arr7 (c : Dev nD) : (dats m 0 c).arrAt 7 cfg0.N
    = fun y => rowGrad (hA m c (y 0)) (ctA m c (y 0)) (gA m c) (dnrow (wqA m c) (yA m c (y 0))) (y 1) := by
  refine (dats m 0 c).arrAt_eq_of_covers 7 _ (by decide +kernel) fun t hf y => ?_
  blk_simp
  have ey : (((View.whole main_v3_0).slice (win0_7.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_7]
  show _ = rowGrad (hA m c (row t s)) (ctA m c (row t s)) (gA m c) (dnrow (wqA m c) (yB m c t s)) d
  have key := fun y hy => pay1_row (iblk m c 0 t) (iblk m c 1 t) (iblk m c 2 t) (iblk m c 3 t) y s d (yB m c t) hy
  simp only [h_blk, ct_blk, g_blk, wq_blk] at key
  by_cases h : t.val % 32 = 0
  · rw [outsAt0_A m c t h]
    frame_out
    exact key _ (back_rows _ _ _ _ _ _ (dq0 m c t) (dq1 m c t) (dq2 m c t) (dq3 m c t))
  · rw [outsAt0_B m c t h]
    frame_out
    exact key _ (back_rows _ _ _ _ _ _ (dq0 m c t) (dq1 m c t) (dq2 m c t) (dq3 m c t))

theorem arr8 (c : Dev nD) : (dats m 0 c).arrAt 8 cfg0.N = fun y => FfnSpec.norm (hA m c (y 0)) (gA m c) (y 1) := by
  refine (dats m 0 c).arrAt_eq_of_covers 8 _ (by decide +kernel) fun t hf y => ?_
  blk_simp
  have ey : (((View.whole main_v3_1).slice (win0_8.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_8]
  show _ = FfnSpec.norm (hA m c (row t s)) (gA m c) d
  have key := pay8_at (iblk m c 0 t) (iblk m c 2 t) s d
  simp only [h_blk, g_blk] at key
  by_cases h : t.val % 32 = 0
  · rw [outsAt0_A m c t h]
    frame_out
    exact key
  · rw [outsAt0_B m c t h]
    frame_out
    exact key

theorem arr9 (c : Dev nD) : (dats m 0 c).arrAt 9 cfg0.N = fun y => yA m c (y 0) (y 1) := by
  refine (dats m 0 c).arrAt_eq_of_covers 9 _ (by decide +kernel) fun t hf y => ?_
  blk_simp
  have ey : (((View.whole main_v3_2).slice (win0_9.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_9]
  show _ = yB m c t s d
  by_cases h : t.val % 32 = 0
  · rw [outsAt0_A m c t h]
    frame_out
    exact canon_rows .bf16 (yB m c t) _ _ _ _ (dq0 m c t) (dq1 m c t) (dq2 m c t) (dq3 m c t) s d
  · rw [outsAt0_B m c t h]
    frame_out
    exact canon_rows .bf16 (yB m c t) _ _ _ _ (dq0 m c t) (dq1 m c t) (dq2 m c t) (dq3 m c t) s d

theorem arr10 (c : Dev nD) : (dats m 0 c).arrAt 10 cfg0.N = fun y => att (kA m c) (vA m c) (qA m c (y 0)) (y 1) := by
  refine (dats m 0 c).arrAt_eq_of_covers 10 _ (by decide +kernel) fun t hf y => ?_
  blk_simp
  have ey : (((View.whole main_v3_3).slice (win0_10.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_10]
  show _ = (fun s d => att (kA m c) (vA m c) (qA m c (row t s)) d) s d
  by_cases h : t.val % 32 = 0
  · rw [outsAt0_A m c t h]
    frame_out
    exact canon_rows .bf16 (fun s d => att (kA m c) (vA m c) (qA m c (row t s)) d) _ _ _ _ (at0 m c t) (at1 m c t) (at2 m c t) (at3 m c t) s d
  · rw [outsAt0_B m c t h]
    frame_out
    exact canon_rows .bf16 (fun s d => att (kA m c) (vA m c) (qA m c (row t s)) d) _ _ _ _ (at0 m c t) (at1 m c t) (at2 m c t) (at3 m c t) s d

theorem arr11 (c : Dev nD) : (dats m 0 c).arrAt 11 cfg0.N = fun y => ctA m c (y 0) (y 1) := by
  refine (dats m 0 c).arrAt_eq_of_covers 11 _ (by decide +kernel) fun t hf y => ?_
  blk_simp
  have ey : (((View.whole main_v3_4).slice (win0_11.rect t)).emb y) = ix2 (row t (y 0)) (y 1) := by blk_ext [idx t]
  obtain ⟨s, d, rfl⟩ : ∃ (s : Fin 512) (d : Fin 1024), y = ix2 s d := ⟨y 0, y 1, by blk_ext [idx t]⟩
  rw [ey, after0_11]
  show _ = ctA m c (row t s) d
  by_cases h : t.val % 32 = 0
  · rw [outsAt0_A m c t h]
    frame_out
    exact (pay10_at _ s d).trans (ct_blk m c t s d)
  · rw [outsAt0_B m c t h]
    frame_out
    exact (pay10_at _ s d).trans (ct_blk m c t s d)

/-- Writes that cover an index hide the earlier ones there. -/
theorem canon_append_of_cover {S : Shape} {e : EltTy} (L L' : List (View.Piece (Elt Ideal) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩
theorem canon_fill4 {S : Shape} {e : EltTy} (a b c d z : View.Piece (Elt Ideal) S e) (y : S.Idx) (h : ∃ p ∈ [a, b, c, d], y ∈ p.1.set) :
    View.canon [a, b, c, d, z] y = View.canon [a, b, c, d] y := canon_append_of_cover [a, b, c, d] [z] y h

/-- The running sum over the grid of the keys' gradient. -/
theorem acc12 (c : Dev nD) (t : Fin cfg0.N) (ht : t.val + 1 = cfg0.N) (i : Fin 256) (k : Fin 1024) :
    (outsAt0 m c t.val t.isLt).2.2.2.2.2.1 (ix2 i k) = 0 + ∑ p : Fin cfg0.N, dkT m c p i k := by
  refine Pipeline.eq_sum_fin_of_reset_step_apply_last (fun n h (q : Fin 256 × Fin 1024) => (outsAt0 m c n h).2.2.2.2.2.1 (ix2 q.1 q.2)) 32
    (fun _ => 0) (fun p q => dkT m c p q.1 q.2) (fun t h q => ?_) (fun t h q => ?_) (by decide) t ht (i, k)
  · rw [outsAt0_A m c t h]
    frame_out
    simp (disch := decide) only [↓View.readCov_skip, ↓View.readCov_fill]
    refine (canon_fill4 _ _ _ _ _ _ (View.cover_of_tiled_head _ _ _ (by rfl) _)).trans ?_
    refine (canon_keys (fun i k => k0_pay2 (F := Ideal) (ix2 i k) + dkT m c t i k) _ _ _ _ (fun i j => dk0 m c t i j _)
      (fun i j => dk1 m c t i j _) (fun i j => dk2 m c t i j _) (fun i j => dk3 m c t i j _) q.1 q.2).trans ?_
    exact congrArg₂ (· + ·) (pay2_at _ _) rfl
  · rw [outsAt0_B m c t h]
    frame_out
    exact canon_keys (fun i k => (outsAt0 m c (t.val - 1) (Nat.lt_of_le_of_lt (Nat.sub_le _ _) t.isLt)).2.2.2.2.2.1 (ix2 i k) + dkT m c t i k) _ _ _ _
      (fun i j => dk0 m c t i j _) (fun i j => dk1 m c t i j _) (fun i j => dk2 m c t i j _) (fun i j => dk3 m c t i j _) q.1 q.2

/-- The running sum over the grid of the values' gradient. -/
theorem acc13 (c : Dev nD) (t : Fin cfg0.N) (ht : t.val + 1 = cfg0.N) (i : Fin 256) (k : Fin 1024) :
    (outsAt0 m c t.val t.isLt).2.2.2.2.2.2.1 (ix2 i k) = 0 + ∑ p : Fin cfg0.N, dvT m c p i k := by
  refine Pipeline.eq_sum_fin_of_reset_step_apply_last (fun n h (q : Fin 256 × Fin 1024) => (outsAt0 m c n h).2.2.2.2.2.2.1 (ix2 q.1 q.2)) 32
    (fun _ => 0) (fun p q => dvT m c p q.1 q.2) (fun t h q => ?_) (fun t h q => ?_) (by decide) t ht (i, k)
  · rw [outsAt0_A m c t h]
    frame_out
    simp (disch := decide) only [↓View.readCov_skip, ↓View.readCov_fill]
    refine (canon_fill4 _ _ _ _ _ _ (View.cover_of_tiled_head _ _ _ (by rfl) _)).trans ?_
    refine (canon_keys (fun i k => k0_pay3 (F := Ideal) (ix2 i k) + dvT m c t i k) _ _ _ _ (fun i j => dv0 m c t i j _)
      (fun i j => dv1 m c t i j _) (fun i j => dv2 m c t i j _) (fun i j => dv3 m c t i j _) q.1 q.2).trans ?_
    exact congrArg₂ (· + ·) (pay3_at _ _) rfl
  · rw [outsAt0_B m c t h]
    frame_out
    exact canon_keys (fun i k => (outsAt0 m c (t.val - 1) (Nat.lt_of_le_of_lt (Nat.sub_le _ _) t.isLt)).2.2.2.2.2.2.1 (ix2 i k) + dvT m c t i k) _ _ _ _
      (fun i j => dv0 m c t i j _) (fun i j => dv1 m c t i j _) (fun i j => dv2 m c t i j _) (fun i j => dv3 m c t i j _) q.1 q.2

/-- The running sum over the grid of the gain's gradient. -/
theorem acc14 (c : Dev nD) (t : Fin cfg0.N) (ht : t.val + 1 = cfg0.N) (d : Fin 1024) :
    (outsAt0 m c t.val t.isLt).2.2.2.2.2.2.2 (ix2 0 d)
      = 0 + ∑ p : Fin cfg0.N, ∑ s : Fin 512, dnrow (wqA m c) (yB m c p s) d * (hA m c (row p s) d * rinv (hA m c (row p s))) := by
  refine Pipeline.eq_sum_fin_of_reset_step_apply_last (fun n h d => (outsAt0 m c n h).2.2.2.2.2.2.2 (ix2 0 d)) 32 (fun _ => 0)
    (fun p d => ∑ s : Fin 512, dnrow (wqA m c) (yB m c p s) d * (hA m c (row p s) d * rinv (hA m c (row p s))))
    (fun t h d => ?_) (fun t h d => ?_) (by decide) t ht d
  · have key := fun y b hy => pay47_row (iblk m c 0 t) (iblk m c 3 t) y b d (yB m c t) hy
    simp only [h_blk, wq_blk] at key
    rw [outsAt0_A m c t h]
    frame_out
    refine (key _ _ (back_rows _ _ _ _ _ _ (dq0 m c t) (dq1 m c t) (dq2 m c t) (dq3 m c t))).trans ?_
    exact congrArg₂ (· + ·) (pay4_at d) rfl
  · have key := fun y b hy => pay47_row (iblk m c 0 t) (iblk m c 3 t) y b d (yB m c t) hy
    simp only [h_blk, wq_blk] at key
    rw [outsAt0_B m c t h]
    frame_out
    exact key _ _ (back_rows _ _ _ _ _ _ (dq0 m c t) (dq1 m c t) (dq2 m c t) (dq3 m c t))

theorem tile_sum (f : Fin 16384 → EReal) : 0 + ∑ p : Fin cfg0.N, ∑ s : Fin 512, f (row p s) = ∑ s, f s :=
  (zero_add _).trans (Fin.sum_mul_add_fin 32 512 f rfl)

abbrev tLast : Fin cfg0.N := ⟨31, by rw [N32]; decide⟩

/-- The keys' gradient, the values' and the gain's. -/
def dkA (c : Dev nD) (i : Fin 256) (k : Fin 1024) : EReal := ∑ s, dsc (kA m c) (vA m c) (qA m c s) (oA m c s) (hd k) i * qA m c s k
def dvA (c : Dev nD) (i : Fin 256) (k : Fin 1024) : EReal := ∑ s, wt (kA m c) (qA m c s) (hd k) i * oA m c s k
def dgA (c : Dev nD) (d : Fin 1024) : EReal := ∑ s, dnrow (wqA m c) (yA m c s) d * (hA m c s d * rinv (hA m c s))

theorem acc12_at (c : Dev nD) (t : Fin cfg0.N) (ht : t.val + 1 = cfg0.N) (y : S256x1024.Idx) :
    (outsAt0 m c t.val t.isLt).2.2.2.2.2.1 y = dkA m c (y 0) (y 1) := by
  obtain ⟨i, k, rfl⟩ : ∃ (i : Fin 256) (k : Fin 1024), y = ix2 i k := ⟨y 0, y 1, by blk_ext [idx t]⟩
  exact (acc12 m c t ht i k).trans (tile_sum fun s => dsc (kA m c) (vA m c) (qA m c s) (oA m c s) (hd k) i * qA m c s k)
theorem acc13_at (c : Dev nD) (t : Fin cfg0.N) (ht : t.val + 1 = cfg0.N) (y : S256x1024.Idx) :
    (outsAt0 m c t.val t.isLt).2.2.2.2.2.2.1 y = dvA m c (y 0) (y 1) := by
  obtain ⟨i, k, rfl⟩ : ∃ (i : Fin 256) (k : Fin 1024), y = ix2 i k := ⟨y 0, y 1, by blk_ext [idx t]⟩
  exact (acc13 m c t ht i k).trans (tile_sum fun s => wt (kA m c) (qA m c s) (hd k) i * oA m c s k)
theorem acc14_at (c : Dev nD) (t : Fin cfg0.N) (ht : t.val + 1 = cfg0.N) (y : S1x1024.Idx) :
    (outsAt0 m c t.val t.isLt).2.2.2.2.2.2.2 y = dgA m c (y 1) := by
  obtain ⟨d, rfl⟩ : ∃ d : Fin 1024, y = ix2 0 d := ⟨y 1, by blk_ext [idx t]⟩
  exact (acc14 m c t ht d).trans (tile_sum fun s => dnrow (wqA m c) (yA m c s) d * (hA m c s d * rinv (hA m c s)))

theorem arr12 (c : Dev nD) : (dats m 0 c).arrAt 12 cfg0.N = fun y => dkA m c (y 0) (y 1) := by
  refine (dats m 0 c).arrAt_eq_of_after_last 12 tLast (by decide +kernel) _ fun j => ?_
  blk_simp
  rw [after0_12]
  exact acc12_at m c tLast rfl _

theorem arr13 (c : Dev nD) : (dats m 0 c).arrAt 13 cfg0.N = fun y => dvA m c (y 0) (y 1) := by
  refine (dats m 0 c).arrAt_eq_of_after_last 13 tLast (by decide +kernel) _ fun j => ?_
  blk_simp
  rw [after0_13]
  exact acc13_at m c tLast rfl _

theorem arr14 (c : Dev nD) : (dats m 0 c).arrAt 14 cfg0.N = fun y => dgA m c (y 1) := by
  refine (dats m 0 c).arrAt_eq_of_after_last 14 tLast (by decide +kernel) _ fun j => ?_
  blk_simp
  rw [after0_14]
  exact acc14_at m c tLast rfl _

end Cert.Kernel13Ideal.Att

end
-- ==== Proof.Att13Ref.lean ====
/-
  The eight results of the reference's backward pass of the attention to the memory, entry by entry.
-/
module

public import proofs.«01_k».proof.Proof.AttAlg
public import proofs.«01_k».proof.Proof.Finite
public import proofs.«01_k».proof.Proof.Gen.Reference13Ideal.Run
public import proofs.«01_k».proof.Proof.Gen.Reference13Ideal.Read
public import proofs.«01_k».proof.Proof.Gen.Pre_finite13

@[expose] public section

set_option maxRecDepth 16384

noncomputable section

namespace Cert.Proof.Att13

open Idealize.ShloMosaic Idealize.ShloMosaic.TcCoe Idealize.SL.Sem RealVal FfnSpec AttSpec
open Cert.Reference13Ideal Cert.Reference13Ideal.Read

/-- Two matrices agree when they agree at every row and column. -/
theorem ext2 {a b : Nat} {α : Type} {x : (⟨2, ![a, b]⟩ : Shape).Idx → α} {f : (⟨2, ![a, b]⟩ : Shape).Idx → α}
    (h : ∀ (i : Fin a) (j : Fin b), x (ix2 i j) = f (ix2 i j)) : x = f := by
  funext y
  obtain ⟨i, j, rfl⟩ := eta2 y
  exact h i j

section Ref

variable (x0 x1 : FVec Ideal S16384x1024 .f32) (x2 : FVec Ideal S1024 .f32) (x3 : FVec Ideal S1024x1024 .f32)
  (x4 x5 : FVec Ideal S256x1024 .bf16) (x6 : FVec Ideal S1024x1024 .f32)
  (s : Fin 16384) (n : Fin 4) (i j : Fin 256) (d k : Fin 1024)

abbrev rowR (x : FVec Ideal S16384x1024 .f32) (s : Fin 16384) : Fin 1024 → EReal := fun d => x (ix2 s d)
abbrev gR : Fin 1024 → EReal := fun d => x2 (ix1 d)
abbrev wR (x : FVec Ideal S1024x1024 .f32) : Fin 1024 → Fin 1024 → EReal := fun d k => x (ix2 d k)
abbrev kR (x : FVec Ideal S256x1024 .bf16) : Fin 256 → Fin 1024 → EReal := fun i k => x (ix2 i k)
abbrev qR : Fin 1024 → EReal := query (rowR x0 s) (gR x2) (wR x3)
abbrev oR : Fin 1024 → EReal := dout (rowR x1 s) (wR x6)
/-- The scores of a row's head. -/
abbrev sR : Fin 256 → EReal := score (fun j => qR x0 x2 x3 s (hc n j)) fun i j => kR x4 i (hc n j)

theorem v7_at : val_main_v7 (F := Ideal) x0 (ix2 s 0) = rinv (rowR x0 s) := by
  pointwise [val_main_v7, val_main_v6, val_main_v5, val_main_v4, val_main_v3, val_main_v2, val_main_v1, val_main_v0, val_main_cst,
    val_main_cst_0, val_main_cst_1, rinv]
theorem v6_at : val_main_v6 (F := Ideal) x0 (ix2 s 0) = Ideal.div (∑ d, rowR x0 s d * rowR x0 s d) dim + eps := by
  pointwise [val_main_v6, val_main_v5, val_main_v4, val_main_v3, val_main_v2, val_main_v1, val_main_v0, val_main_cst,
    val_main_cst_0, val_main_cst_1]
theorem v15_at : val_main_v15 (F := Ideal) x0 x2 (ix2 s d) = FfnSpec.norm (rowR x0 s) (gR x2) d := by
  pointwise [val_main_v15, val_main_v14, val_main_v13, val_main_v12, val_main_v11, FfnSpec.norm]
  rw [v7_at]
theorem v16_at : val_main_v16 (F := Ideal) x0 x2 x3 (ix2 s k) = qR x0 x2 x3 s k := by
  pointwise [val_main_v16, query]
  simp only [v15_at]
theorem v19_at : val_main_v19 (F := Ideal) x0 x2 x3 (ix3 s n j) = qR x0 x2 x3 s (hc n j) := by
  refine Eq.trans ?_ (v16_at x0 x2 x3 s (hc n j))
  pointwise [val_main_v19]
theorem v20_at : val_main_v20 (F := Ideal) x4 (ix3 i n j) = kR x4 i (hc n j) := by
  pointwise [val_main_v20, val_main_v17]
theorem v21_at : val_main_v21 (F := Ideal) x5 (ix3 i n j) = kR x5 i (hc n j) := by
  pointwise [val_main_v21, val_main_v18]
theorem v24_at : val_main_v24 (F := Ideal) x0 x2 x3 x4 (ix3 n s i) = sR x0 x2 x3 x4 s n i := by
  pointwise [val_main_v24, val_main_v23, val_main_v22, val_main_cst_3, score]
  simp only [v19_at, v20_at]
theorem v25_at : val_main_v25 (F := Ideal) x0 x2 x3 x4 (ix2 n s) = top (sR x0 x2 x3 x4 s n) := by
  unfold val_main_v25 val_main_cst_4
  refine (reduce_max _ _ _ n s).trans ?_
  simp only [v24_at, top]

theorem v31_at : val_main_v31 (F := Ideal) (ix2 n s) = lowest := by
  rw [val_main_v31_apply, val_main_cst_6_apply]; rfl
theorem v43_at : val_main_v43 (F := Ideal) x0 x2 x3 x4 (ix3 n s i) = top (sR x0 x2 x3 x4 s n) := by
  rw [val_main_v43_apply, val_main_v42_apply]
  have e : idx_main_v42 (idx_main_v43 (ix3 n s i)) = ix2 n s := funext fun a => match a with
    | ⟨0, _⟩ => rfl
    | ⟨1, _⟩ => rfl
  rw [e, val_main_v32_apply, v31_at, v25_at]
  exact lowest_max _

theorem v45_at : val_main_v45 (F := Ideal) x0 x2 x3 x4 (ix3 n s i) = ex (sR x0 x2 x3 x4 s n) i := by
  rw [val_main_v45_apply, val_main_v44_apply, v43_at, v24_at]
  rfl

theorem v47_at : val_main_v47 (F := Ideal) x0 x2 x3 x4 (ix3 n s 0) = ∑ i, ex (sR x0 x2 x3 x4 s n) i := by
  pointwise [val_main_v47, val_main_v46, val_main_cst_12]
  simp only [v45_at]
theorem v49_at : val_main_v49 (F := Ideal) x0 x2 x3 x4 (ix3 n s i) = wt (kR x4) (qR x0 x2 x3 s) n i := by
  pointwise [val_main_v49, val_main_v48, wt, prob]
  rw [v45_at, v47_at]
theorem v58_at : val_main_v58 (F := Ideal) x1 x6 (ix3 s n j) = oR x1 x6 s (hc n j) := by
  pointwise [val_main_v58, val_main_v57, dout]
theorem v60_at : val_main_v60 (F := Ideal) x1 x5 x6 (ix3 n s i) = dwt (kR x5) (oR x1 x6 s) n i := by
  pointwise [val_main_v60, val_main_v59, dwt]
  simp only [v58_at, v21_at]
theorem v52_at : val_main_v52 (F := Ideal) x0 x2 x3 x4 (ix3 n s 0)
    = Ideal.div one ((∑ i, ex (sR x0 x2 x3 x4 s n) i) * ∑ i, ex (sR x0 x2 x3 x4 s n) i) := by
  pointwise [val_main_v52, val_main_v51, val_main_v50, val_main_cst_13]
  rw [v47_at]
theorem v68_at : val_main_v68 (F := Ideal) x0 x1 x2 x3 x4 x5 x6 (ix3 n s 0)
    = -(∑ j, dwt (kR x5) (oR x1 x6 s) n j * Ideal.div one ((∑ i, ex (sR x0 x2 x3 x4 s n) i) * ∑ i, ex (sR x0 x2 x3 x4 s n) i)
        * ex (sR x0 x2 x3 x4 s n) j) := by
  pointwise [val_main_v68, val_main_v67, val_main_v66, val_main_v65, val_main_v64, val_main_v63, val_main_cst_14]
  simp only [v60_at, v52_at, v45_at, one, lit_one, EReal.coe_one]

/-- All the arguments are real. -/
structure Reals : Prop where
  h0 : ∀ i, IsR (x0 i)
  h1 : ∀ i, IsR (x1 i)
  h2 : ∀ i, IsR (x2 i)
  h3 : ∀ i, IsR (x3 i)
  h4 : ∀ i, IsR (x4 i)
  h5 : ∀ i, IsR (x5 i)
  h6 : ∀ i, IsR (x6 i)

variable {x0 x1 x2 x3 x4 x5 x6} (H : Reals x0 x1 x2 x3 x4 x5 x6)
include H

theorem Reals.q : IsR (qR x0 x2 x3 s k) := query_isR (fun _ => H.h0 _) (fun _ => H.h2 _) (fun _ _ => H.h3 _) k
theorem Reals.o : IsR (oR x1 x6 s k) := dout_isR (fun _ => H.h1 _) (fun _ _ => H.h6 _) k

theorem v76_at : val_main_v76 (F := Ideal) x0 x1 x2 x3 x4 x5 x6 (ix3 n s i) = dsc (kR x4) (kR x5) (qR x0 x2 x3 s) (oR x1 x6 s) n i := by
  refine Eq.trans ?_ (dscore_eq (sR x0 x2 x3 x4 s n) (dwt (kR x5) (oR x1 x6 s) n) (score_isR (fun k => H.q s k) (fun _ _ => H.h4 _) n)
    (dwt_isR (fun k => H.o s k) (fun _ _ => H.h5 _) n) i)
  pointwise [val_main_v76, val_main_v75, val_main_v74, val_main_v73, val_main_v72, val_main_v71, val_main_v70, val_main_v69, val_main_cst_15,
    val_main_cst_16]
  rw [Fin.sum_univ_one, v68_at, v60_at, v47_at, v45_at]
  simp only [one, sixteenth, lit_one, EReal.coe_one]

theorem v83_at : val_main_v83 (F := Ideal) x0 x1 x2 x3 x4 x5 x6 (ix2 s k) = dquery (kR x4) (kR x5) (qR x0 x2 x3 s) (oR x1 x6 s) k := by
  obtain ⟨n, j, rfl⟩ := hc_eta k
  rw [dquery_hc]
  pointwise [val_main_v83, val_main_v80, val_main_v79]
  have h0 : (⟨(n.val * 256 + j.val) / 256, by omega⟩ : Fin 4) = n := Fin.ext (by show (n.val * 256 + j.val) / 256 = n.val; omega)
  have h1 : (⟨(n.val * 256 + j.val) % 256, by omega⟩ : Fin 256) = j := Fin.ext (by show (n.val * 256 + j.val) % 256 = j.val; omega)
  simp only [v76_at _ _ _ H, v20_at, h0, h1]

theorem v84_at : val_main_v84 (F := Ideal) x0 x1 x2 x3 x4 x5 x6 (ix2 s d)
    = dnrow (wR x3) (dquery (kR x4) (kR x5) (qR x0 x2 x3 s) (oR x1 x6 s)) d := by
  pointwise [val_main_v84, dnrow]
  simp only [v83_at _ _ H]

theorem v105_at : val_main_v105 (F := Ideal) x0 x1 x2 x3 x4 x5 x6 (ix2 s d)
    = rowGrad (rowR x0 s) (rowR x1 s) (gR x2) (dnrow (wR x3) (dquery (kR x4) (kR x5) (qR x0 x2 x3 s) (oR x1 x6 s))) d := by
  refine Eq.trans ?_ (dx_eq (rowR x0 s) (rowR x1 s) (gR x2) (fun _ => H.h0 _) (fun _ => H.h1 _) (fun _ => H.h2 _) _
    (dnrow_isR (dquery_isR (fun k => H.q s k) (fun k => H.o s k) (fun _ _ => H.h4 _) fun _ _ => H.h5 _) fun _ _ => H.h3 _) d)
  pointwise [val_main_v105, val_main_v104, val_main_v103, val_main_v102, val_main_v101, val_main_v100, val_main_v99, val_main_v98,
    val_main_v97, val_main_v96, val_main_v95, val_main_v94, val_main_v93, val_main_v92, val_main_v91, val_main_v89, val_main_v88,
    val_main_v10, val_main_v9, val_main_v8, val_main_v13, val_main_cst_2, val_main_cst_19, val_main_cst_20, val_main_cst_21]
  rw [Fin.sum_univ_one, v7_at, v6_at]
  simp only [v84_at _ _ H]

theorem v110_at (o : Fin 1) : val_main_v110 (F := Ideal) x0 x1 x2 x3 x4 x5 x6 (ix2 o d)
    = ∑ s, dnrow (wR x3) (dquery (kR x4) (kR x5) (qR x0 x2 x3 s) (oR x1 x6 s)) d * (rowR x0 s d * rinv (rowR x0 s)) := by
  pointwise [val_main_v110, val_main_v90, val_main_v87, val_main_v86, val_main_v85, val_main_v12, val_main_v11, val_main_cst_17, val_main_cst_18]
  rw [Fin.sum_univ_one]
  refine Finset.sum_congr rfl fun s _ => ?_
  rw [v7_at, v84_at _ _ H]
  exact mul_comm _ _

theorem v82_at : val_main_v82 (F := Ideal) x0 x1 x2 x3 x4 x5 x6 (ix2 i k)
    = ∑ s, dsc (kR x4) (kR x5) (qR x0 x2 x3 s) (oR x1 x6 s) (hd k) i * qR x0 x2 x3 s k := by
  obtain ⟨n, j, rfl⟩ := hc_eta k
  rw [hd_hc]
  pointwise [val_main_v82, val_main_v78, val_main_v77]
  have h0 : (⟨(n.val * 256 + j.val) / 256, by omega⟩ : Fin 4) = n := Fin.ext (by show (n.val * 256 + j.val) / 256 = n.val; omega)
  have h1 : (⟨(n.val * 256 + j.val) % 256, by omega⟩ : Fin 256) = j := Fin.ext (by show (n.val * 256 + j.val) % 256 = j.val; omega)
  simp only [v76_at _ _ _ H, v19_at, h0, h1]

omit H

variable (x0 x1 x2 x3 x4 x5 x6)

theorem v81_at : val_main_v81 (F := Ideal) x0 x1 x2 x3 x4 x6 (ix2 i k)
    = ∑ s, wt (kR x4) (qR x0 x2 x3 s) (hd k) i * oR x1 x6 s k := by
  obtain ⟨n, j, rfl⟩ := hc_eta k
  rw [hd_hc]
  pointwise [val_main_v81, val_main_v62, val_main_v61]
  have h0 : (⟨(n.val * 256 + j.val) / 256, by omega⟩ : Fin 4) = n := Fin.ext (by show (n.val * 256 + j.val) / 256 = n.val; omega)
  have h1 : (⟨(n.val * 256 + j.val) % 256, by omega⟩ : Fin 256) = j := Fin.ext (by show (n.val * 256 + j.val) % 256 = j.val; omega)
  have h2 : ∀ s, val_main_v59 (F := Ideal) x1 x6 (ix3 n j s) = oR x1 x6 s (hc n j) := fun s => by
    refine Eq.trans ?_ (v58_at x1 x6 s n j)
    pointwise [val_main_v59]
  simp only [v49_at, h0, h1, h2]
  exact Finset.sum_congr rfl fun _ _ => mul_comm _ _

theorem v108_at : val_main_v108 (F := Ideal) x0 x2 x3 x4 x5 (ix2 s k) = att (kR x4) (kR x5) (qR x0 x2 x3 s) k := by
  obtain ⟨n, j, rfl⟩ := hc_eta k
  rw [att_hc]
  pointwise [val_main_v108, val_main_v55, val_main_v54, val_main_v53]
  have h0 : (⟨(n.val * 256 + j.val) / 256, by omega⟩ : Fin 4) = n := Fin.ext (by show (n.val * 256 + j.val) / 256 = n.val; omega)
  have h1 : (⟨(n.val * 256 + j.val) % 256, by omega⟩ : Fin 256) = j := Fin.ext (by show (n.val * 256 + j.val) % 256 = j.val; omega)
  simp only [v49_at, v21_at, h0, h1]
  exact Finset.sum_congr rfl fun _ _ => mul_comm _ _

theorem ref106 : val_main_v106 (F := Ideal) x0 x2 = fun y => FfnSpec.norm (rowR x0 (y 0)) (gR x2) (y 1) :=
  ext2 fun s d => by
    unfold val_main_v106
    exact v15_at x0 x2 s d
theorem ref109 : val_main_v109 (F := Ideal) x1 = fun y => rowR x1 (y 0) (y 1) := ext2 fun _ _ => rfl
theorem ref108 : val_main_v108 (F := Ideal) x0 x2 x3 x4 x5 = fun y => att (kR x4) (kR x5) (qR x0 x2 x3 (y 0)) (y 1) :=
  ext2 fun s d => v108_at x0 x2 x3 x4 x5 s d
theorem ref81 : val_main_v81 (F := Ideal) x0 x1 x2 x3 x4 x6
    = fun y => ∑ s, wt (kR x4) (qR x0 x2 x3 s) (hd (y 1)) (y 0) * oR x1 x6 s (y 1) :=
  ext2 fun s d => v81_at x0 x1 x2 x3 x4 x6 s d

variable {x0 x1 x2 x3 x4 x5 x6} (H : Reals x0 x1 x2 x3 x4 x5 x6)
include H

theorem ref105 : val_main_v105 (F := Ideal) x0 x1 x2 x3 x4 x5 x6
    = fun y => rowGrad (rowR x0 (y 0)) (rowR x1 (y 0)) (gR x2)
        (dnrow (wR x3) (dquery (kR x4) (kR x5) (qR x0 x2 x3 (y 0)) (oR x1 x6 (y 0)))) (y 1) :=
  ext2 fun s d => v105_at s d H
theorem ref107 : val_main_v107 (F := Ideal) x0 x1 x2 x3 x4 x5 x6
    = fun y => dquery (kR x4) (kR x5) (qR x0 x2 x3 (y 0)) (oR x1 x6 (y 0)) (y 1) :=
  ext2 fun s d => by
    unfold val_main_v107
    exact v83_at s d H
theorem ref82 : val_main_v82 (F := Ideal) x0 x1 x2 x3 x4 x5 x6
    = fun y => ∑ s, dsc (kR x4) (kR x5) (qR x0 x2 x3 s) (oR x1 x6 s) (hd (y 1)) (y 0) * qR x0 x2 x3 s (y 1) :=
  ext2 fun i k => v82_at i k H
theorem ref110 : val_main_v110 (F := Ideal) x0 x1 x2 x3 x4 x5 x6
    = fun y => ∑ s, dnrow (wR x3) (dquery (kR x4) (kR x5) (qR x0 x2 x3 s) (oR x1 x6 s)) (y 1) * (rowR x0 s (y 1) * rinv (rowR x0 s)) :=
  ext2 fun o d => v110_at d H o

end Ref

end Cert.Proof.Att13

end
-- ==== Proof.Att13Claim.lean ====
/-
  The claims about the backward pass of the attention to the memory: the frames, and the equality of its eight results with the
  reference's.
-/
module

public import proofs.«01_k».proof.Proof.Att13
public import proofs.«01_k».proof.Proof.Att13Ref
public import proofs.«01_k».proof.Proof.Gen.Kernel13.Frame

@[expose] public section

set_option maxRecDepth 16384

noncomputable section

namespace Cert.Proof.Att13

open Idealize.ShloMosaic Idealize.ShloMosaic.TcCoe Idealize.SL.Sem RealVal FfnSpec AttSpec
open Cert.Reference13Ideal Cert.Reference13Ideal.Read Cert.Kernel13Ideal.Att

/-- The precondition says that all the arguments are real. -/
theorem reals_of_pre (m : (ℓ : Loc Cert.Kernel13Ideal.nD Cert.Kernel13Ideal.τ Cert.Kernel13Ideal.sig) → Buf (Elt Ideal) ℓ)
    (h : Cert.Pre_Kernel13Ideal_finite13 (hPre_finite13 := Cert.Pre_finite13.Gen.facts) m) (c : Dev Cert.Kernel13Ideal.nD) :
    Reals (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg2))
      (m ((c.tc : Thread Cert.Kernel13Ideal.nD Cert.Kernel13Ideal.τ).loc Cert.Kernel13Ideal.main_arg3))
      (m ((c.tc : Thread Cert.Kernel13Ideal.nD Cert.Kernel13Ideal.τ).loc Cert.Kernel13Ideal.main_arg4))
      (m ((c.tc : Thread Cert.Kernel13Ideal.nD Cert.Kernel13Ideal.τ).loc Cert.Kernel13Ideal.main_arg5))
      (m ((c.tc : Thread Cert.Kernel13Ideal.nD Cert.Kernel13Ideal.τ).loc Cert.Kernel13Ideal.main_arg6)) :=
  ⟨real_of_cmp _ _ (h c).1, real_of_cmp _ _ (h c).2.1, real_of_cmp _ _ (h c).2.2.1,
    real_of_cmp _ _ (h c).2.2.2.1, real_of_cmp _ _ (h c).2.2.2.2.1, real_of_cmp _ _ (h c).2.2.2.2.2.1,
    real_of_cmp _ _ (h c).2.2.2.2.2.2⟩

theorem frame_r : Cert.quiescent_Reference13Ideal (hReference13Ideal := Cert.Reference13Ideal.Gen.facts) := fun m ρ _ =>
  (θ_run Cert.Reference13Ideal.defs _ _).mono (fun r h => ⟨fun c => (h c).2.2.2.2.2.2.2.2, sem_eq_zero_of_no_sems (by decide) r.2⟩)
    (Cert.Reference13Ideal.Value.run m ρ)

theorem value : Cert.algebraic_Kernel13Ideal_Reference13Ideal_pre_finite13 (hKernel13Ideal := Cert.Kernel13Ideal.Gen.facts)
    (hReference13Ideal := Cert.Reference13Ideal.Gen.facts) (hPre_finite13 := Cert.Pre_finite13.Gen.facts) := by
  pair_intro
  run_from Cert.Kernel13Ideal.Value.run_blocks m g
  refine (θ_run Cert.Reference13Ideal.defs _ _).mono (fun r h c => ?_) (Cert.Reference13Ideal.Value.run m' g')
  obtain ⟨r0, r1, r2, r3, r4, r5, r6, r7, k⟩ := h c
  obtain ⟨e0, e1, e2, e3, e4, e5, e6⟩ := hagree c
  have H := reals_of_pre m hpre c
  rw [val_main_v105_eq m' c, e0, e1, e2, e3, e4, e5, e6] at r0
  rw [e0, e2] at r1
  rw [val_main_v107_eq m' c, e0, e1, e2, e3, e4, e5, e6] at r2
  rw [val_main_v108_eq m' c, e0, e2, e3, e4, e5] at r3
  rw [e1] at r4
  rw [val_main_v82_eq m' c, e0, e1, e2, e3, e4, e5, e6] at r5
  rw [val_main_v81_eq m' c, e0, e1, e2, e3, e4, e6] at r6
  rw [val_main_v110_eq m' c, e0, e1, e2, e3, e4, e5, e6] at r7
  refine ⟨?_, ?_, ?_, ?_, ?_, ?_, ?_, ?_, k⟩
  · exact (r0.trans (ref105 H)).trans (arr7 m c).symm
  · exact ((r1.trans (val_main_v106_eq _ _)).trans (ref106 _ _)).trans (arr8 m c).symm
  · exact (r2.trans (ref107 H)).trans (arr9 m c).symm
  · exact (r3.trans (ref108 _ _ _ _ _)).trans (arr10 m c).symm
  · exact ((r4.trans (val_main_v109_eq _)).trans (ref109 _)).trans (arr11 m c).symm
  · exact (r5.trans (ref82 H)).trans (arr12 m c).symm
  · exact (r6.trans (ref81 _ _ _ _ _ _)).trans (arr13 m c).symm
  · exact (r7.trans (ref110 H)).trans (arr14 m c).symm

end Cert.Proof.Att13

end
-- ==== Proof.AdamClaim.lean ====
/-
  The claims about the optimiser's step, one for each shape of array that it is called on. Both sides
  are the same scalar function of the four arrays, read at each index.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run

@[expose] public section

set_option maxRecDepth 16384

noncomputable section

namespace Cert.Proof

open Idealize.ShloMosaic Idealize.ShloMosaic.TcCoe Idealize.SL.Sem

/-! `ffn1_w_gu` and `ffn2_w_gu` -/

theorem Adam14.frame_r : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩)
    (Cert.Reference14Ideal.Value.run m ρ)

theorem Adam14.value : Cert.algebraic_Kernel14Ideal_Reference14Ideal (hKernel14Ideal := Cert.Kernel14Ideal.Gen.facts)
    (hReference14Ideal := Cert.Reference14Ideal.Gen.facts) := by
  pair_intro
  run_from Cert.Kernel14Ideal.Value.run m g
  refine (θ_run Cert.Reference14Ideal.defs _ _).mono (fun r h c => ?_) (Cert.Reference14Ideal.Value.run m' g')
  obtain ⟨d, a, b, k⟩ := h c
  obtain ⟨e0, e1, e2, e3⟩ := hagree c
  rw [e0, e1, e2, e3] at d
  rw [e1, e2] at a
  rw [e1, e3] at b
  exact ⟨d, a, b, k⟩

/-! `ffn1_w_down` and `ffn2_w_down` -/

theorem Adam15.frame_r : Cert.quiescent_Reference15Ideal (hReference15Ideal := Cert.Reference15Ideal.Gen.facts) := fun m ρ _ =>
  (θ_run Cert.Reference15Ideal.defs _ _).mono (fun r h => ⟨fun c => (h c).2.2.2, sem_eq_zero_of_no_sems (by decide) r.2⟩)
    (Cert.Reference15Ideal.Value.run m ρ)

theorem Adam15.value : Cert.algebraic_Kernel15Ideal_Reference15Ideal (hKernel15Ideal := Cert.Kernel15Ideal.Gen.facts)
    (hReference15Ideal := Cert.Reference15Ideal.Gen.facts) := by
  pair_intro
  run_from Cert.Kernel15Ideal.Value.run m g
  refine (θ_run Cert.Reference15Ideal.defs _ _).mono (fun r h c => ?_) (Cert.Reference15Ideal.Value.run m' g')
  obtain ⟨d, a, b, k⟩ := h c
  obtain ⟨e0, e1, e2, e3⟩ := hagree c
  rw [e0, e1, e2, e3] at d
  rw [e1, e2] at a
  rw [e1, e3] at b
  exact ⟨d, a, b, k⟩

/-! `w_in` -/

theorem Adam16.frame_r : Cert.quiescent_Reference16Ideal (hReference16Ideal := Cert.Reference16Ideal.Gen.facts) := fun m ρ _ =>
  (θ_run Cert.Reference16Ideal.defs _ _).mono (fun r h => ⟨fun c => (h c).2.2.2, sem_eq_zero_of_no_sems (by decide) r.2⟩)
    (Cert.Reference16Ideal.Value.run m ρ)

theorem Adam16.value : Cert.algebraic_Kernel16Ideal_Reference16Ideal (hKernel16Ideal := Cert.Kernel16Ideal.Gen.facts)
    (hReference16Ideal := Cert.Reference16Ideal.Gen.facts) := by
  pair_intro
  run_from Cert.Kernel16Ideal.Value.run m g
  refine (θ_run Cert.Reference16Ideal.defs _ _).mono (fun r h c => ?_) (Cert.Reference16Ideal.Value.run m' g')
  obtain ⟨d, a, b, k⟩ := h c
  obtain ⟨e0, e1, e2, e3⟩ := hagree c
  rw [e0, e1, e2, e3] at d
  rw [e1, e2] at a
  rw [e1, e3] at b
  exact ⟨d, a, b, k⟩

/-! `w_kv` -/

theorem Adam17.frame_r : Cert.quiescent_Reference17Ideal (hReference17Ideal := Cert.Reference17Ideal.Gen.facts) := fun m ρ _ =>
  (θ_run Cert.Reference17Ideal.defs _ _).mono (fun r h => ⟨fun c => (h c).2.2.2, sem_eq_zero_of_no_sems (by decide) r.2⟩)
    (Cert.Reference17Ideal.Value.run m ρ)

theorem Adam17.value : Cert.algebraic_Kernel17Ideal_Reference17Ideal (hKernel17Ideal := Cert.Kernel17Ideal.Gen.facts)
    (hReference17Ideal := Cert.Reference17Ideal.Gen.facts) := by
  pair_intro
  run_from Cert.Kernel17Ideal.Value.run m g
  refine (θ_run Cert.Reference17Ideal.defs _ _).mono (fun r h c => ?_) (Cert.Reference17Ideal.Value.run m' g')
  obtain ⟨d, a, b, k⟩ := h c
  obtain ⟨e0, e1, e2, e3⟩ := hagree c
  rw [e0, e1, e2, e3] at d
  rw [e1, e2] at a
  rw [e1, e3] at b
  exact ⟨d, a, b, k⟩

/-! `w_a_out`, `w_b_out`, `w_out`, `w_q` and `w_o` -/

theorem Adam18.frame_r : Cert.quiescent_Reference18Ideal (hReference18Ideal := Cert.Reference18Ideal.Gen.facts) := fun m ρ _ =>
  (θ_run Cert.Reference18Ideal.defs _ _).mono (fun r h => ⟨fun c => (h c).2.2.2, sem_eq_zero_of_no_sems (by decide) r.2⟩)
    (Cert.Reference18Ideal.Value.run m ρ)

theorem Adam18.value : Cert.algebraic_Kernel18Ideal_Reference18Ideal (hKernel18Ideal := Cert.Kernel18Ideal.Gen.facts)
    (hReference18Ideal := Cert.Reference18Ideal.Gen.facts) := by
  pair_intro
  run_from Cert.Kernel18Ideal.Value.run m g
  refine (θ_run Cert.Reference18Ideal.defs _ _).mono (fun r h c => ?_) (Cert.Reference18Ideal.Value.run m' g')
  obtain ⟨d, a, b, k⟩ := h c
  obtain ⟨e0, e1, e2, e3⟩ := hagree c
  rw [e0, e1, e2, e3] at d
  rw [e1, e2] at a
  rw [e1, e3] at b
  exact ⟨d, a, b, k⟩

/-! the packed array of the small weights -/

theorem Adam19.frame_r : Cert.quiescent_Reference19Ideal (hReference19Ideal := Cert.Reference19Ideal.Gen.facts) := fun m ρ _ =>
  (θ_run Cert.Reference19Ideal.defs _ _).mono (fun r h => ⟨fun c => (h c).2.2.2, sem_eq_zero_of_no_sems (by decide) r.2⟩)
    (Cert.Reference19Ideal.Value.run m ρ)

theorem Adam19.value : Cert.algebraic_Kernel19Ideal_Reference19Ideal (hKernel19Ideal := Cert.Kernel19Ideal.Gen.facts)
    (hReference19Ideal := Cert.Reference19Ideal.Gen.facts) := by
  pair_intro
  run_from Cert.Kernel19Ideal.Value.run m g
  refine (θ_run Cert.Reference19Ideal.defs _ _).mono (fun r h c => ?_) (Cert.Reference19Ideal.Value.run m' g')
  obtain ⟨d, a, b, k⟩ := h c
  obtain ⟨e0, e1, e2, e3⟩ := hagree c
  rw [e0, e1, e2, e3] at d
  rw [e1, e2] at a
  rw [e1, e3] at b
  exact ⟨d, a, b, k⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Pre_finite
public import proofs.«01_k».proof.Proof.Gen.Pre_finite6
public import proofs.«01_k».proof.Proof.Gen.Pre_finite7
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.FfnClaim
public import proofs.«01_k».proof.Proof.Dw2Claim
public import proofs.«01_k».proof.Proof.Dw3Claim
public import proofs.«01_k».proof.Proof.Dw4Claim
public import proofs.«01_k».proof.Proof.Dw5Claim
public import proofs.«01_k».proof.Proof.MixIn6Claim
public import proofs.«01_k».proof.Proof.Loss7Claim
public import proofs.«01_k».proof.Proof.Hidden8Claim
public import proofs.«01_k».proof.Proof.Down9Claim
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Kv10Claim
public import proofs.«01_k».proof.Proof.Kv11Claim
public import proofs.«01_k».proof.Proof.Fwd12Claim
public import proofs.«01_k».proof.Proof.Att13Claim
public import proofs.«01_k».proof.Proof.AdamClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts,
  Cert.Reference13Ideal.Gen.facts, Cert.Kernel14.Gen.facts, Cert.Kernel14Ideal.Gen.facts, Cert.Reference14Ideal.Gen.facts,
  Cert.Kernel15.Gen.facts, Cert.Kernel15Ideal.Gen.facts, Cert.Reference15Ideal.Gen.facts, Cert.Kernel16.Gen.facts,
  Cert.Kernel16Ideal.Gen.facts, Cert.Reference16Ideal.Gen.facts, Cert.Kernel17.Gen.facts, Cert.Kernel17Ideal.Gen.facts,
  Cert.Reference17Ideal.Gen.facts, Cert.Kernel18.Gen.facts, Cert.Kernel18Ideal.Gen.facts, Cert.Reference18Ideal.Gen.facts,
  Cert.Kernel19.Gen.facts, Cert.Kernel19Ideal.Gen.facts, Cert.Reference19Ideal.Gen.facts, Cert.Pre_finite.Gen.facts,
  Cert.Pre_finite6.Gen.facts, Cert.Pre_finite7.Gen.facts, Cert.Pre_finite13.Gen.facts,
  fun m ρ _ => Cert.Kernel.Gen.frame m ρ,
  fun m ρ _ => Cert.KernelIdeal.Gen.frame m ρ,
  fun m ρ _ => Cert.KernelIdeal.Gen.frame m ρ,
  Ffn.frame_r,
  fun m ρ _ => Ffn.frame_r m ρ trivial,
  fun m ρ _ => Cert.Kernel2.Gen.frame m ρ,
  fun m ρ _ => Cert.Kernel2Ideal.Gen.frame m ρ,
  Dw2.frame_r,
  fun m ρ _ => Cert.Kernel3.Gen.frame m ρ,
  fun m ρ _ => Cert.Kernel3Ideal.Gen.frame m ρ,
  Dw3.frame_r,
  fun m ρ _ => Cert.Kernel4.Gen.frame m ρ,
  fun m ρ _ => Cert.Kernel4Ideal.Gen.frame m ρ,
  Dw4.frame_r,
  fun m ρ _ => Cert.Kernel5.Gen.frame m ρ,
  fun m ρ _ => Cert.Kernel5Ideal.Gen.frame m ρ,
  Dw5.frame_r,
  fun m ρ _ => Cert.Kernel6.Gen.frame m ρ,
  fun m ρ _ => Cert.Kernel6Ideal.Gen.frame m ρ,
  fun m ρ _ => Cert.Kernel6Ideal.Gen.frame m ρ,
  MixIn6.frame_r,
  fun m ρ _ => MixIn6.frame_r m ρ trivial,
  fun m ρ _ => Cert.Kernel7.Gen.frame m ρ,
  fun m ρ _ => Cert.Kernel7Ideal.Gen.frame m ρ,
  fun m ρ _ => Cert.Kernel7Ideal.Gen.frame m ρ,
  Loss7.frame_r,
  fun m ρ _ => Loss7.frame_r m ρ trivial,
  fun m ρ _ => Cert.Kernel8.Gen.frame m ρ,
  fun m ρ _ => Cert.Kernel8Ideal.Gen.frame m ρ,
  Hidden8.frame_r,
  fun m ρ _ => Cert.Kernel9.Gen.frame m ρ,
  fun m ρ _ => Cert.Kernel9Ideal.Gen.frame m ρ,
  Down9.frame_r,
  fun m ρ _ => Cert.Kernel10.Gen.frame m ρ,
  fun m ρ _ => Cert.Kernel10Ideal.Gen.frame m ρ,
  Kv10.frame_r,
  fun m ρ _ => Cert.Kernel11.Gen.frame m ρ,
  fun m ρ _ => Cert.Kernel11Ideal.Gen.frame m ρ,
  Kv11.frame_r,
  fun m ρ _ => Cert.Kernel12.Gen.frame m ρ,
  fun m ρ _ => Cert.Kernel12Ideal.Gen.frame m ρ,
  Fwd12.frame_r,
  fun m ρ _ => Cert.Kernel13.Gen.frame m ρ,
  fun m ρ _ => Cert.Kernel13Ideal.Gen.frame m ρ,
  fun m ρ _ => Cert.Kernel13Ideal.Gen.frame m ρ,
  Att13.frame_r,
  fun m ρ _ => Att13.frame_r m ρ trivial,
  fun m ρ _ => Cert.Kernel14.Gen.frame m ρ,
  fun m ρ _ => Cert.Kernel14Ideal.Gen.frame m ρ,
  Adam14.frame_r,
  fun m ρ _ => Cert.Kernel15.Gen.frame m ρ,
  fun m ρ _ => Cert.Kernel15Ideal.Gen.frame m ρ,
  Adam15.frame_r,
  fun m ρ _ => Cert.Kernel16.Gen.frame m ρ,
  fun m ρ _ => Cert.Kernel16Ideal.Gen.frame m ρ,
  Adam16.frame_r,
  fun m ρ _ => Cert.Kernel17.Gen.frame m ρ,
  fun m ρ _ => Cert.Kernel17Ideal.Gen.frame m ρ,
  Adam17.frame_r,
  fun m ρ _ => Cert.Kernel18.Gen.frame m ρ,
  fun m ρ _ => Cert.Kernel18Ideal.Gen.frame m ρ,
  Adam18.frame_r,
  fun m ρ _ => Cert.Kernel19.Gen.frame m ρ,
  fun m ρ _ => Cert.Kernel19Ideal.Gen.frame m ρ,
  Adam19.frame_r,
  trivial,
  Ffn.value,
  trivial,
  Dw2.value,
  trivial,
  Dw3.value,
  trivial,
  Dw4.value,
  trivial,
  Dw5.value,
  trivial,
  MixIn6.value,
  trivial,
  Loss7.value,
  trivial,
  Hidden8.value,
  trivial,
  Down9.value,
  trivial,
  Kv10.value,
  trivial,
  Kv11.value,
  trivial,
  Fwd12.value,
  trivial,
  Att13.value,
  trivial,
  Adam14.value,
  trivial,
  Adam15.value,
  trivial,
  Adam16.value,
  trivial,
  Adam17.value,
  trivial,
  Adam18.value,
  trivial,
  Adam19.value⟩

end Cert.Proof

end
